-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 [hPre_tables : Cert.Pre_tables.Facts] (m : (ℓ : Loc Cert.Kernel2.nD Cert.Kernel2.τ Cert.Kernel2.sig) → Buf (Elt Bits) ℓ) : Prop :=
  ∀ c : Dev Cert.Kernel2.nD,
    (Cert.Pre_tables.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3))) = (fun _ => 1#1)

def Pre_Kernel2Ideal [hPre_tables : Cert.Pre_tables.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tables [hPre_tables : Cert.Pre_tables.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tables.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 [hPre_tables3 : Cert.Pre_tables3.Facts] (m : (ℓ : Loc Cert.Kernel3.nD Cert.Kernel3.τ Cert.Kernel3.sig) → Buf (Elt Bits) ℓ) : Prop :=
  ∀ c : Dev Cert.Kernel3.nD,
    (Cert.Pre_tables3.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4))) = (fun _ => 1#1)

def Pre_Kernel3Ideal [hPre_tables3 : Cert.Pre_tables3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_tables3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_tables3 [hPre_tables3 : Cert.Pre_tables3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_tables3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_tables : Cert.Pre_tables.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] [hPre_tables : Cert.Pre_tables.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_tables [hReference2Ideal : Cert.Reference2Ideal.Facts] [hPre_tables : Cert.Pre_tables.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tables m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] [hPre_tables3 : Cert.Pre_tables3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] [hPre_tables3 : Cert.Pre_tables3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_tables3 [hReference3Ideal : Cert.Reference3Ideal.Facts] [hPre_tables3 : Cert.Pre_tables3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_tables3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def preserves_Kernel_KernelIdeal : Prop :=
  IdealRules.named_const.Statement Cert.KernelIdeal.κ "neg_big" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] [hPre_tables : Cert.Pre_tables.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v97) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] [hPre_tables3 : Cert.Pre_tables3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v64) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v10)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v10) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v10) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v20) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v17) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_tables : Cert.Pre_tables.Facts) (hPre_tables3 : Cert.Pre_tables3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_tables := hPre_tables)
    ∧ quiescent_Kernel2Ideal (hKernel2Ideal := hKernel2Ideal) (hPre_tables := hPre_tables)
    ∧ quiescent_Reference2Ideal (hReference2Ideal := hReference2Ideal)
    ∧ quiescent_Reference2Ideal_pre_tables (hReference2Ideal := hReference2Ideal) (hPre_tables := hPre_tables)
    ∧ quiescent_Kernel3 (hKernel3 := hKernel3) (hPre_tables3 := hPre_tables3)
    ∧ quiescent_Kernel3Ideal (hKernel3Ideal := hKernel3Ideal) (hPre_tables3 := hPre_tables3)
    ∧ quiescent_Reference3Ideal (hReference3Ideal := hReference3Ideal)
    ∧ quiescent_Reference3Ideal_pre_tables3 (hReference3Ideal := hReference3Ideal) (hPre_tables3 := hPre_tables3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_tables := hPre_tables)
    ∧ preserves_Kernel3_Kernel3Ideal
    ∧ algebraic_Kernel3Ideal_Reference3Ideal (hKernel3Ideal := hKernel3Ideal) (hReference3Ideal := hReference3Ideal) (hPre_tables3 := hPre_tables3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S4x4096x8x192 : Shape := ⟨4, ![4, 4096, 8, 192]⟩
abbrev S4x256x8x192 : Shape := ⟨4, ![4, 256, 8, 192]⟩
abbrev S4x256x8x128 : Shape := ⟨4, ![4, 256, 8, 128]⟩
abbrev S4x4096x8x128 : Shape := ⟨4, ![4, 4096, 8, 128]⟩
abbrev S_ : Shape := ⟨0, ![]⟩

class Facts : Prop where
  bcast_S_S4x4096x8x192 : S_.BroadcastsInDim S4x4096x8x192 (![] : Fin 0 → Fin S4x4096x8x192.rank)
  reducesTo_S4x4096x8x192_S_d0_1_2_3 : S4x4096x8x192.ReducesTo [0, 1, 2, 3] S_
  h_S_ : 0 < S_.numel
  bcast_S_S4x256x8x192 : S_.BroadcastsInDim S4x256x8x192 (![] : Fin 0 → Fin S4x256x8x192.rank)
  reducesTo_S4x256x8x192_S_d0_1_2_3 : S4x256x8x192.ReducesTo [0, 1, 2, 3] S_

variable [Facts]

def fn {F : FTy → Type} [FloatOps F] (main_arg0 : FVec F S4x4096x8x192 .f32) (main_arg1 : FVec F S4x256x8x192 .f32) (main_arg2 : FVec F S4x4096x8x192 .f32) (main_arg3 : FVec F S4x256x8x128 .f32) (main_arg4 : FVec F S4x4096x8x128 .f32) : IVec S_ 1 :=
  let main_v0 : FVec F S4x4096x8x192 .f32 := Host.absf main_arg0
  let main_cst : FVec F S_ .f32 := constant S_ .f32 0x7F800000#32
  let main_v1 : FVec F S4x4096x8x192 .f32 := broadcastInDim S4x4096x8x192 ![] bcast_S_S4x4096x8x192 main_cst
  let main_v2 : IVec S4x4096x8x192 1 := cmpf .olt main_v0 main_v1
  let main_c : IVec S_ 1 := constantI S_ 1 1#1
  let main_v3 : IVec S_ 1 := (fun x v => Host.reduce IntOp.andi x v reducesTo_S4x4096x8x192_S_d0_1_2_3 h_S_) main_v2 main_c
  let main_v4 : FVec F S4x256x8x192 .f32 := Host.absf main_arg1
  let main_cst_0 : FVec F S_ .f32 := constant S_ .f32 0x7F800000#32
  let main_v5 : FVec F S4x256x8x192 .f32 := broadcastInDim S4x256x8x192 ![] bcast_S_S4x256x8x192 main_cst_0
  let main_v6 : IVec S4x256x8x192 1 := cmpf .olt main_v4 main_v5
  let main_c_1 : IVec S_ 1 := constantI S_ 1 1#1
  let main_v7 : IVec S_ 1 := (fun x v => Host.reduce IntOp.andi x v reducesTo_S4x256x8x192_S_d0_1_2_3 h_S_) main_v6 main_c_1
  let main_v8 : IVec S_ 1 := andi main_v3 main_v7
  let main_v9 : FVec F S4x4096x8x192 .f32 := Host.absf main_arg2
  let main_cst_2 : FVec F S_ .f32 := constant S_ .f32 0x7F800000#32
  let main_v10 : FVec F S4x4096x8x192 .f32 := broadcastInDim S4x4096x8x192 ![] bcast_S_S4x4096x8x192 main_cst_2
  let main_v11 : IVec S4x4096x8x192 1 := cmpf .olt main_v9 main_v10
  let main_c_3 : IVec S_ 1 := constantI S_ 1 1#1
  let main_v12 : IVec S_ 1 := (fun x v => Host.reduce IntOp.andi x v reducesTo_S4x4096x8x192_S_d0_1_2_3 h_S_) main_v11 main_c_3
  let main_v13 : IVec S_ 1 := andi main_v8 main_v12
  main_v13
-- ==== Pre_tables.lean ====
abbrev S36864x2048 : Shape := ⟨2, ![36864, 2048]⟩
abbrev S1x8x2048x14336 : Shape := ⟨4, ![1, 8, 2048, 14336]⟩
abbrev S72 : Shape := ⟨1, ![72]⟩
abbrev S_ : Shape := ⟨0, ![]⟩

class Facts : Prop where
  bcast_S_S72 : S_.BroadcastsInDim S72 (![] : Fin 0 → Fin S72.rank)
  reducesTo_S72_S_d0 : S72.ReducesTo [0] S_
  h_S_ : 0 < S_.numel

variable [Facts]

def fn {F : FTy → Type} [FloatOps F] (main_arg0 : FVec F S36864x2048 .f32) (main_arg1 : FVec F S1x8x2048x14336 .f32) (main_arg2 : IVec S72 32) (main_arg3 : IVec S72 32) : IVec S_ 1 :=
  let main_c : IVec S_ 32 := constantI S_ 32 0#32
  let main_v0 : IVec S72 32 := broadcastInDim S72 ![] bcast_S_S72 main_c
  let main_v1 : IVec S72 1 := cmpi .sge main_arg2 main_v0
  let main_c_0 : IVec S_ 1 := constantI S_ 1 1#1
  let main_v2 : IVec S_ 1 := (fun x v => Host.reduce IntOp.andi x v reducesTo_S72_S_d0 h_S_) main_v1 main_c_0
  let main_c_1 : IVec S_ 32 := constantI S_ 32 8#32
  let main_v3 : IVec S72 32 := broadcastInDim S72 ![] bcast_S_S72 main_c_1
  let main_v4 : IVec S72 1 := cmpi .slt main_arg2 main_v3
  let main_c_2 : IVec S_ 1 := constantI S_ 1 1#1
  let main_v5 : IVec S_ 1 := (fun x v => Host.reduce IntOp.andi x v reducesTo_S72_S_d0 h_S_) main_v4 main_c_2
  let main_v6 : IVec S_ 1 := andi main_v2 main_v5
  let main_c_3 : IVec S_ 32 := constantI S_ 32 0#32
  let main_v7 : IVec S72 32 := broadcastInDim S72 ![] bcast_S_S72 main_c_3
  let main_v8 : IVec S72 1 := cmpi .sge main_arg3 main_v7
  let main_c_4 : IVec S_ 1 := constantI S_ 1 1#1
  let main_v9 : IVec S_ 1 := (fun x v => Host.reduce IntOp.andi x v reducesTo_S72_S_d0 h_S_) main_v8 main_c_4
  let main_v10 : IVec S_ 1 := andi main_v6 main_v9
  let main_c_5 : IVec S_ 32 := constantI S_ 32 1#32
  let main_v11 : IVec S72 32 := broadcastInDim S72 ![] bcast_S_S72 main_c_5
  let main_v12 : IVec S72 1 := cmpi .sle main_arg3 main_v11
  let main_c_6 : IVec S_ 1 := constantI S_ 1 1#1
  let main_v13 : IVec S_ 1 := (fun x v => Host.reduce IntOp.andi x v reducesTo_S72_S_d0 h_S_) main_v12 main_c_6
  let main_v14 : IVec S_ 1 := andi main_v10 main_v13
  main_v14
-- ==== Pre_tables3.lean ====
abbrev S36864x7168 : Shape := ⟨2, ![36864, 7168]⟩
abbrev S1x8x7168x2048 : Shape := ⟨4, ![1, 8, 7168, 2048]⟩
abbrev S72 : Shape := ⟨1, ![72]⟩
abbrev S_ : Shape := ⟨0, ![]⟩

class Facts : Prop where
  bcast_S_S72 : S_.BroadcastsInDim S72 (![] : Fin 0 → Fin S72.rank)
  reducesTo_S72_S_d0 : S72.ReducesTo [0] S_
  h_S_ : 0 < S_.numel

variable [Facts]

def fn_part1 {F : FTy → Type} [FloatOps F] (main_arg3 : IVec S72 32) (main_arg4 : IVec S72 32) (main_v14 : IVec S_ 1) (main_c_7 : IVec S_ 32) : IVec S_ 1 :=
  let main_v15 : IVec S72 32 := broadcastInDim S72 ![] bcast_S_S72 main_c_7
  let main_v16 : IVec S72 1 := cmpi .sge main_arg4 main_v15
  let main_c_8 : IVec S_ 1 := constantI S_ 1 1#1
  let main_v17 : IVec S_ 1 := (fun x v => Host.reduce IntOp.andi x v reducesTo_S72_S_d0 h_S_) main_v16 main_c_8
  let main_v18 : IVec S_ 1 := andi main_v14 main_v17
  let main_c_9 : IVec S_ 32 := constantI S_ 32 72#32
  let main_v19 : IVec S72 32 := broadcastInDim S72 ![] bcast_S_S72 main_c_9
  let main_v20 : IVec S72 1 := cmpi .slt main_arg4 main_v19
  let main_c_10 : IVec S_ 1 := constantI S_ 1 1#1
  let main_v21 : IVec S_ 1 := (fun x v => Host.reduce IntOp.andi x v reducesTo_S72_S_d0 h_S_) main_v20 main_c_10
  let main_v22 : IVec S_ 1 := andi main_v18 main_v21
  let main_c_11 : IVec S_ 32 := constantI S_ 32 0#32
  let main_v23 : IVec S72 32 := broadcastInDim S72 ![] bcast_S_S72 main_c_11
  let main_v24 : IVec S72 1 := cmpi .eq main_arg3 main_v23
  let main_v25 : IVec S72 32 := iotaInDim S72 32 0
  let main_v26 : IVec S72 1 := cmpi .eq main_arg4 main_v25
  let main_v27 : IVec S72 1 := ori main_v24 main_v26
  let main_c_12 : IVec S_ 1 := constantI S_ 1 1#1
  let main_v28 : IVec S_ 1 := (fun x v => Host.reduce IntOp.andi x v reducesTo_S72_S_d0 h_S_) main_v27 main_c_12
  let main_v29 : IVec S_ 1 := andi main_v22 main_v28
  main_v29

def fn {F : FTy → Type} [FloatOps F] (main_arg0 : FVec F S36864x7168 .f32) (main_arg1 : FVec F S1x8x7168x2048 .f32) (main_arg2 : IVec S72 32) (main_arg3 : IVec S72 32) (main_arg4 : IVec S72 32) : IVec S_ 1 :=
  let main_c : IVec S_ 32 := constantI S_ 32 0#32
  let main_v0 : IVec S72 32 := broadcastInDim S72 ![] bcast_S_S72 main_c
  let main_v1 : IVec S72 1 := cmpi .sge main_arg2 main_v0
  let main_c_0 : IVec S_ 1 := constantI S_ 1 1#1
  let main_v2 : IVec S_ 1 := (fun x v => Host.reduce IntOp.andi x v reducesTo_S72_S_d0 h_S_) main_v1 main_c_0
  let main_c_1 : IVec S_ 32 := constantI S_ 32 8#32
  let main_v3 : IVec S72 32 := broadcastInDim S72 ![] bcast_S_S72 main_c_1
  let main_v4 : IVec S72 1 := cmpi .slt main_arg2 main_v3
  let main_c_2 : IVec S_ 1 := constantI S_ 1 1#1
  let main_v5 : IVec S_ 1 := (fun x v => Host.reduce IntOp.andi x v reducesTo_S72_S_d0 h_S_) main_v4 main_c_2
  let main_v6 : IVec S_ 1 := andi main_v2 main_v5
  let main_c_3 : IVec S_ 32 := constantI S_ 32 0#32
  let main_v7 : IVec S72 32 := broadcastInDim S72 ![] bcast_S_S72 main_c_3
  let main_v8 : IVec S72 1 := cmpi .sge main_arg3 main_v7
  let main_c_4 : IVec S_ 1 := constantI S_ 1 1#1
  let main_v9 : IVec S_ 1 := (fun x v => Host.reduce IntOp.andi x v reducesTo_S72_S_d0 h_S_) main_v8 main_c_4
  let main_v10 : IVec S_ 1 := andi main_v6 main_v9
  let main_c_5 : IVec S_ 32 := constantI S_ 32 1#32
  let main_v11 : IVec S72 32 := broadcastInDim S72 ![] bcast_S_S72 main_c_5
  let main_v12 : IVec S72 1 := cmpi .sle main_arg3 main_v11
  let main_c_6 : IVec S_ 1 := constantI S_ 1 1#1
  let main_v13 : IVec S_ 1 := (fun x v => Host.reduce IntOp.andi x v reducesTo_S72_S_d0 h_S_) main_v12 main_c_6
  let main_v14 : IVec S_ 1 := andi main_v10 main_v13
  let main_c_7 : IVec S_ 32 := constantI S_ 32 0#32
  fn_part1 (F := F) main_arg3 main_arg4 main_v14 main_c_7
-- ==== Kernel.lean ====
abbrev S4x4096x8x192 : Shape := ⟨4, ![4, 4096, 8, 192]⟩
abbrev S4x256x8x192 : Shape := ⟨4, ![4, 256, 8, 192]⟩
abbrev S4x256x8x128 : Shape := ⟨4, ![4, 256, 8, 128]⟩
abbrev S4x4096x8x128 : Shape := ⟨4, ![4, 4096, 8, 128]⟩
abbrev S_ : Shape := ⟨0, ![]⟩
abbrev S4x4096x8x256 : Shape := ⟨4, ![4, 4096, 8, 256]⟩
abbrev S16384x2048 : Shape := ⟨2, ![16384, 2048]⟩
abbrev S4x256x8x256 : Shape := ⟨4, ![4, 256, 8, 256]⟩
abbrev S1024x2048 : Shape := ⟨2, ![1024, 2048]⟩
abbrev S4x8x128x256 : Shape := ⟨4, ![4, 8, 128, 256]⟩
abbrev S4096x256 : Shape := ⟨2, ![4096, 256]⟩
abbrev S4x8x128x4096 : Shape := ⟨4, ![4, 8, 128, 4096]⟩
abbrev S4096x4096 : Shape := ⟨2, ![4096, 4096]⟩
abbrev S16384x1024 : Shape := ⟨2, ![16384, 1024]⟩
abbrev S512x256 : Shape := ⟨2, ![512, 256]⟩
abbrev S256x256 : Shape := ⟨2, ![256, 256]⟩
abbrev S128x256 : Shape := ⟨2, ![128, 256]⟩
abbrev S128x4096 : Shape := ⟨2, ![128, 4096]⟩
abbrev S512x128 : Shape := ⟨2, ![512, 128]⟩
abbrev S512x4352 : Shape := ⟨2, ![512, 4352]⟩
abbrev S512x512 : Shape := ⟨2, ![512, 512]⟩
abbrev S512 : Shape := ⟨1, ![512]⟩
abbrev S512x1 : Shape := ⟨2, ![512, 1]⟩
abbrev S128x512 : Shape := ⟨2, ![128, 512]⟩

abbrev nBuf : Space → Nat
  | .hbm => 35
  | .vmem => 13
  | .smem => 0
  | _ => 0

abbrev bufTy : (tb : Table) → Fin (tcTables nBuf tb) → BufTy
  | .hbm, ⟨0, _⟩ => ⟨S4x4096x8x192, .f32⟩
  | .hbm, ⟨1, _⟩ => ⟨S4x256x8x192, .f32⟩
  | .hbm, ⟨2, _⟩ => ⟨S4x4096x8x192, .f32⟩
  | .hbm, ⟨3, _⟩ => ⟨S4x256x8x128, .f32⟩
  | .hbm, ⟨4, _⟩ => ⟨S4x4096x8x128, .f32⟩
  | .hbm, ⟨5, _⟩ => ⟨S_, .f32⟩
  | .hbm, ⟨6, _⟩ => ⟨S4x4096x8x192, .f32⟩
  | .hbm, ⟨7, _⟩ => ⟨S4x4096x8x192, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4x4096x8x192, .f32⟩
  | .hbm, ⟨12, _⟩ => ⟨S4x4096x8x192, .f32⟩
  | .hbm, ⟨13, _⟩ => ⟨S_, .i32⟩
  | .hbm, ⟨14, _⟩ => ⟨S_, .f32⟩
  | .hbm, ⟨15, _⟩ => ⟨S4x4096x8x256, .f32⟩
  | .hbm, ⟨16, _⟩ => ⟨S4x4096x8x256, .bf16⟩
  | .hbm, ⟨17, _⟩ => ⟨S16384x2048, .bf16⟩
  | .hbm, ⟨18, _⟩ => ⟨S_, .i32⟩
  | .hbm, ⟨19, _⟩ => ⟨S_, .f32⟩
  | .hbm, ⟨20, _⟩ => ⟨S4x256x8x256, .f32⟩
  | .hbm, ⟨21, _⟩ => ⟨S4x256x8x256, .bf16⟩
  | .hbm, ⟨22, _⟩ => ⟨S1024x2048, .bf16⟩
  | .hbm, ⟨23, _⟩ => ⟨S_, .i32⟩
  | .hbm, ⟨24, _⟩ => ⟨S_, .f32⟩
  | .hbm, ⟨25, _⟩ => ⟨S4x4096x8x256, .f32⟩
  | .hbm, ⟨26, _⟩ => ⟨S4x4096x8x256, .bf16⟩
  | .hbm, ⟨27, _⟩ => ⟨S16384x2048, .bf16⟩
  | .hbm, ⟨28, _⟩ => ⟨S4x8x128x256, .f32⟩
  | .hbm, ⟨29, _⟩ => ⟨S4096x256, .f32⟩
  | .hbm, ⟨30, _⟩ => ⟨S4096x256, .bf16⟩
  | .hbm, ⟨31, _⟩ => ⟨S4x8x128x4096, .f32⟩
  | .hbm, ⟨32, _⟩ => ⟨S4096x4096, .f32⟩
  | .hbm, ⟨33, _⟩ => ⟨S4096x4096, .bf16⟩
  | .hbm, ⟨34, _⟩ => ⟨S16384x1024, .bf16⟩
  | .local _ .vmem, ⟨0, _⟩ => ⟨S512x256, .bf16⟩
  | .local _ .vmem, ⟨1, _⟩ => ⟨S512x256, .bf16⟩
  | .local _ .vmem, ⟨2, _⟩ => ⟨S256x256, .bf16⟩
  | .local _ .vmem, ⟨3, _⟩ => ⟨S256x256, .bf16⟩
  | .local _ .vmem, ⟨4, _⟩ => ⟨S4096x256, .bf16⟩
  | .local _ .vmem, ⟨5, _⟩ => ⟨S4096x256, .bf16⟩
  | .local _ .vmem, ⟨6, _⟩ => ⟨S128x256, .bf16⟩
  | .local _ .vmem, ⟨7, _⟩ => ⟨S128x256, .bf16⟩
  | .local _ .vmem, ⟨8, _⟩ => ⟨S128x4096, .bf16⟩
  | .local _ .vmem, ⟨9, _⟩ => ⟨S128x4096, .bf16⟩
  | .local _ .vmem, ⟨10, _⟩ => ⟨S512x128, .bf16⟩
  | .local _ .vmem, ⟨11, _⟩ => ⟨S512x128, .bf16⟩
  | .local _ .vmem, ⟨12, _⟩ => ⟨S512x4352, .f32⟩
  | _, _ => ⟨S4x4096x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_call2_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "neg_big" => some ⊥
  | _ => none
-- ==== ReferenceIdeal.lean ====
abbrev S4x4096x8x192 : Shape := ⟨4, ![4, 4096, 8, 192]⟩
abbrev S4x256x8x192 : Shape := ⟨4, ![4, 256, 8, 192]⟩
abbrev S4x256x8x128 : Shape := ⟨4, ![4, 256, 8, 128]⟩
abbrev S4x4096x8x128 : Shape := ⟨4, ![4, 4096, 8, 128]⟩
abbrev S4x4352x8x192 : Shape := ⟨4, ![4, 4352, 8, 192]⟩
abbrev S4x4352x8x128 : Shape := ⟨4, ![4, 4352, 8, 128]⟩
abbrev S4x8x4096x4352 : Shape := ⟨4, ![4, 8, 4096, 4352]⟩
abbrev S_ : Shape := ⟨0, ![]⟩
abbrev S4x8x4096 : Shape := ⟨3, ![4, 8, 4096]⟩
abbrev S4x8x4096x1 : Shape := ⟨4, ![4, 8, 4096, 1]⟩
abbrev S4x8x128x4096 : Shape := ⟨4, ![4, 8, 128, 4096]⟩
abbrev S16384x1024 : Shape := ⟨2, ![16384, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x8x192, .f32⟩
  | .hbm, ⟨1, _⟩ => ⟨S4x256x8x192, .f32⟩
  | .hbm, ⟨2, _⟩ => ⟨S4x4096x8x192, .f32⟩
  | .hbm, ⟨3, _⟩ => ⟨S4x256x8x128, .f32⟩
  | .hbm, ⟨4, _⟩ => ⟨S4x4096x8x128, .f32⟩
  | .hbm, ⟨5, _⟩ => ⟨S4x4352x8x192, .f32⟩
  | .hbm, ⟨6, _⟩ => ⟨S4x4352x8x128, .f32⟩
  | .hbm, ⟨7, _⟩ => ⟨S4x8x4096x4352, .f32⟩
  | .hbm, ⟨8, _⟩ => ⟨S_, .f32⟩
  | .hbm, ⟨9, _⟩ => ⟨S4x8x4096x4352, .f32⟩
  | .hbm, ⟨10, _⟩ => ⟨S4x8x4096x4352, .f32⟩
  | .hbm, ⟨11, _⟩ => ⟨S_, .f32⟩
  | .hbm, ⟨12, _⟩ => ⟨S4x8x4096, .f32⟩
  | .hbm, ⟨13, _⟩ => ⟨S_, .f32⟩
  | .hbm, ⟨14, _⟩ => ⟨S4x8x4096, .f32⟩
  | .hbm, ⟨15, _⟩ => ⟨S4x8x4096, .f32⟩
  | .hbm, ⟨16, _⟩ => ⟨S4x8x4096x1, .f32⟩
  | .hbm, ⟨17, _⟩ => ⟨S4x8x4096x4352, .f32⟩
  | .hbm, ⟨18, _⟩ => ⟨S4x8x4096x4352, .f32⟩
  | .hbm, ⟨19, _⟩ => ⟨S4x8x4096x4352, .f32⟩
  | .hbm, ⟨20, _⟩ => ⟨S_, .f32⟩
  | .hbm, ⟨21, _⟩ => ⟨S4x8x4096, .f32⟩
  | .hbm, ⟨22, _⟩ => ⟨S4x8x4096x1, .f32⟩
  | .hbm, ⟨23, _⟩ => ⟨S4x8x4096x4352, .f32⟩
  | .hbm, ⟨24, _⟩ => ⟨S4x8x4096x4352, .f32⟩
  | .hbm, ⟨25, _⟩ => ⟨S4x8x128x4096, .f32⟩
  | .hbm, ⟨26, _⟩ => ⟨S4x4096x8x128, .f32⟩
  | .hbm, ⟨27, _⟩ => ⟨S16384x1024, .f32⟩
  | .hbm, ⟨28, _⟩ => ⟨S16384x1024, .bf16⟩
  | _, _ => ⟨S4x4096x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Kernel2.lean ====
abbrev S36864x2048 : Shape := ⟨2, ![36864, 2048]⟩
abbrev S1x8x2048x14336 : Shape := ⟨4, ![1, 8, 2048, 14336]⟩
abbrev S72 : Shape := ⟨1, ![72]⟩
abbrev S36864x7168 : Shape := ⟨2, ![36864, 7168]⟩
abbrev S512x2048 : Shape := ⟨2, ![512, 2048]⟩
abbrev S1x1x2048x1024 : Shape := ⟨4, ![1, 1, 2048, 1024]⟩
abbrev S1 : Shape := ⟨1, ![1]⟩
abbrev S512x1024 : Shape := ⟨2, ![512, 1024]⟩
abbrev S2048x1024 : Shape := ⟨2, ![2048, 1024]⟩

abbrev nBuf : Space → Nat
  | .hbm => 4
  | .vmem => 10
  | .smem => 2
  | _ => 0

abbrev bufTy : (tb : Table) → Fin (tcTables nBuf tb) → BufTy
  | .hbm, ⟨0, _⟩ => ⟨S36864x2048, .f32⟩
  | .hbm, ⟨1, _⟩ => ⟨S1x8x2048x14336, .f32⟩
  | .hbm, ⟨2, _⟩ => ⟨S36864x2048, .bf16⟩
  | .hbm, ⟨3, _⟩ => ⟨S36864x7168, .bf16⟩
  | .local _ .vmem, ⟨0, _⟩ => ⟨S512x2048, .bf16⟩
  | .local _ .vmem, ⟨1, _⟩ => ⟨S512x2048, .bf16⟩
  | .local _ .vmem, ⟨2, _⟩ => ⟨S1x1x2048x1024, .f32⟩
  | .local _ .vmem, ⟨3, _⟩ => ⟨S1x1x2048x1024, .f32⟩
  | .local _ .vmem, ⟨4, _⟩ => ⟨S1x1x2048x1024, .f32⟩
  | .local _ .vmem, ⟨5, _⟩ => ⟨S1x1x2048x1024, .f32⟩
  | .local _ .vmem, ⟨6, _⟩ => ⟨S512x1024, .bf16⟩
  | .local _ .vmem, ⟨7, _⟩ => ⟨S512x1024, .bf16⟩
  | .local _ .vmem, ⟨8, _⟩ => ⟨S2048x1024, .bf16⟩
  | .local _ .vmem, ⟨9, _⟩ => ⟨S2048x1024, .bf16⟩
  | .local _ .smem, ⟨0, _⟩ => ⟨S72, .i32⟩
  | .local _ .smem, ⟨1, _⟩ => ⟨S72, .i32⟩
  | _, _ => ⟨S36864x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![7, 72], ![false, false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let v2 : Index := Scalar.indexCast v1
  ![v2.toNat]
def k0_off3 (i : grid0.Coords) : Fin 1 → Nat :=
  let arg1 : BitVec 32 := BitVec.ofNat 32 (i 1).val
  let v11 : Index := Scalar.indexCast arg1
  ![v11.toNat]
def k0_off4 (i : grid0.Coords) : Fin 1 → Nat :=
  let arg1 : BitVec 32 := BitVec.ofNat 32 (i 1).val
  let v16 : Index := Scalar.indexCast arg1
  ![v16.toNat]
def k0_cond2 (v12 : BitVec 32) : BitVec 1 :=
  let c1_i32_2 : BitVec 32 := 1#32
  let v13 : BitVec 1 := Scalar.cmpi .eq v12 c1_i32_2
  let v14 : BitVec 32 := Scalar.extui v13
  let c0_i32_3 : BitVec 32 := 0#32
  let v15 : BitVec 1 := Scalar.cmpi .ne v14 c0_i32_3
  v15

def k0_cond3 (v17 : BitVec 32) : BitVec 1 :=
  let c0_i32_4 : BitVec 32 := 0#32
  let v18 : BitVec 1 := Scalar.cmpi .eq v17 c0_i32_4
  let v19 : BitVec 32 := Scalar.extui v18
  let c0_i32_5 : BitVec 32 := 0#32
  let v20 : BitVec 1 := Scalar.cmpi .ne v19 c0_i32_5
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S72.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c7_i32 : BitVec 32 := 7#32
  let v2 : BitVec 32 := Scalar.addi arg0 c7_i32
  let c0_i32 : BitVec 32 := 0#32
  let c0_i32_0 : BitVec 32 := 0#32
  let c0_i32_1 : BitVec 32 := 0#32
  ![c0_i32.toNat, v1.toNat, c0_i32_0.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S36864x2048 : Shape := ⟨2, ![36864, 2048]⟩
abbrev S1x8x2048x14336 : Shape := ⟨4, ![1, 8, 2048, 14336]⟩
abbrev S72 : Shape := ⟨1, ![72]⟩
abbrev S72x1 : Shape := ⟨2, ![72, 1]⟩
abbrev S72x512 : Shape := ⟨2, ![72, 512]⟩
abbrev S36864x1 : Shape := ⟨2, ![36864, 1]⟩
abbrev S_ : Shape := ⟨0, ![]⟩
abbrev S36864x7168 : Shape := ⟨2, ![36864, 7168]⟩
abbrev S1x1x2048x14336 : Shape := ⟨4, ![1, 1, 2048, 14336]⟩
abbrev S2048x14336 : Shape := ⟨2, ![2048, 14336]⟩
abbrev S36864x14336 : Shape := ⟨2, ![36864, 14336]⟩

abbrev nBuf : Space → Nat
  | .hbm => 184
  | .vmem => 0
  | .smem => 0
  | _ => 0

abbrev hbmTy0_0 (i : Nat) : BufTy := match i % 128 with
  | 0 => ⟨S36864x2048, .f32⟩
  | 1 => ⟨S1x8x2048x14336, .f32⟩
  | 2 => ⟨S72, .i32⟩
  | 3 => ⟨S72, .i32⟩
  | 4 => ⟨S72x1, .i32⟩
  | 5 => ⟨S72x512, .i32⟩
  | 6 => ⟨S36864x1, .i32⟩
  | 7 => ⟨S72x1, .i32⟩
  | 8 => ⟨S72x512, .i32⟩
  | 9 => ⟨S36864x1, .i32⟩
  | 10 => ⟨S_, .i32⟩
  | 11 => ⟨S36864x1, .i32⟩
  | 12 => ⟨S36864x1, .i1⟩
  | 13 => ⟨S_, .f32⟩
  | 14 => ⟨S36864x7168, .f32⟩
  | 15 => ⟨S1x1x2048x14336, .f32⟩
  | 16 => ⟨S2048x14336, .f32⟩
  | 17 => ⟨S36864x14336, .f32⟩
  | 18 => ⟨S36864x7168, .f32⟩
  | 19 => ⟨S36864x7168, .f32⟩
  | 20 => ⟨S_, .i32⟩
  | 21 => ⟨S36864x1, .i32⟩
  | 22 => ⟨S36864x1, .i1⟩
  | 23 => ⟨S36864x1, .i1⟩
  | 24 => ⟨S36864x7168, .f32⟩
  | 25 => ⟨S36864x7168, .f32⟩
  | 26 => ⟨S_, .f32⟩
  | 27 => ⟨S36864x7168, .f32⟩
  | 28 => ⟨S36864x7168, .f32⟩
  | 29 => ⟨S_, .f32⟩
  | 30 => ⟨S36864x7168, .f32⟩
  | 31 => ⟨S36864x7168, .f32⟩
  | 32 => ⟨S36864x7168, .f32⟩
  | 33 => ⟨S36864x7168, .f32⟩
  | 34 => ⟨S36864x7168, .i1⟩
  | 35 => ⟨S36864x7168, .f32⟩
  | 36 => ⟨S1x1x2048x14336, .f32⟩
  | 37 => ⟨S2048x14336, .f32⟩
  | 38 => ⟨S36864x14336, .f32⟩
  | 39 => ⟨S36864x7168, .f32⟩
  | 40 => ⟨S36864x7168, .f32⟩
  | 41 => ⟨S_, .i32⟩
  | 42 => ⟨S36864x1, .i32⟩
  | 43 => ⟨S36864x1, .i1⟩
  | 44 => ⟨S36864x1, .i1⟩
  | 45 => ⟨S36864x7168, .f32⟩
  | 46 => ⟨S36864x7168, .f32⟩
  | 47 => ⟨S_, .f32⟩
  | 48 => ⟨S36864x7168, .f32⟩
  | 49 => ⟨S36864x7168, .f32⟩
  | 50 => ⟨S_, .f32⟩
  | 51 => ⟨S36864x7168, .f32⟩
  | 52 => ⟨S36864x7168, .f32⟩
  | 53 => ⟨S36864x7168, .f32⟩
  | 54 => ⟨S36864x7168, .f32⟩
  | 55 => ⟨S36864x7168, .i1⟩
  | 56 => ⟨S36864x7168, .f32⟩
  | 57 => ⟨S1x1x2048x14336, .f32⟩
  | 58 => ⟨S2048x14336, .f32⟩
  | 59 => ⟨S36864x14336, .f32⟩
  | 60 => ⟨S36864x7168, .f32⟩
  | 61 => ⟨S36864x7168, .f32⟩
  | 62 => ⟨S_, .i32⟩
  | 63 => ⟨S36864x1, .i32⟩
  | 64 => ⟨S36864x1, .i1⟩
  | 65 => ⟨S36864x1, .i1⟩
  | 66 => ⟨S36864x7168, .f32⟩
  | 67 => ⟨S36864x7168, .f32⟩
  | 68 => ⟨S_, .f32⟩
  | 69 => ⟨S36864x7168, .f32⟩
  | 70 => ⟨S36864x7168, .f32⟩
  | 71 => ⟨S_, .f32⟩
  | 72 => ⟨S36864x7168, .f32⟩
  | 73 => ⟨S36864x7168, .f32⟩
  | 74 => ⟨S36864x7168, .f32⟩
  | 75 => ⟨S36864x7168, .f32⟩
  | 76 => ⟨S36864x7168, .i1⟩
  | 77 => ⟨S36864x7168, .f32⟩
  | 78 => ⟨S1x1x2048x14336, .f32⟩
  | 79 => ⟨S2048x14336, .f32⟩
  | 80 => ⟨S36864x14336, .f32⟩
  | 81 => ⟨S36864x7168, .f32⟩
  | 82 => ⟨S36864x7168, .f32⟩
  | 83 => ⟨S_, .i32⟩
  | 84 => ⟨S36864x1, .i32⟩
  | 85 => ⟨S36864x1, .i1⟩
  | 86 => ⟨S36864x1, .i1⟩
  | 87 => ⟨S36864x7168, .f32⟩
  | 88 => ⟨S36864x7168, .f32⟩
  | 89 => ⟨S_, .f32⟩
  | 90 => ⟨S36864x7168, .f32⟩
  | 91 => ⟨S36864x7168, .f32⟩
  | 92 => ⟨S_, .f32⟩
  | 93 => ⟨S36864x7168, .f32⟩
  | 94 => ⟨S36864x7168, .f32⟩
  | 95 => ⟨S36864x7168, .f32⟩
  | 96 => ⟨S36864x7168, .f32⟩
  | 97 => ⟨S36864x7168, .i1⟩
  | 98 => ⟨S36864x7168, .f32⟩
  | 99 => ⟨S1x1x2048x14336, .f32⟩
  | 100 => ⟨S2048x14336, .f32⟩
  | 101 => ⟨S36864x14336, .f32⟩
  | 102 => ⟨S36864x7168, .f32⟩
  | 103 => ⟨S36864x7168, .f32⟩
  | 104 => ⟨S_, .i32⟩
  | 105 => ⟨S36864x1, .i32⟩
  | 106 => ⟨S36864x1, .i1⟩
  | 107 => ⟨S36864x1, .i1⟩
  | 108 => ⟨S36864x7168, .f32⟩
  | 109 => ⟨S36864x7168, .f32⟩
  | 110 => ⟨S_, .f32⟩
  | 111 => ⟨S36864x7168, .f32⟩
  | 112 => ⟨S36864x7168, .f32⟩
  | 113 => ⟨S_, .f32⟩
  | 114 => ⟨S36864x7168, .f32⟩
  | 115 => ⟨S36864x7168, .f32⟩
  | 116 => ⟨S36864x7168, .f32⟩
  | 117 => ⟨S36864x7168, .f32⟩
  | 118 => ⟨S36864x7168, .i1⟩
  | 119 => ⟨S36864x7168, .f32⟩
  | 120 => ⟨S1x1x2048x14336, .f32⟩
  | 121 => ⟨S2048x14336, .f32⟩
  | 122 => ⟨S36864x14336, .f32⟩
  | 123 => ⟨S36864x7168, .f32⟩
  | 124 => ⟨S36864x7168, .f32⟩
  | 125 => ⟨S_, .i32⟩
  | 126 => ⟨S36864x1, .i32⟩
  | 127 => ⟨S36864x1, .i1⟩
  | _ => ⟨S36864x2048, .f32⟩

abbrev hbmTy0_1 (i : Nat) : BufTy := match i % 128 with
  | 0 => ⟨S36864x1, .i1⟩
  | 1 => ⟨S36864x7168, .f32⟩
  | 2 => ⟨S36864x7168, .f32⟩
  | 3 => ⟨S_, .f32⟩
  | 4 => ⟨S36864x7168, .f32⟩
  | 5 => ⟨S36864x7168, .f32⟩
  | 6 => ⟨S_, .f32⟩
  | 7 => ⟨S36864x7168, .f32⟩
  | 8 => ⟨S36864x7168, .f32⟩
  | 9 => ⟨S36864x7168, .f32⟩
  | 10 => ⟨S36864x7168, .f32⟩
  | 11 => ⟨S36864x7168, .i1⟩
  | 12 => ⟨S36864x7168, .f32⟩
  | 13 => ⟨S1x1x2048x14336, .f32⟩
  | 14 => ⟨S2048x14336, .f32⟩
  | 15 => ⟨S36864x14336, .f32⟩
  | 16 => ⟨S36864x7168, .f32⟩
  | 17 => ⟨S36864x7168, .f32⟩
  | 18 => ⟨S_, .i32⟩
  | 19 => ⟨S36864x1, .i32⟩
  | 20 => ⟨S36864x1, .i1⟩
  | 21 => ⟨S36864x1, .i1⟩
  | 22 => ⟨S36864x7168, .f32⟩
  | 23 => ⟨S36864x7168, .f32⟩
  | 24 => ⟨S_, .f32⟩
  | 25 => ⟨S36864x7168, .f32⟩
  | 26 => ⟨S36864x7168, .f32⟩
  | 27 => ⟨S_, .f32⟩
  | 28 => ⟨S36864x7168, .f32⟩
  | 29 => ⟨S36864x7168, .f32⟩
  | 30 => ⟨S36864x7168, .f32⟩
  | 31 => ⟨S36864x7168, .f32⟩
  | 32 => ⟨S36864x7168, .i1⟩
  | 33 => ⟨S36864x7168, .f32⟩
  | 34 => ⟨S1x1x2048x14336, .f32⟩
  | 35 => ⟨S2048x14336, .f32⟩
  | 36 => ⟨S36864x14336, .f32⟩
  | 37 => ⟨S36864x7168, .f32⟩
  | 38 => ⟨S36864x7168, .f32⟩
  | 39 => ⟨S_, .i32⟩
  | 40 => ⟨S36864x1, .i32⟩
  | 41 => ⟨S36864x1, .i1⟩
  | 42 => ⟨S36864x1, .i1⟩
  | 43 => ⟨S36864x7168, .f32⟩
  | 44 => ⟨S36864x7168, .f32⟩
  | 45 => ⟨S_, .f32⟩
  | 46 => ⟨S36864x7168, .f32⟩
  | 47 => ⟨S36864x7168, .f32⟩
  | 48 => ⟨S_, .f32⟩
  | 49 => ⟨S36864x7168, .f32⟩
  | 50 => ⟨S36864x7168, .f32⟩
  | 51 => ⟨S36864x7168, .f32⟩
  | 52 => ⟨S36864x7168, .f32⟩
  | 53 => ⟨S36864x7168, .i1⟩
  | 54 => ⟨S36864x7168, .f32⟩
  | 55 => ⟨S36864x7168, .bf16⟩
  | _ => ⟨S36864x2048, .f32⟩

abbrev hbmTy (i : Nat) : BufTy := match i / 128 with
  | 0 => hbmTy0_0 i
  | 1 => hbmTy0_1 i
  | _ => ⟨S36864x2048, .f32⟩

abbrev bufTy : (tb : Table) → Fin (tcTables nBuf tb) → BufTy
  | .hbm, ⟨i, _⟩ => hbmTy i
  | _, _ => ⟨S36864x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_call1_v0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_1 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call2_v0 : Ref sig .tc := ⟨.hbm, 45, rfl⟩
abbrev main_call2_v1 : Ref sig .tc := ⟨.hbm, 46, rfl⟩
abbrev main_call2_cst : Ref sig .tc := ⟨.hbm, 47, rfl⟩
abbrev main_call2_v2 : Ref sig .tc := ⟨.hbm, 48, rfl⟩
abbrev main_call2_v3 : Ref sig .tc := ⟨.hbm, 49, rfl⟩
abbrev main_call2_cst_0 : Ref sig .tc := ⟨.hbm, 50, rfl⟩
abbrev main_call2_v4 : Ref sig .tc := ⟨.hbm, 51, rfl⟩
abbrev main_call2_v5 : Ref sig .tc := ⟨.hbm, 52, rfl⟩
abbrev main_v28 : Ref sig .tc := ⟨.hbm, 53, rfl⟩
abbrev main_v29 : Ref sig .tc := ⟨.hbm, 54, rfl⟩
abbrev main_call3_v0 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_2 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_call4_v0 : Ref sig .tc := ⟨.hbm, 66, rfl⟩
abbrev main_call4_v1 : Ref sig .tc := ⟨.hbm, 67, rfl⟩
abbrev main_call4_cst : Ref sig .tc := ⟨.hbm, 68, rfl⟩
abbrev main_call4_v2 : Ref sig .tc := ⟨.hbm, 69, rfl⟩
abbrev main_call4_v3 : Ref sig .tc := ⟨.hbm, 70, rfl⟩
abbrev main_call4_cst_0 : Ref sig .tc := ⟨.hbm, 71, rfl⟩
abbrev main_call4_v4 : Ref sig .tc := ⟨.hbm, 72, rfl⟩
abbrev main_call4_v5 : Ref sig .tc := ⟨.hbm, 73, rfl⟩
abbrev main_v39 : Ref sig .tc := ⟨.hbm, 74, rfl⟩
abbrev main_v40 : Ref sig .tc := ⟨.hbm, 75, rfl⟩
abbrev main_call5_v0 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_c_3 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_call6_v0 : Ref sig .tc := ⟨.hbm, 87, rfl⟩
abbrev main_call6_v1 : Ref sig .tc := ⟨.hbm, 88, rfl⟩
abbrev main_call6_cst : Ref sig .tc := ⟨.hbm, 89, rfl⟩
abbrev main_call6_v2 : Ref sig .tc := ⟨.hbm, 90, rfl⟩
abbrev main_call6_v3 : Ref sig .tc := ⟨.hbm, 91, rfl⟩
abbrev main_call6_cst_0 : Ref sig .tc := ⟨.hbm, 92, rfl⟩
abbrev main_call6_v4 : Ref sig .tc := ⟨.hbm, 93, rfl⟩
abbrev main_call6_v5 : Ref sig .tc := ⟨.hbm, 94, rfl⟩
abbrev main_v50 : Ref sig .tc := ⟨.hbm, 95, rfl⟩
abbrev main_v51 : Ref sig .tc := ⟨.hbm, 96, rfl⟩
abbrev main_call7_v0 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_c_4 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_call8_v0 : Ref sig .tc := ⟨.hbm, 108, rfl⟩
abbrev main_call8_v1 : Ref sig .tc := ⟨.hbm, 109, rfl⟩
abbrev main_call8_cst : Ref sig .tc := ⟨.hbm, 110, rfl⟩
abbrev main_call8_v2 : Ref sig .tc := ⟨.hbm, 111, rfl⟩
abbrev main_call8_v3 : Ref sig .tc := ⟨.hbm, 112, rfl⟩
abbrev main_call8_cst_0 : Ref sig .tc := ⟨.hbm, 113, rfl⟩
abbrev main_call8_v4 : Ref sig .tc := ⟨.hbm, 114, rfl⟩
abbrev main_call8_v5 : Ref sig .tc := ⟨.hbm, 115, rfl⟩
abbrev main_v61 : Ref sig .tc := ⟨.hbm, 116, rfl⟩
abbrev main_v62 : Ref sig .tc := ⟨.hbm, 117, rfl⟩
abbrev main_call9_v0 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_c_5 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_call10_v0 : Ref sig .tc := ⟨.hbm, 129, rfl⟩
abbrev main_call10_v1 : Ref sig .tc := ⟨.hbm, 130, rfl⟩
abbrev main_call10_cst : Ref sig .tc := ⟨.hbm, 131, rfl⟩
abbrev main_call10_v2 : Ref sig .tc := ⟨.hbm, 132, rfl⟩
abbrev main_call10_v3 : Ref sig .tc := ⟨.hbm, 133, rfl⟩
abbrev main_call10_cst_0 : Ref sig .tc := ⟨.hbm, 134, rfl⟩
abbrev main_call10_v4 : Ref sig .tc := ⟨.hbm, 135, rfl⟩
abbrev main_call10_v5 : Ref sig .tc := ⟨.hbm, 136, rfl⟩
abbrev main_v72 : Ref sig .tc := ⟨.hbm, 137, rfl⟩
abbrev main_v73 : Ref sig .tc := ⟨.hbm, 138, rfl⟩
abbrev main_call11_v0 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_c_6 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_call12_v0 : Ref sig .tc := ⟨.hbm, 150, rfl⟩
abbrev main_call12_v1 : Ref sig .tc := ⟨.hbm, 151, rfl⟩
abbrev main_call12_cst : Ref sig .tc := ⟨.hbm, 152, rfl⟩
abbrev main_call12_v2 : Ref sig .tc := ⟨.hbm, 153, rfl⟩
abbrev main_call12_v3 : Ref sig .tc := ⟨.hbm, 154, rfl⟩
abbrev main_call12_cst_0 : Ref sig .tc := ⟨.hbm, 155, rfl⟩
abbrev main_call12_v4 : Ref sig .tc := ⟨.hbm, 156, rfl⟩
abbrev main_call12_v5 : Ref sig .tc := ⟨.hbm, 157, rfl⟩
abbrev main_v83 : Ref sig .tc := ⟨.hbm, 158, rfl⟩
abbrev main_v84 : Ref sig .tc := ⟨.hbm, 159, rfl⟩
abbrev main_call13_v0 : Ref sig .tc := ⟨.hbm, 160, rfl⟩
abbrev main_v85 : Ref sig .tc := ⟨.hbm, 161, rfl⟩
abbrev main_v86 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_c_7 : Ref sig .tc := ⟨.hbm, 167, rfl⟩
abbrev main_v91 : Ref sig .tc := ⟨.hbm, 168, rfl⟩
abbrev main_v92 : Ref sig .tc := ⟨.hbm, 169, rfl⟩
abbrev main_v93 : Ref sig .tc := ⟨.hbm, 170, rfl⟩
abbrev main_call14_v0 : Ref sig .tc := ⟨.hbm, 171, rfl⟩
abbrev main_call14_v1 : Ref sig .tc := ⟨.hbm, 172, rfl⟩
abbrev main_call14_cst : Ref sig .tc := ⟨.hbm, 173, rfl⟩
abbrev main_call14_v2 : Ref sig .tc := ⟨.hbm, 174, rfl⟩
abbrev main_call14_v3 : Ref sig .tc := ⟨.hbm, 175, rfl⟩
abbrev main_call14_cst_0 : Ref sig .tc := ⟨.hbm, 176, rfl⟩
abbrev main_call14_v4 : Ref sig .tc := ⟨.hbm, 177, rfl⟩
abbrev main_call14_v5 : Ref sig .tc := ⟨.hbm, 178, rfl⟩
abbrev main_v94 : Ref sig .tc := ⟨.hbm, 179, rfl⟩
abbrev main_v95 : Ref sig .tc := ⟨.hbm, 180, rfl⟩
abbrev main_call15_v0 : Ref sig .tc := ⟨.hbm, 181, rfl⟩
abbrev main_v96 : Ref sig .tc := ⟨.hbm, 182, rfl⟩
abbrev main_v97 : Ref sig .tc := ⟨.hbm, 183, rfl⟩

abbrev nD : Nat := 1
abbrev τ : Topo := Topo.v7x

variable {F : FTy → Type} [FloatOps F]
-- ==== Kernel3.lean ====
abbrev S36864x7168 : Shape := ⟨2, ![36864, 7168]⟩
abbrev S1x8x7168x2048 : Shape := ⟨4, ![1, 8, 7168, 2048]⟩
abbrev S72 : Shape := ⟨1, ![72]⟩
abbrev S8x7168x2048 : Shape := ⟨3, ![8, 7168, 2048]⟩
abbrev S2x294912x128 : Shape := ⟨3, ![2, 294912, 128]⟩
abbrev S512x7168 : Shape := ⟨2, ![512, 7168]⟩
abbrev S1 : Shape := ⟨1, ![1]⟩
abbrev S1x7168x1024 : Shape := ⟨3, ![1, 7168, 1024]⟩
abbrev S1x4096x128 : Shape := ⟨3, ![1, 4096, 128]⟩
abbrev S7168x1024 : Shape := ⟨2, ![7168, 1024]⟩
abbrev S512x1024 : Shape := ⟨2, ![512, 1024]⟩
abbrev S512x128 : Shape := ⟨2, ![512, 128]⟩
abbrev S1x512x128 : Shape := ⟨3, ![1, 512, 128]⟩
abbrev S4096x128 : Shape := ⟨2, ![4096, 128]⟩
abbrev S2x36864x1024 : Shape := ⟨3, ![2, 36864, 1024]⟩
abbrev S36864x2x1024 : Shape := ⟨3, ![36864, 2, 1024]⟩
abbrev S36864x2048 : Shape := ⟨2, ![36864, 2048]⟩

abbrev nBuf : Space → Nat
  | .hbm => 9
  | .vmem => 6
  | .smem => 3
  | _ => 0

abbrev bufTy : (tb : Table) → Fin (tcTables nBuf tb) → BufTy
  | .hbm, ⟨0, _⟩ => ⟨S36864x7168, .f32⟩
  | .hbm, ⟨1, _⟩ => ⟨S1x8x7168x2048, .f32⟩
  | .hbm, ⟨2, _⟩ => ⟨S36864x7168, .bf16⟩
  | .hbm, ⟨3, _⟩ => ⟨S8x7168x2048, .f32⟩
  | .hbm, ⟨4, _⟩ => ⟨S8x7168x2048, .bf16⟩
  | .hbm, ⟨5, _⟩ => ⟨S2x294912x128, .f32⟩
  | .hbm, ⟨6, _⟩ => ⟨S2x36864x1024, .f32⟩
  | .hbm, ⟨7, _⟩ => ⟨S36864x2x1024, .f32⟩
  | .hbm, ⟨8, _⟩ => ⟨S36864x2048, .f32⟩
  | .local _ .vmem, ⟨0, _⟩ => ⟨S512x7168, .bf16⟩
  | .local _ .vmem, ⟨1, _⟩ => ⟨S512x7168, .bf16⟩
  | .local _ .vmem, ⟨2, _⟩ => ⟨S1x7168x1024, .bf16⟩
  | .local _ .vmem, ⟨3, _⟩ => ⟨S1x7168x1024, .bf16⟩
  | .local _ .vmem, ⟨4, _⟩ => ⟨S1x4096x128, .f32⟩
  | .local _ .vmem, ⟨5, _⟩ => ⟨S1x4096x128, .f32⟩
  | .local _ .smem, ⟨0, _⟩ => ⟨S72, .i32⟩
  | .local _ .smem, ⟨1, _⟩ => ⟨S72, .i32⟩
  | .local _ .smem, ⟨2, _⟩ => ⟨S72, .i32⟩
  | _, _ => ⟨S36864x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_arg2 : Ref sig .tc := ⟨.smem, 0, rfl⟩
abbrev main_arg3 : Ref sig .tc := ⟨.smem, 1, rfl⟩
abbrev main_arg4 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 72], ![false, false]⟩

abbrev pre0 : Pipeline.Prefetch sig := ⟨3, ![main_arg2.idx, main_arg3.idx, main_arg4.idx], fun | 0 => main_arg2.names | 1 => main_arg3.names | 2 => main_arg4.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v5 : Index := Scalar.indexCast arg1
  ![v5.toNat]
def k0_cond1 (v1 : BitVec 32) : BitVec 1 :=
  let c1_i32 : BitVec 32 := 1#32
  let v2 : BitVec 1 := Scalar.cmpi .eq v1 c1_i32
  let v3 : BitVec 32 := Scalar.extui v2
  let c0_i32 : BitVec 32 := 0#32
  let v4 : BitVec 1 := Scalar.cmpi .ne v3 c0_i32
  v4

def k0_cond2 (v6 : BitVec 32) : BitVec 1 :=
  let c0_i32_0 : BitVec 32 := 0#32
  let v7 : BitVec 1 := Scalar.cmpi .eq v6 c0_i32_0
  let v8 : BitVec 32 := Scalar.extui v7
  let c0_i32_1 : BitVec 32 := 0#32
  let v9 : BitVec 1 := Scalar.cmpi .ne v8 c0_i32_1
  v9

def cc0_transform_0 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 2 (Rect.unit (s := S72) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x7168x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S36864x7168 : Shape := ⟨2, ![36864, 7168]⟩
abbrev S1x8x7168x2048 : Shape := ⟨4, ![1, 8, 7168, 2048]⟩
abbrev S72 : Shape := ⟨1, ![72]⟩
abbrev S72x1 : Shape := ⟨2, ![72, 1]⟩
abbrev S72x512 : Shape := ⟨2, ![72, 512]⟩
abbrev S36864x1 : Shape := ⟨2, ![36864, 1]⟩
abbrev S_ : Shape := ⟨0, ![]⟩
abbrev S36864x2048 : Shape := ⟨2, ![36864, 2048]⟩
abbrev S1x1x7168x2048 : Shape := ⟨4, ![1, 1, 7168, 2048]⟩
abbrev S7168x2048 : Shape := ⟨2, ![7168, 2048]⟩

abbrev nBuf : Space → Nat
  | .hbm => 88
  | .vmem => 0
  | .smem => 0
  | _ => 0

abbrev bufTy : (tb : Table) → Fin (tcTables nBuf tb) → BufTy
  | .hbm, ⟨0, _⟩ => ⟨S36864x7168, .f32⟩
  | .hbm, ⟨1, _⟩ => ⟨S1x8x7168x2048, .f32⟩
  | .hbm, ⟨2, _⟩ => ⟨S72, .i32⟩
  | .hbm, ⟨3, _⟩ => ⟨S72, .i32⟩
  | .hbm, ⟨4, _⟩ => ⟨S72, .i32⟩
  | .hbm, ⟨5, _⟩ => ⟨S72x1, .i32⟩
  | .hbm, ⟨6, _⟩ => ⟨S72x512, .i32⟩
  | .hbm, ⟨7, _⟩ => ⟨S36864x1, .i32⟩
  | .hbm, ⟨8, _⟩ => ⟨S72x1, .i32⟩
  | .hbm, ⟨9, _⟩ => ⟨S72x512, .i32⟩
  | .hbm, ⟨10, _⟩ => ⟨S36864x1, .i32⟩
  | .hbm, ⟨11, _⟩ => ⟨S_, .i32⟩
  | .hbm, ⟨12, _⟩ => ⟨S36864x1, .i32⟩
  | .hbm, ⟨13, _⟩ => ⟨S36864x1, .i1⟩
  | .hbm, ⟨14, _⟩ => ⟨S_, .f32⟩
  | .hbm, ⟨15, _⟩ => ⟨S36864x2048, .f32⟩
  | .hbm, ⟨16, _⟩ => ⟨S_, .i32⟩
  | .hbm, ⟨17, _⟩ => ⟨S36864x1, .i32⟩
  | .hbm, ⟨18, _⟩ => ⟨S36864x1, .i1⟩
  | .hbm, ⟨19, _⟩ => ⟨S36864x1, .i1⟩
  | .hbm, ⟨20, _⟩ => ⟨S1x1x7168x2048, .f32⟩
  | .hbm, ⟨21, _⟩ => ⟨S7168x2048, .f32⟩
  | .hbm, ⟨22, _⟩ => ⟨S36864x2048, .f32⟩
  | .hbm, ⟨23, _⟩ => ⟨S36864x2048, .i1⟩
  | .hbm, ⟨24, _⟩ => ⟨S36864x2048, .f32⟩
  | .hbm, ⟨25, _⟩ => ⟨S_, .i32⟩
  | .hbm, ⟨26, _⟩ => ⟨S36864x1, .i32⟩
  | .hbm, ⟨27, _⟩ => ⟨S36864x1, .i1⟩
  | .hbm, ⟨28, _⟩ => ⟨S36864x1, .i1⟩
  | .hbm, ⟨29, _⟩ => ⟨S1x1x7168x2048, .f32⟩
  | .hbm, ⟨30, _⟩ => ⟨S7168x2048, .f32⟩
  | .hbm, ⟨31, _⟩ => ⟨S36864x2048, .f32⟩
  | .hbm, ⟨32, _⟩ => ⟨S36864x2048, .i1⟩
  | .hbm, ⟨33, _⟩ => ⟨S36864x2048, .f32⟩
  | .hbm, ⟨34, _⟩ => ⟨S_, .i32⟩
  | .hbm, ⟨35, _⟩ => ⟨S36864x1, .i32⟩
  | .hbm, ⟨36, _⟩ => ⟨S36864x1, .i1⟩
  | .hbm, ⟨37, _⟩ => ⟨S36864x1, .i1⟩
  | .hbm, ⟨38, _⟩ => ⟨S1x1x7168x2048, .f32⟩
  | .hbm, ⟨39, _⟩ => ⟨S7168x2048, .f32⟩
  | .hbm, ⟨40, _⟩ => ⟨S36864x2048, .f32⟩
  | .hbm, ⟨41, _⟩ => ⟨S36864x2048, .i1⟩
  | .hbm, ⟨42, _⟩ => ⟨S36864x2048, .f32⟩
  | .hbm, ⟨43, _⟩ => ⟨S_, .i32⟩
  | .hbm, ⟨44, _⟩ => ⟨S36864x1, .i32⟩
  | .hbm, ⟨45, _⟩ => ⟨S36864x1, .i1⟩
  | .hbm, ⟨46, _⟩ => ⟨S36864x1, .i1⟩
  | .hbm, ⟨47, _⟩ => ⟨S1x1x7168x2048, .f32⟩
  | .hbm, ⟨48, _⟩ => ⟨S7168x2048, .f32⟩
  | .hbm, ⟨49, _⟩ => ⟨S36864x2048, .f32⟩
  | .hbm, ⟨50, _⟩ => ⟨S36864x2048, .i1⟩
  | .hbm, ⟨51, _⟩ => ⟨S36864x2048, .f32⟩
  | .hbm, ⟨52, _⟩ => ⟨S_, .i32⟩
  | .hbm, ⟨53, _⟩ => ⟨S36864x1, .i32⟩
  | .hbm, ⟨54, _⟩ => ⟨S36864x1, .i1⟩
  | .hbm, ⟨55, _⟩ => ⟨S36864x1, .i1⟩
  | .hbm, ⟨56, _⟩ => ⟨S1x1x7168x2048, .f32⟩
  | .hbm, ⟨57, _⟩ => ⟨S7168x2048, .f32⟩
  | .hbm, ⟨58, _⟩ => ⟨S36864x2048, .f32⟩
  | .hbm, ⟨59, _⟩ => ⟨S36864x2048, .i1⟩
  | .hbm, ⟨60, _⟩ => ⟨S36864x2048, .f32⟩
  | .hbm, ⟨61, _⟩ => ⟨S_, .i32⟩
  | .hbm, ⟨62, _⟩ => ⟨S36864x1, .i32⟩
  | .hbm, ⟨63, _⟩ => ⟨S36864x1, .i1⟩
  | .hbm, ⟨64, _⟩ => ⟨S36864x1, .i1⟩
  | .hbm, ⟨65, _⟩ => ⟨S1x1x7168x2048, .f32⟩
  | .hbm, ⟨66, _⟩ => ⟨S7168x2048, .f32⟩
  | .hbm, ⟨67, _⟩ => ⟨S36864x2048, .f32⟩
  | .hbm, ⟨68, _⟩ => ⟨S36864x2048, .i1⟩
  | .hbm, ⟨69, _⟩ => ⟨S36864x2048, .f32⟩
  | .hbm, ⟨70, _⟩ => ⟨S_, .i32⟩
  | .hbm, ⟨71, _⟩ => ⟨S36864x1, .i32⟩
  | .hbm, ⟨72, _⟩ => ⟨S36864x1, .i1⟩
  | .hbm, ⟨73, _⟩ => ⟨S36864x1, .i1⟩
  | .hbm, ⟨74, _⟩ => ⟨S1x1x7168x2048, .f32⟩
  | .hbm, ⟨75, _⟩ => ⟨S7168x2048, .f32⟩
  | .hbm, ⟨76, _⟩ => ⟨S36864x2048, .f32⟩
  | .hbm, ⟨77, _⟩ => ⟨S36864x2048, .i1⟩
  | .hbm, ⟨78, _⟩ => ⟨S36864x2048, .f32⟩
  | .hbm, ⟨79, _⟩ => ⟨S_, .i32⟩
  | .hbm, ⟨80, _⟩ => ⟨S36864x1, .i32⟩
  | .hbm, ⟨81, _⟩ => ⟨S36864x1, .i1⟩
  | .hbm, ⟨82, _⟩ => ⟨S36864x1, .i1⟩
  | .hbm, ⟨83, _⟩ => ⟨S1x1x7168x2048, .f32⟩
  | .hbm, ⟨84, _⟩ => ⟨S7168x2048, .f32⟩
  | .hbm, ⟨85, _⟩ => ⟨S36864x2048, .f32⟩
  | .hbm, ⟨86, _⟩ => ⟨S36864x2048, .i1⟩
  | .hbm, ⟨87, _⟩ => ⟨S36864x2048, .f32⟩
  | _, _ => ⟨S36864x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call1_v0 : Ref sig .tc := ⟨.hbm, 32, rfl⟩
abbrev main_v22 : Ref sig .tc := ⟨.hbm, 33, rfl⟩
abbrev main_c_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call2_v0 : Ref sig .tc := ⟨.hbm, 41, rfl⟩
abbrev main_v29 : Ref sig .tc := ⟨.hbm, 42, rfl⟩
abbrev main_c_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_call3_v0 : Ref sig .tc := ⟨.hbm, 50, rfl⟩
abbrev main_v36 : Ref sig .tc := ⟨.hbm, 51, rfl⟩
abbrev main_c_4 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_call4_v0 : Ref sig .tc := ⟨.hbm, 59, rfl⟩
abbrev main_v43 : Ref sig .tc := ⟨.hbm, 60, rfl⟩
abbrev main_c_5 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_call5_v0 : Ref sig .tc := ⟨.hbm, 68, rfl⟩
abbrev main_v50 : Ref sig .tc := ⟨.hbm, 69, rfl⟩
abbrev main_c_6 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_call6_v0 : Ref sig .tc := ⟨.hbm, 77, rfl⟩
abbrev main_v57 : Ref sig .tc := ⟨.hbm, 78, rfl⟩
abbrev main_c_7 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_call7_v0 : Ref sig .tc := ⟨.hbm, 86, rfl⟩
abbrev main_v64 : Ref sig .tc := ⟨.hbm, 87, rfl⟩

abbrev nD : Nat := 1
abbrev τ : Topo := Topo.v7x

variable {F : FTy → Type} [FloatOps F]
-- ==== Kernel4.lean ====
abbrev S17408x2048 : Shape := ⟨2, ![17408, 2048]⟩
abbrev S2048x9536 : Shape := ⟨2, ![2048, 9536]⟩
abbrev S2048x6144 : Shape := ⟨2, ![2048, 6144]⟩
abbrev S17408x6144 : Shape := ⟨2, ![17408, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S17408x2048, .f32⟩
  | .hbm, ⟨1, _⟩ => ⟨S2048x9536, .f32⟩
  | .hbm, ⟨2, _⟩ => ⟨S17408x2048, .bf16⟩
  | .hbm, ⟨3, _⟩ => ⟨S2048x6144, .f32⟩
  | .hbm, ⟨4, _⟩ => ⟨S17408x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S17408x2048 : Shape := ⟨2, ![17408, 2048]⟩
abbrev S2048x9536 : Shape := ⟨2, ![2048, 9536]⟩
abbrev S17408x9536 : Shape := ⟨2, ![17408, 9536]⟩
abbrev S17408x6144 : Shape := ⟨2, ![17408, 6144]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S17408x2048, .f32⟩
  | .hbm, ⟨1, _⟩ => ⟨S2048x9536, .f32⟩
  | .hbm, ⟨2, _⟩ => ⟨S17408x9536, .f32⟩
  | .hbm, ⟨3, _⟩ => ⟨S17408x6144, .f32⟩
  | .hbm, ⟨4, _⟩ => ⟨S17408x6144, .f32⟩
  | .hbm, ⟨5, _⟩ => ⟨S17408x6144, .f32⟩
  | .hbm, ⟨6, _⟩ => ⟨S_, .f32⟩
  | .hbm, ⟨7, _⟩ => ⟨S17408x6144, .f32⟩
  | .hbm, ⟨8, _⟩ => ⟨S17408x6144, .f32⟩
  | .hbm, ⟨9, _⟩ => ⟨S_, .f32⟩
  | .hbm, ⟨10, _⟩ => ⟨S17408x6144, .f32⟩
  | .hbm, ⟨11, _⟩ => ⟨S17408x6144, .f32⟩
  | .hbm, ⟨12, _⟩ => ⟨S17408x6144, .bf16⟩
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel5.lean ====
abbrev S17408x2048 : Shape := ⟨2, ![17408, 2048]⟩
abbrev S1x2048x11264 : Shape := ⟨3, ![1, 2048, 11264]⟩
abbrev S17408x5632 : Shape := ⟨2, ![17408, 5632]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 4
  | .vmem => 10
  | .smem => 0
  | _ => 0

abbrev bufTy : (tb : Table) → Fin (tcTables nBuf tb) → BufTy
  | .hbm, ⟨0, _⟩ => ⟨S17408x2048, .f32⟩
  | .hbm, ⟨1, _⟩ => ⟨S1x2048x11264, .f32⟩
  | .hbm, ⟨2, _⟩ => ⟨S17408x2048, .bf16⟩
  | .hbm, ⟨3, _⟩ => ⟨S17408x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | .local _ .vmem, ⟨9, _⟩ => ⟨S2048x512, .bf16⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S17408x2048 : Shape := ⟨2, ![17408, 2048]⟩
abbrev S1x2048x11264 : Shape := ⟨3, ![1, 2048, 11264]⟩
abbrev S2048x11264 : Shape := ⟨2, ![2048, 11264]⟩
abbrev S17408x11264 : Shape := ⟨2, ![17408, 11264]⟩
abbrev S17408x5632 : Shape := ⟨2, ![17408, 5632]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S17408x2048, .f32⟩
  | .hbm, ⟨1, _⟩ => ⟨S1x2048x11264, .f32⟩
  | .hbm, ⟨2, _⟩ => ⟨S2048x11264, .f32⟩
  | .hbm, ⟨3, _⟩ => ⟨S17408x11264, .f32⟩
  | .hbm, ⟨4, _⟩ => ⟨S17408x5632, .f32⟩
  | .hbm, ⟨5, _⟩ => ⟨S17408x5632, .f32⟩
  | .hbm, ⟨6, _⟩ => ⟨S17408x5632, .f32⟩
  | .hbm, ⟨7, _⟩ => ⟨S17408x5632, .f32⟩
  | .hbm, ⟨8, _⟩ => ⟨S_, .f32⟩
  | .hbm, ⟨9, _⟩ => ⟨S17408x5632, .f32⟩
  | .hbm, ⟨10, _⟩ => ⟨S17408x5632, .f32⟩
  | .hbm, ⟨11, _⟩ => ⟨S_, .f32⟩
  | .hbm, ⟨12, _⟩ => ⟨S17408x5632, .f32⟩
  | .hbm, ⟨13, _⟩ => ⟨S17408x5632, .f32⟩
  | .hbm, ⟨14, _⟩ => ⟨S17408x5632, .f32⟩
  | .hbm, ⟨15, _⟩ => ⟨S17408x5632, .f32⟩
  | .hbm, ⟨16, _⟩ => ⟨S17408x5632, .bf16⟩
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Kernel6.lean ====
abbrev S17408x2048 : Shape := ⟨2, ![17408, 2048]⟩
abbrev S2048x9536 : Shape := ⟨2, ![2048, 9536]⟩
abbrev S2048x1024 : Shape := ⟨2, ![2048, 1024]⟩
abbrev S2048x512 : Shape := ⟨2, ![2048, 512]⟩
abbrev S2048x256 : Shape := ⟨2, ![2048, 256]⟩
abbrev S2048x64 : Shape := ⟨2, ![2048, 64]⟩
abbrev S_ : Shape := ⟨0, ![]⟩
abbrev S2048x192 : Shape := ⟨2, ![2048, 192]⟩
abbrev S2048x3584 : Shape := ⟨2, ![2048, 3584]⟩
abbrev S17408x3584 : Shape := ⟨2, ![17408, 3584]⟩
abbrev S512x2048 : Shape := ⟨2, ![512, 2048]⟩
abbrev S2048x1792 : Shape := ⟨2, ![2048, 1792]⟩
abbrev S512x1792 : Shape := ⟨2, ![512, 1792]⟩

abbrev nBuf : Space → Nat
  | .hbm => 14
  | .vmem => 7
  | .smem => 0
  | _ => 0

abbrev bufTy : (tb : Table) → Fin (tcTables nBuf tb) → BufTy
  | .hbm, ⟨0, _⟩ => ⟨S17408x2048, .f32⟩
  | .hbm, ⟨1, _⟩ => ⟨S2048x9536, .f32⟩
  | .hbm, ⟨2, _⟩ => ⟨S2048x1024, .f32⟩
  | .hbm, ⟨3, _⟩ => ⟨S2048x1024, .f32⟩
  | .hbm, ⟨4, _⟩ => ⟨S2048x512, .f32⟩
  | .hbm, ⟨5, _⟩ => ⟨S2048x256, .f32⟩
  | .hbm, ⟨6, _⟩ => ⟨S2048x256, .f32⟩
  | .hbm, ⟨7, _⟩ => ⟨S2048x256, .f32⟩
  | .hbm, ⟨8, _⟩ => ⟨S2048x64, .f32⟩
  | .hbm, ⟨9, _⟩ => ⟨S_, .f32⟩
  | .hbm, ⟨10, _⟩ => ⟨S2048x192, .f32⟩
  | .hbm, ⟨11, _⟩ => ⟨S2048x3584, .f32⟩
  | .hbm, ⟨12, _⟩ => ⟨S17408x2048, .bf16⟩
  | .hbm, ⟨13, _⟩ => ⟨S17408x3584, .f32⟩
  | .local _ .vmem, ⟨0, _⟩ => ⟨S512x2048, .bf16⟩
  | .local _ .vmem, ⟨1, _⟩ => ⟨S512x2048, .bf16⟩
  | .local _ .vmem, ⟨2, _⟩ => ⟨S2048x1792, .f32⟩
  | .local _ .vmem, ⟨3, _⟩ => ⟨S2048x1792, .f32⟩
  | .local _ .vmem, ⟨4, _⟩ => ⟨S512x1792, .f32⟩
  | .local _ .vmem, ⟨5, _⟩ => ⟨S512x1792, .f32⟩
  | .local _ .vmem, ⟨6, _⟩ => ⟨S2048x1792, .bf16⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 34], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S17408x2048 : Shape := ⟨2, ![17408, 2048]⟩
abbrev S2048x9536 : Shape := ⟨2, ![2048, 9536]⟩
abbrev S17408x9536 : Shape := ⟨2, ![17408, 9536]⟩
abbrev S17408x1024 : Shape := ⟨2, ![17408, 1024]⟩
abbrev S17408x256 : Shape := ⟨2, ![17408, 256]⟩
abbrev S17408x512 : Shape := ⟨2, ![17408, 512]⟩
abbrev S17408x64 : Shape := ⟨2, ![17408, 64]⟩
abbrev S17408x6144 : Shape := ⟨2, ![17408, 6144]⟩
abbrev S_ : Shape := ⟨0, ![]⟩
abbrev S17408x192 : Shape := ⟨2, ![17408, 192]⟩
abbrev S17408x3584 : Shape := ⟨2, ![17408, 3584]⟩

abbrev nBuf : Space → Nat
  | .hbm => 14
  | .vmem => 0
  | .smem => 0
  | _ => 0

abbrev bufTy : (tb : Table) → Fin (tcTables nBuf tb) → BufTy
  | .hbm, ⟨0, _⟩ => ⟨S17408x2048, .f32⟩
  | .hbm, ⟨1, _⟩ => ⟨S2048x9536, .f32⟩
  | .hbm, ⟨2, _⟩ => ⟨S17408x9536, .f32⟩
  | .hbm, ⟨3, _⟩ => ⟨S17408x1024, .f32⟩
  | .hbm, ⟨4, _⟩ => ⟨S17408x256, .f32⟩
  | .hbm, ⟨5, _⟩ => ⟨S17408x256, .f32⟩
  | .hbm, ⟨6, _⟩ => ⟨S17408x512, .f32⟩
  | .hbm, ⟨7, _⟩ => ⟨S17408x256, .f32⟩
  | .hbm, ⟨8, _⟩ => ⟨S17408x64, .f32⟩
  | .hbm, ⟨9, _⟩ => ⟨S17408x1024, .f32⟩
  | .hbm, ⟨10, _⟩ => ⟨S17408x6144, .f32⟩
  | .hbm, ⟨11, _⟩ => ⟨S_, .f32⟩
  | .hbm, ⟨12, _⟩ => ⟨S17408x192, .f32⟩
  | .hbm, ⟨13, _⟩ => ⟨S17408x3584, .f32⟩
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel7.lean ====
abbrev S17408x5632 : Shape := ⟨2, ![17408, 5632]⟩
abbrev S1x5632x2048 : Shape := ⟨3, ![1, 5632, 2048]⟩
abbrev S17408x2048 : Shape := ⟨2, ![17408, 2048]⟩
abbrev S8x2048 : Shape := ⟨2, ![8, 2048]⟩
abbrev S5632x2048 : Shape := ⟨2, ![5632, 2048]⟩
abbrev S8x1x2048 : Shape := ⟨3, ![8, 1, 2048]⟩
abbrev S1024x512 : Shape := ⟨2, ![1024, 512]⟩
abbrev S512x2048 : Shape := ⟨2, ![512, 2048]⟩
abbrev S1024x2048 : Shape := ⟨2, ![1024, 2048]⟩
abbrev S1x1x2048 : Shape := ⟨3, ![1, 1, 2048]⟩
abbrev S1x2048 : Shape := ⟨2, ![1, 2048]⟩

abbrev nBuf : Space → Nat
  | .hbm => 9
  | .vmem => 11
  | .smem => 0
  | _ => 0

abbrev bufTy : (tb : Table) → Fin (tcTables nBuf tb) → BufTy
  | .hbm, ⟨0, _⟩ => ⟨S17408x5632, .f32⟩
  | .hbm, ⟨1, _⟩ => ⟨S1x5632x2048, .f32⟩
  | .hbm, ⟨2, _⟩ => ⟨S17408x2048, .f32⟩
  | .hbm, ⟨3, _⟩ => ⟨S8x2048, .f32⟩
  | .hbm, ⟨4, _⟩ => ⟨S17408x5632, .bf16⟩
  | .hbm, ⟨5, _⟩ => ⟨S5632x2048, .f32⟩
  | .hbm, ⟨6, _⟩ => ⟨S5632x2048, .bf16⟩
  | .hbm, ⟨7, _⟩ => ⟨S8x1x2048, .f32⟩
  | .hbm, ⟨8, _⟩ => ⟨S17408x2048, .f32⟩
  | .local _ .vmem, ⟨0, _⟩ => ⟨S1024x512, .bf16⟩
  | .local _ .vmem, ⟨1, _⟩ => ⟨S1024x512, .bf16⟩
  | .local _ .vmem, ⟨2, _⟩ => ⟨S512x2048, .bf16⟩
  | .local _ .vmem, ⟨3, _⟩ => ⟨S512x2048, .bf16⟩
  | .local _ .vmem, ⟨4, _⟩ => ⟨S1024x2048, .f32⟩
  | .local _ .vmem, ⟨5, _⟩ => ⟨S1024x2048, .f32⟩
  | .local _ .vmem, ⟨6, _⟩ => ⟨S1x1x2048, .f32⟩
  | .local _ .vmem, ⟨7, _⟩ => ⟨S1x1x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .f32⟩
  | _, _ => ⟨S17408x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![17, 11], ![false, false]⟩

def k0_cond2 (i : grid0.Coords) : BitVec 1 :=
  let arg1 : BitVec 32 := BitVec.ofNat 32 (i 1).val
  let c10_i32 : BitVec 32 := 10#32
  let v13 : BitVec 1 := Scalar.cmpi .eq arg1 c10_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c1_i32 : BitVec 32 := 1#32
  let v1 : BitVec 1 := Scalar.cmpi .slt v0 c1_i32
  let c1_i32_0 : BitVec 32 := 1#32
  let v2 : BitVec 32 := Scalar.subi v0 c1_i32_0
  let c4_i32 : BitVec 32 := 4#32
  let v3 : BitVec 32 := Scalar.divsi v2 c4_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let c1_i32_6 : BitVec 32 := 1#32
  let v18 : BitVec 32 := Scalar.subi v3 c1_i32_6
  let v19 : BitVec 32 := Scalar.select v17 v18 v3
  let c1_i32_7 : BitVec 32 := 1#32
  let v20 : BitVec 32 := Scalar.addi c1_i32_7 v19
  let c0_i32_8 : BitVec 32 := 0#32
  let v21 : BitVec 32 := Scalar.select v1 c0_i32_8 v20
  let c0_i32_9 : BitVec 32 := 0#32
  let c0_i32_10 : BitVec 32 := 0#32
  let c0_i32_11 : BitVec 32 := 0#32
  ![v21.toNat, c0_i32_9.toNat, c0_i32_10.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference7Ideal.lean ====
abbrev S17408x5632 : Shape := ⟨2, ![17408, 5632]⟩
abbrev S1x5632x2048 : Shape := ⟨3, ![1, 5632, 2048]⟩
abbrev S17408x2048 : Shape := ⟨2, ![17408, 2048]⟩
abbrev S8x2048 : Shape := ⟨2, ![8, 2048]⟩
abbrev S1x2048 : Shape := ⟨2, ![1, 2048]⟩
abbrev S1024x2048 : Shape := ⟨2, ![1024, 2048]⟩
abbrev S4x2048 : Shape := ⟨2, ![4, 2048]⟩
abbrev S4x1x2048 : Shape := ⟨3, ![4, 1, 2048]⟩
abbrev S4x4096x2048 : Shape := ⟨3, ![4, 4096, 2048]⟩
abbrev S16384x2048 : Shape := ⟨2, ![16384, 2048]⟩
abbrev S5632x2048 : Shape := ⟨2, ![5632, 2048]⟩

abbrev nBuf : Space → Nat
  | .hbm => 15
  | .vmem => 0
  | .smem => 0
  | _ => 0

abbrev bufTy : (tb : Table) → Fin (tcTables nBuf tb) → BufTy
  | .hbm, ⟨0, _⟩ => ⟨S17408x5632, .f32⟩
  | .hbm, ⟨1, _⟩ => ⟨S1x5632x2048, .f32⟩
  | .hbm, ⟨2, _⟩ => ⟨S17408x2048, .f32⟩
  | .hbm, ⟨3, _⟩ => ⟨S8x2048, .f32⟩
  | .hbm, ⟨4, _⟩ => ⟨S1x2048, .f32⟩
  | .hbm, ⟨5, _⟩ => ⟨S1024x2048, .f32⟩
  | .hbm, ⟨6, _⟩ => ⟨S4x2048, .f32⟩
  | .hbm, ⟨7, _⟩ => ⟨S4x1x2048, .f32⟩
  | .hbm, ⟨8, _⟩ => ⟨S4x4096x2048, .f32⟩
  | .hbm, ⟨9, _⟩ => ⟨S16384x2048, .f32⟩
  | .hbm, ⟨10, _⟩ => ⟨S17408x2048, .f32⟩
  | .hbm, ⟨11, _⟩ => ⟨S5632x2048, .f32⟩
  | .hbm, ⟨12, _⟩ => ⟨S17408x2048, .f32⟩
  | .hbm, ⟨13, _⟩ => ⟨S17408x2048, .f32⟩
  | .hbm, ⟨14, _⟩ => ⟨S17408x2048, .f32⟩
  | _, _ => ⟨S17408x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel8.lean ====
abbrev S16384x1024 : Shape := ⟨2, ![16384, 1024]⟩
abbrev S17408x1024 : Shape := ⟨2, ![17408, 1024]⟩
abbrev S17408x6144 : Shape := ⟨2, ![17408, 6144]⟩
abbrev S2x3x1024x2048 : Shape := ⟨4, ![2, 3, 1024, 2048]⟩
abbrev S16384x2048 : Shape := ⟨2, ![16384, 2048]⟩
abbrev S512x1024 : Shape := ⟨2, ![512, 1024]⟩
abbrev S1x1x1024x1024 : Shape := ⟨4, ![1, 1, 1024, 1024]⟩
abbrev S1024x1024 : Shape := ⟨2, ![1024, 1024]⟩

abbrev nBuf : Space → Nat
  | .hbm => 10
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S17408x1024, .f32⟩
  | .hbm, ⟨3, _⟩ => ⟨S17408x6144, .f32⟩
  | .hbm, ⟨4, _⟩ => ⟨S2x3x1024x2048, .f32⟩
  | .hbm, ⟨5, _⟩ => ⟨S16384x1024, .bf16⟩
  | .hbm, ⟨6, _⟩ => ⟨S16384x1024, .bf16⟩
  | .hbm, ⟨7, _⟩ => ⟨S17408x1024, .bf16⟩
  | .hbm, ⟨8, _⟩ => ⟨S17408x6144, .bf16⟩
  | .hbm, ⟨9, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1x1x1024x1024, .f32⟩
  | .local _ .vmem, ⟨13, _⟩ => ⟨S1x1x1024x1024, .f32⟩
  | .local _ .vmem, ⟨14, _⟩ => ⟨S1x1x1024x1024, .f32⟩
  | .local _ .vmem, ⟨15, _⟩ => ⟨S1x1x1024x1024, .f32⟩
  | .local _ .vmem, ⟨16, _⟩ => ⟨S1x1x1024x1024, .f32⟩
  | .local _ .vmem, ⟨17, _⟩ => ⟨S1x1x1024x1024, .f32⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let v1 : BitVec 32 := Scalar.addi c0_i32 arg0
  let c0_i32_0 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c2_i32_0 : BitVec 32 := 2#32
  let v1 : BitVec 32 := Scalar.addi c2_i32_0 arg0
  let c0_i32 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c4_i32 : BitVec 32 := 4#32
  let v1 : BitVec 32 := Scalar.addi c4_i32 arg0
  let c0_i32 : BitVec 32 := 0#32
  ![v0.toNat, v1.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat, arg0.toNat]

def cc0_transform_7 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat, arg0.toNat]

def cc0_transform_8 (i : grid0.Coords) : Fin 4 → Nat :=
  let arg0 : BitVec 32 := BitVec.ofNat 32 (i 0).val
  let arg1 : BitVec 32 := BitVec.ofNat 32 (i 1).val
  let c1_i32 : BitVec 32 := 1#32
  let c2_i32 : BitVec 32 := 2#32
  let c0_i32 : BitVec 32 := 0#32
  let c0_i32_0 : BitVec 32 := 0#32
  ![c1_i32.toNat, c2_i32.toNat, c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference8Ideal.lean ====
abbrev S16384x1024 : Shape := ⟨2, ![16384, 1024]⟩
abbrev S17408x1024 : Shape := ⟨2, ![17408, 1024]⟩
abbrev S17408x6144 : Shape := ⟨2, ![17408, 6144]⟩
abbrev S2x3x1024x2048 : Shape := ⟨4, ![2, 3, 1024, 2048]⟩
abbrev S16384x1x1024 : Shape := ⟨3, ![16384, 1, 1024]⟩
abbrev S16384x3x1024 : Shape := ⟨3, ![16384, 3, 1024]⟩
abbrev S1x3x1024x2048 : Shape := ⟨4, ![1, 3, 1024, 2048]⟩
abbrev S3x1024x2048 : Shape := ⟨3, ![3, 1024, 2048]⟩
abbrev S3x2048x16384 : Shape := ⟨3, ![3, 2048, 16384]⟩
abbrev S16384x3x2048 : Shape := ⟨3, ![16384, 3, 2048]⟩
abbrev S16384x6144 : Shape := ⟨2, ![16384, 6144]⟩
abbrev S_ : Shape := ⟨0, ![]⟩
abbrev S16384x2048 : Shape := ⟨2, ![16384, 2048]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S17408x1024, .f32⟩
  | .hbm, ⟨3, _⟩ => ⟨S17408x6144, .f32⟩
  | .hbm, ⟨4, _⟩ => ⟨S2x3x1024x2048, .f32⟩
  | .hbm, ⟨5, _⟩ => ⟨S16384x1024, .f32⟩
  | .hbm, ⟨6, _⟩ => ⟨S16384x1x1024, .f32⟩
  | .hbm, ⟨7, _⟩ => ⟨S16384x1x1024, .f32⟩
  | .hbm, ⟨8, _⟩ => ⟨S16384x1x1024, .f32⟩
  | .hbm, ⟨9, _⟩ => ⟨S16384x3x1024, .f32⟩
  | .hbm, ⟨10, _⟩ => ⟨S1x3x1024x2048, .f32⟩
  | .hbm, ⟨11, _⟩ => ⟨S3x1024x2048, .f32⟩
  | .hbm, ⟨12, _⟩ => ⟨S3x2048x16384, .f32⟩
  | .hbm, ⟨13, _⟩ => ⟨S16384x3x2048, .f32⟩
  | .hbm, ⟨14, _⟩ => ⟨S16384x6144, .f32⟩
  | .hbm, ⟨15, _⟩ => ⟨S16384x3x2048, .f32⟩
  | .hbm, ⟨16, _⟩ => ⟨S16384x3x2048, .f32⟩
  | .hbm, ⟨17, _⟩ => ⟨S_, .f32⟩
  | .hbm, ⟨18, _⟩ => ⟨S16384x2048, .f32⟩
  | .hbm, ⟨19, _⟩ => ⟨S16384x2048, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel9.lean ====
abbrev S17408x2048 : Shape := ⟨2, ![17408, 2048]⟩
abbrev S2x2048x2048 : Shape := ⟨3, ![2, 2048, 2048]⟩
abbrev S4x256x2048 : Shape := ⟨3, ![4, 256, 2048]⟩
abbrev S4x4096x2048 : Shape := ⟨3, ![4, 4096, 2048]⟩
abbrev S8x2048 : Shape := ⟨2, ![8, 2048]⟩
abbrev S1024x2048 : Shape := ⟨2, ![1024, 2048]⟩
abbrev S16384x2048 : Shape := ⟨2, ![16384, 2048]⟩
abbrev S8x1x2048 : Shape := ⟨3, ![8, 1, 2048]⟩
abbrev S1x2048x1024 : Shape := ⟨3, ![1, 2048, 1024]⟩
abbrev S1024x1024 : Shape := ⟨2, ![1024, 1024]⟩
abbrev S1x1x1024 : Shape := ⟨3, ![1, 1, 1024]⟩
abbrev S2048x1024 : Shape := ⟨2, ![2048, 1024]⟩
abbrev S1x1024 : Shape := ⟨2, ![1, 1024]⟩

abbrev nBuf : Space → Nat
  | .hbm => 10
  | .vmem => 13
  | .smem => 0
  | _ => 0

abbrev bufTy : (tb : Table) → Fin (tcTables nBuf tb) → BufTy
  | .hbm, ⟨0, _⟩ => ⟨S17408x2048, .f32⟩
  | .hbm, ⟨1, _⟩ => ⟨S2x2048x2048, .f32⟩
  | .hbm, ⟨2, _⟩ => ⟨S4x256x2048, .f32⟩
  | .hbm, ⟨3, _⟩ => ⟨S4x4096x2048, .f32⟩
  | .hbm, ⟨4, _⟩ => ⟨S8x2048, .f32⟩
  | .hbm, ⟨5, _⟩ => ⟨S1024x2048, .f32⟩
  | .hbm, ⟨6, _⟩ => ⟨S16384x2048, .f32⟩
  | .hbm, ⟨7, _⟩ => ⟨S8x1x2048, .f32⟩
  | .hbm, ⟨8, _⟩ => ⟨S17408x2048, .bf16⟩
  | .hbm, ⟨9, _⟩ => ⟨S17408x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S1024x1024, .f32⟩
  | .local _ .vmem, ⟨11, _⟩ => ⟨S1024x1024, .f32⟩
  | .local _ .vmem, ⟨12, _⟩ => ⟨S2048x1024, .bf16⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c1_i32_0 : BitVec 32 := 1#32
  let v1 : BitVec 32 := Scalar.subi arg1 c1_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c0_i32_8 : BitVec 32 := 0#32
  let c0_i32_9 : BitVec 32 := 0#32
  ![v20.toNat, c0_i32_8.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference9Ideal.lean ====
abbrev S17408x2048 : Shape := ⟨2, ![17408, 2048]⟩
abbrev S2x2048x2048 : Shape := ⟨3, ![2, 2048, 2048]⟩
abbrev S4x256x2048 : Shape := ⟨3, ![4, 256, 2048]⟩
abbrev S4x4096x2048 : Shape := ⟨3, ![4, 4096, 2048]⟩
abbrev S8x2048 : Shape := ⟨2, ![8, 2048]⟩
abbrev S1x2048x2048 : Shape := ⟨3, ![1, 2048, 2048]⟩
abbrev S2048x2048 : Shape := ⟨2, ![2048, 2048]⟩
abbrev S1024x2048 : Shape := ⟨2, ![1024, 2048]⟩
abbrev S16384x2048 : Shape := ⟨2, ![16384, 2048]⟩
abbrev S1x2048 : Shape := ⟨2, ![1, 2048]⟩
abbrev S2048 : Shape := ⟨1, ![2048]⟩
abbrev S1x1x2048 : Shape := ⟨3, ![1, 1, 2048]⟩
abbrev S4x2048 : Shape := ⟨2, ![4, 2048]⟩
abbrev S4x1x2048 : Shape := ⟨3, ![4, 1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S17408x2048, .f32⟩
  | .hbm, ⟨1, _⟩ => ⟨S2x2048x2048, .f32⟩
  | .hbm, ⟨2, _⟩ => ⟨S4x256x2048, .f32⟩
  | .hbm, ⟨3, _⟩ => ⟨S4x4096x2048, .f32⟩
  | .hbm, ⟨4, _⟩ => ⟨S8x2048, .f32⟩
  | .hbm, ⟨5, _⟩ => ⟨S1x2048x2048, .f32⟩
  | .hbm, ⟨6, _⟩ => ⟨S2048x2048, .f32⟩
  | .hbm, ⟨7, _⟩ => ⟨S17408x2048, .f32⟩
  | .hbm, ⟨8, _⟩ => ⟨S1024x2048, .f32⟩
  | .hbm, ⟨9, _⟩ => ⟨S4x256x2048, .f32⟩
  | .hbm, ⟨10, _⟩ => ⟨S16384x2048, .f32⟩
  | .hbm, ⟨11, _⟩ => ⟨S4x4096x2048, .f32⟩
  | .hbm, ⟨12, _⟩ => ⟨S1x2048, .f32⟩
  | .hbm, ⟨13, _⟩ => ⟨S2048, .f32⟩
  | .hbm, ⟨14, _⟩ => ⟨S1x1x2048, .f32⟩
  | .hbm, ⟨15, _⟩ => ⟨S4x256x2048, .f32⟩
  | .hbm, ⟨16, _⟩ => ⟨S4x256x2048, .f32⟩
  | .hbm, ⟨17, _⟩ => ⟨S4x256x2048, .f32⟩
  | .hbm, ⟨18, _⟩ => ⟨S4x2048, .f32⟩
  | .hbm, ⟨19, _⟩ => ⟨S4x1x2048, .f32⟩
  | .hbm, ⟨20, _⟩ => ⟨S4x4096x2048, .f32⟩
  | .hbm, ⟨21, _⟩ => ⟨S4x4096x2048, .f32⟩
  | .hbm, ⟨22, _⟩ => ⟨S4x4096x2048, .f32⟩
  | .hbm, ⟨23, _⟩ => ⟨S1024x2048, .f32⟩
  | .hbm, ⟨24, _⟩ => ⟨S16384x2048, .f32⟩
  | .hbm, ⟨25, _⟩ => ⟨S17408x2048, .f32⟩
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩

abbrev nD : Nat := 1
abbrev τ : Topo := Topo.v7x

variable {F : FTy → Type} [FloatOps F]
-- ==== Kernel10.lean ====
abbrev S17408x1024 : Shape := ⟨2, ![17408, 1024]⟩
abbrev S2x1024x2048 : Shape := ⟨3, ![2, 1024, 2048]⟩
abbrev S2x2048 : Shape := ⟨2, ![2, 2048]⟩
abbrev S2x1x2048 : Shape := ⟨3, ![2, 1, 2048]⟩
abbrev S1024x1024 : Shape := ⟨2, ![1024, 1024]⟩
abbrev S1x1024x1024 : Shape := ⟨3, ![1, 1024, 1024]⟩
abbrev S1x1x1024 : Shape := ⟨3, ![1, 1, 1024]⟩
abbrev S1x1024 : Shape := ⟨2, ![1, 1024]⟩

abbrev nBuf : Space → Nat
  | .hbm => 5
  | .vmem => 10
  | .smem => 0
  | _ => 0

abbrev bufTy : (tb : Table) → Fin (tcTables nBuf tb) → BufTy
  | .hbm, ⟨0, _⟩ => ⟨S17408x1024, .f32⟩
  | .hbm, ⟨1, _⟩ => ⟨S2x1024x2048, .f32⟩
  | .hbm, ⟨2, _⟩ => ⟨S2x2048, .f32⟩
  | .hbm, ⟨3, _⟩ => ⟨S2x1x2048, .f32⟩
  | .hbm, ⟨4, _⟩ => ⟨S17408x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![1, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference10Ideal.lean ====
abbrev S17408x1024 : Shape := ⟨2, ![17408, 1024]⟩
abbrev S2x1024x2048 : Shape := ⟨3, ![2, 1024, 2048]⟩
abbrev S2x2048 : Shape := ⟨2, ![2, 2048]⟩
abbrev S1x1024x2048 : Shape := ⟨3, ![1, 1024, 2048]⟩
abbrev S1024x2048 : Shape := ⟨2, ![1024, 2048]⟩
abbrev S17408x2048 : Shape := ⟨2, ![17408, 2048]⟩
abbrev S1x2048 : Shape := ⟨2, ![1, 2048]⟩
abbrev S2048 : Shape := ⟨1, ![2048]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S2x1024x2048, .f32⟩
  | .hbm, ⟨2, _⟩ => ⟨S2x2048, .f32⟩
  | .hbm, ⟨3, _⟩ => ⟨S1x1024x2048, .f32⟩
  | .hbm, ⟨4, _⟩ => ⟨S1024x2048, .f32⟩
  | .hbm, ⟨5, _⟩ => ⟨S17408x2048, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S17408x2048, .f32⟩
  | .hbm, ⟨10, _⟩ => ⟨S17408x2048, .f32⟩
  | .hbm, ⟨11, _⟩ => ⟨S17408x1024, .f32⟩
  | .hbm, ⟨12, _⟩ => ⟨S17408x1024, .f32⟩
  | .hbm, ⟨13, _⟩ => ⟨S17408x1024, .f32⟩
  | .hbm, ⟨14, _⟩ => ⟨S17408x1024, .f32⟩
  | .hbm, ⟨15, _⟩ => ⟨S_, .f32⟩
  | .hbm, ⟨16, _⟩ => ⟨S17408x1024, .f32⟩
  | .hbm, ⟨17, _⟩ => ⟨S17408x1024, .f32⟩
  | .hbm, ⟨18, _⟩ => ⟨S_, .f32⟩
  | .hbm, ⟨19, _⟩ => ⟨S17408x1024, .f32⟩
  | .hbm, ⟨20, _⟩ => ⟨S17408x1024, .f32⟩
  | .hbm, ⟨21, _⟩ => ⟨S17408x1024, .f32⟩
  | .hbm, ⟨22, _⟩ => ⟨S17408x1024, .bf16⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== Proof.Block.lean ====
module

public import proofs.«01_k».proof.Proof.Gen.KernelIdeal.Value
public import Idealize.ShloMosaic.Lib.Pointwise
public import Idealize.ShloMosaic.Lib.WholeRead

/-! What one grid point of the attention kernel computes at the ideal instance: for each of its 512 queries, the
    softmax over the 256 context keys and the 4096 latent keys, in base two, of the queries' products with the keys,
    and the sum of the values with those weights. -/

@[expose] public section

set_option maxRecDepth 16384

noncomputable section

namespace Cert.KernelIdeal.Block

open Cert.KernelIdeal Cert.KernelIdeal.Gen Idealize.ShloMosaic Idealize.ShloMosaic.TcCoe
open Idealize.ShloMosaic.Pointwise

/-! ## The block's mathematics -/

/-- Key `j` of a block's 4352: the 256 context keys, then the 4096 latent ones (zero past the end). -/
def keyN (x1 : Vec Ideal S256x256 .bf16) (x2 : Vec Ideal S4096x256 .bf16) (j : ℕ) (k : Fin 256) : EReal :=
  if h : j < 256 then x1 (ix2 ⟨j, h⟩ k) else if h' : j - 256 < 4096 then x2 (ix2 ⟨j - 256, h'⟩ k) else 0

/-- Column `d` of value `j` of a block's 4352: the 256 context values, then the 4096 latent ones. -/
def valN (x3 : Vec Ideal S128x256 .bf16) (x4 : Vec Ideal S128x4096 .bf16) (d : Fin 128) (j : ℕ) : EReal :=
  if h : j < 256 then x3 (ix2 d ⟨j, h⟩) else if h' : j - 256 < 4096 then x4 (ix2 d ⟨j - 256, h'⟩) else 0

/-- The score of query `r` of the block against key `j`. -/
def score (x0 : Vec Ideal S512x256 .bf16) (x1 : Vec Ideal S256x256 .bf16) (x2 : Vec Ideal S4096x256 .bf16)
    (r : Fin 512) (j : ℕ) : EReal := ∑ k : Fin 256, x0 (ix2 r k) * keyN x1 x2 j k

/-- Two to the power `x`, on the extended reals. -/
abbrev pow2 (x : EReal) : EReal := FloatOps.exp2 (F := Ideal) (φ := .f32) x

/-- Softmax attention in base two of one query with scores `s` over `n` keys, on a column `v` of the values: the
    weights are two to the power of the score less the greatest one, and their sum divides at the end. -/
def attend2 (n : ℕ) (s v : ℕ → EReal) : EReal :=
  Ideal.div (∑ j ∈ Finset.range n, v j * pow2 (s j - (Finset.range n).sup s))
    (∑ j ∈ Finset.range n, pow2 (s j - (Finset.range n).sup s))

/-! ## Lanes and chunks -/

/-- The greatest over 128 lanes of the greatest of a lane's 34 scores is the greatest of all 4352. -/
theorem lanes_max (f : ℕ → EReal) :
    Finset.fold max (⊥ : EReal) (fun x : Fin 128 => (max (max (max (max (max (max (max (max (max (max (max (max (max (max (max (max (max (max (max (max (max (max (max (max (max (max (max (max (max (max (max (max (max (max ⊥ (f ↑x)) (f (128 + ↑x))) (f (256 + ↑x))) (f (384 + ↑x))) (f (512 + ↑x))) (f (640 + ↑x))) (f (768 + ↑x))) (f (896 + ↑x))) (f (1024 + ↑x))) (f (1152 + ↑x))) (f (1280 + ↑x))) (f (1408 + ↑x))) (f (1536 + ↑x))) (f (1664 + ↑x))) (f (1792 + ↑x))) (f (1920 + ↑x))) (f (2048 + ↑x))) (f (2176 + ↑x))) (f (2304 + ↑x))) (f (2432 + ↑x))) (f (2560 + ↑x))) (f (2688 + ↑x))) (f (2816 + ↑x))) (f (2944 + ↑x))) (f (3072 + ↑x))) (f (3200 + ↑x))) (f (3328 + ↑x))) (f (3456 + ↑x))) (f (3584 + ↑x))) (f (3712 + ↑x))) (f (3840 + ↑x))) (f (3968 + ↑x))) (f (4096 + ↑x))) (f (4224 + ↑x)))) Finset.univ
      = (Finset.range 4352).sup f := by
  have hle : ∀ a : EReal, Finset.fold max (⊥ : EReal) (fun x : Fin 128 => (max (max (max (max (max (max (max (max (max (max (max (max (max (max (max (max (max (max (max (max (max (max (max (max (max (max (max (max (max (max (max (max (max (max ⊥ (f ↑x)) (f (128 + ↑x))) (f (256 + ↑x))) (f (384 + ↑x))) (f (512 + ↑x))) (f (640 + ↑x))) (f (768 + ↑x))) (f (896 + ↑x))) (f (1024 + ↑x))) (f (1152 + ↑x))) (f (1280 + ↑x))) (f (1408 + ↑x))) (f (1536 + ↑x))) (f (1664 + ↑x))) (f (1792 + ↑x))) (f (1920 + ↑x))) (f (2048 + ↑x))) (f (2176 + ↑x))) (f (2304 + ↑x))) (f (2432 + ↑x))) (f (2560 + ↑x))) (f (2688 + ↑x))) (f (2816 + ↑x))) (f (2944 + ↑x))) (f (3072 + ↑x))) (f (3200 + ↑x))) (f (3328 + ↑x))) (f (3456 + ↑x))) (f (3584 + ↑x))) (f (3712 + ↑x))) (f (3840 + ↑x))) (f (3968 + ↑x))) (f (4096 + ↑x))) (f (4224 + ↑x)))) Finset.univ ≤ a
      ↔ (Finset.range 4352).sup f ≤ a := by
    intro a
    rw [Finset.fold_max_le, Finset.sup_le_iff]
    simp only [max_le_iff, bot_le, true_and, Finset.mem_univ, forall_true_left, Finset.mem_range]
    constructor
    · intro h j hj
      have hx := h ⟨j % 128, Nat.mod_lt _ (by norm_num)⟩
      have hd : j / 128 < 34 := by omega
      have hj' : j = 128 * (j / 128) + j % 128 := by omega
      rw [hj']
      generalize j / 128 = c at hd hx ⊢
      simp only [Fin.val_mk] at hx
      interval_cases c <;> simp only [Nat.reduceMul, zero_add] <;> tauto
    · intro h x
      have hx := x.isLt
      repeat' apply And.intro
      all_goals (apply h; omega)
  exact eq_of_forall_ge_iff hle

/-- The sum over 128 lanes of the sum of a lane's 34 terms is the sum of all 4352. -/
theorem lanes_sum (f : ℕ → EReal) :
    (∑ x : Fin 128, (0 + f ↑x + f (128 + ↑x) + f (256 + ↑x) + f (384 + ↑x) + f (512 + ↑x) + f (640 + ↑x) + f (768 + ↑x) + f (896 + ↑x) + f (1024 + ↑x) + f (1152 + ↑x) + f (1280 + ↑x) + f (1408 + ↑x) + f (1536 + ↑x) + f (1664 + ↑x) + f (1792 + ↑x) + f (1920 + ↑x) + f (2048 + ↑x) + f (2176 + ↑x) + f (2304 + ↑x) + f (2432 + ↑x) + f (2560 + ↑x) + f (2688 + ↑x) + f (2816 + ↑x) + f (2944 + ↑x) + f (3072 + ↑x) + f (3200 + ↑x) + f (3328 + ↑x) + f (3456 + ↑x) + f (3584 + ↑x) + f (3712 + ↑x) + f (3840 + ↑x) + f (3968 + ↑x) + f (4096 + ↑x) + f (4224 + ↑x))) = ∑ j ∈ Finset.range 4352, f j := by
  have e : ∑ j ∈ Finset.range 4352, f j = ∑ x : Fin 128, ∑ c : Fin 34, f (128 * c + x) := by
    rw [Finset.sum_comm, ← Fintype.sum_prod_type', Finset.sum_range]
    exact (Equiv.sum_comp (finProdFinEquiv (m := 34) (n := 128)) (fun j : Fin 4352 => f j)).symm.trans
      (Finset.sum_congr rfl fun p _ => by rw [finProdFinEquiv_apply_val, add_comm])
  rw [e]
  refine Finset.sum_congr rfl fun x _ => ?_
  simp only [Fin.sum_univ_castSucc, Finset.univ_eq_empty, Finset.sum_empty]
  simp

/-- The sums over the nine chunks, added in turn, are the sum over all 4352. -/
theorem chunks_sum (g : ℕ → EReal) :
    ∑ x : Fin 256, g x + ∑ x : Fin 512, g (256 + x) + ∑ x : Fin 512, g (768 + x) + ∑ x : Fin 512, g (1280 + x) + ∑ x : Fin 512, g (1792 + x) + ∑ x : Fin 512, g (2304 + x) + ∑ x : Fin 512, g (2816 + x) + ∑ x : Fin 512, g (3328 + x) + ∑ x : Fin 512, g (3840 + x)
      = ∑ j ∈ Finset.range 4352, g j := by
  have h : ∀ n : ℕ, ∑ j ∈ Finset.range (n + 512), g j = ∑ j ∈ Finset.range n, g j + ∑ x : Fin 512, g (n + x) := fun n => by
    rw [Finset.sum_range_add, Finset.sum_range (fun x => g (n + x))]
  rw [← Finset.sum_range g]
  simp only [← h]

/-! ## The payloads at an index -/

/-- The scores of the chunk at 0: each query's product with each of its 256 keys. -/
theorem pay3_at (q : Vec Ideal S512x256 .bf16) (k : Vec Ideal S256x256 .bf16) (r : Fin 512) (x : Fin 256) :
    k0_pay3 (F := Ideal) q k (ix2 r x) = ∑ d : Fin 256, q (ix2 r d) * k (ix2 x d) := by
  pointwise [k0_pay3, k0_pay2]

/-- What the chunk's store puts into the scratch: those scores. -/
theorem pay4_at (q : Vec Ideal S512x256 .bf16) (k : Vec Ideal S256x256 .bf16) (r : Fin 512) (x : Fin 256) :
    k0_pay4 (F := Ideal) q k (ix2 r x) = ∑ d : Fin 256, q (ix2 r d) * k (ix2 x d) := by
  pointwise [k0_pay4, k0_pay3, k0_pay2]

/-- The scores of the chunk at 256: each query's product with each of its 512 keys. -/
theorem pay5_at (q : Vec Ideal S512x256 .bf16) (k : Vec Ideal S512x256 .bf16) (r : Fin 512) (x : Fin 512) :
    k0_pay5 (F := Ideal) q k (ix2 r x) = ∑ d : Fin 256, q (ix2 r d) * k (ix2 x d) := by
  pointwise [k0_pay5, k0_pay2]

/-- What the chunk's store puts into the scratch: those scores. -/
theorem pay6_at (q : Vec Ideal S512x256 .bf16) (k : Vec Ideal S512x256 .bf16) (r : Fin 512) (x : Fin 512) :
    k0_pay6 (F := Ideal) q k (ix2 r x) = ∑ d : Fin 256, q (ix2 r d) * k (ix2 x d) := by
  pointwise [k0_pay6, k0_pay5, k0_pay2]

/-- The scores of the chunk at 768: each query's product with each of its 512 keys. -/
theorem pay7_at (q : Vec Ideal S512x256 .bf16) (k : Vec Ideal S512x256 .bf16) (r : Fin 512) (x : Fin 512) :
    k0_pay7 (F := Ideal) q k (ix2 r x) = ∑ d : Fin 256, q (ix2 r d) * k (ix2 x d) := by
  pointwise [k0_pay7, k0_pay2]

/-- What the chunk's store puts into the scratch: those scores. -/
theorem pay8_at (q : Vec Ideal S512x256 .bf16) (k : Vec Ideal S512x256 .bf16) (r : Fin 512) (x : Fin 512) :
    k0_pay8 (F := Ideal) q k (ix2 r x) = ∑ d : Fin 256, q (ix2 r d) * k (ix2 x d) := by
  pointwise [k0_pay8, k0_pay7, k0_pay2]

/-- The scores of the chunk at 1280: each query's product with each of its 512 keys. -/
theorem pay11_at (q : Vec Ideal S512x256 .bf16) (k : Vec Ideal S512x256 .bf16) (r : Fin 512) (x : Fin 512) :
    k0_pay11 (F := Ideal) q k (ix2 r x) = ∑ d : Fin 256, q (ix2 r d) * k (ix2 x d) := by
  pointwise [k0_pay11, k0_pay2]

/-- What the chunk's store puts into the scratch: those scores. -/
theorem pay12_at (q : Vec Ideal S512x256 .bf16) (k : Vec Ideal S512x256 .bf16) (r : Fin 512) (x : Fin 512) :
    k0_pay12 (F := Ideal) q k (ix2 r x) = ∑ d : Fin 256, q (ix2 r d) * k (ix2 x d) := by
  pointwise [k0_pay12, k0_pay11, k0_pay2]

/-- The scores of the chunk at 1792: each query's product with each of its 512 keys. -/
theorem pay13_at (q : Vec Ideal S512x256 .bf16) (k : Vec Ideal S512x256 .bf16) (r : Fin 512) (x : Fin 512) :
    k0_pay13 (F := Ideal) q k (ix2 r x) = ∑ d : Fin 256, q (ix2 r d) * k (ix2 x d) := by
  pointwise [k0_pay13, k0_pay2]

/-- What the chunk's store puts into the scratch: those scores. -/
theorem pay14_at (q : Vec Ideal S512x256 .bf16) (k : Vec Ideal S512x256 .bf16) (r : Fin 512) (x : Fin 512) :
    k0_pay14 (F := Ideal) q k (ix2 r x) = ∑ d : Fin 256, q (ix2 r d) * k (ix2 x d) := by
  pointwise [k0_pay14, k0_pay13, k0_pay2]

/-- The scores of the chunk at 2304: each query's product with each of its 512 keys. -/
theorem pay15_at (q : Vec Ideal S512x256 .bf16) (k : Vec Ideal S512x256 .bf16) (r : Fin 512) (x : Fin 512) :
    k0_pay15 (F := Ideal) q k (ix2 r x) = ∑ d : Fin 256, q (ix2 r d) * k (ix2 x d) := by
  pointwise [k0_pay15, k0_pay2]

/-- What the chunk's store puts into the scratch: those scores. -/
theorem pay16_at (q : Vec Ideal S512x256 .bf16) (k : Vec Ideal S512x256 .bf16) (r : Fin 512) (x : Fin 512) :
    k0_pay16 (F := Ideal) q k (ix2 r x) = ∑ d : Fin 256, q (ix2 r d) * k (ix2 x d) := by
  pointwise [k0_pay16, k0_pay15, k0_pay2]

/-- The scores of the chunk at 2816: each query's product with each of its 512 keys. -/
theorem pay19_at (q : Vec Ideal S512x256 .bf16) (k : Vec Ideal S512x256 .bf16) (r : Fin 512) (x : Fin 512) :
    k0_pay19 (F := Ideal) q k (ix2 r x) = ∑ d : Fin 256, q (ix2 r d) * k (ix2 x d) := by
  pointwise [k0_pay19, k0_pay2]

/-- What the chunk's store puts into the scratch: those scores. -/
theorem pay20_at (q : Vec Ideal S512x256 .bf16) (k : Vec Ideal S512x256 .bf16) (r : Fin 512) (x : Fin 512) :
    k0_pay20 (F := Ideal) q k (ix2 r x) = ∑ d : Fin 256, q (ix2 r d) * k (ix2 x d) := by
  pointwise [k0_pay20, k0_pay19, k0_pay2]

/-- The scores of the chunk at 3328: each query's product with each of its 512 keys. -/
theorem pay21_at (q : Vec Ideal S512x256 .bf16) (k : Vec Ideal S512x256 .bf16) (r : Fin 512) (x : Fin 512) :
    k0_pay21 (F := Ideal) q k (ix2 r x) = ∑ d : Fin 256, q (ix2 r d) * k (ix2 x d) := by
  pointwise [k0_pay21, k0_pay2]

/-- What the chunk's store puts into the scratch: those scores. -/
theorem pay22_at (q : Vec Ideal S512x256 .bf16) (k : Vec Ideal S512x256 .bf16) (r : Fin 512) (x : Fin 512) :
    k0_pay22 (F := Ideal) q k (ix2 r x) = ∑ d : Fin 256, q (ix2 r d) * k (ix2 x d) := by
  pointwise [k0_pay22, k0_pay21, k0_pay2]

/-- The scores of the chunk at 3840: each query's product with each of its 512 keys. -/
theorem pay23_at (q : Vec Ideal S512x256 .bf16) (k : Vec Ideal S512x256 .bf16) (r : Fin 512) (x : Fin 512) :
    k0_pay23 (F := Ideal) q k (ix2 r x) = ∑ d : Fin 256, q (ix2 r d) * k (ix2 x d) := by
  pointwise [k0_pay23, k0_pay2]

/-- What the chunk's store puts into the scratch: those scores. -/
theorem pay24_at (q : Vec Ideal S512x256 .bf16) (k : Vec Ideal S512x256 .bf16) (r : Fin 512) (x : Fin 512) :
    k0_pay24 (F := Ideal) q k (ix2 r x) = ∑ d : Fin 256, q (ix2 r d) * k (ix2 x d) := by
  pointwise [k0_pay24, k0_pay23, k0_pay2]

/-! ## The loads of the five blocks, at an index -/

variable {c : Dev nD} {arg3 : Memref sig .tc .vmem S512x256 .bf16} {harg3 : arg3.IsWhole}
    {arg4 : Memref sig .tc .vmem S256x256 .bf16} {harg4 : arg4.IsWhole}
    {arg5 : Memref sig .tc .vmem S4096x256 .bf16} {harg5 : arg5.IsWhole}
    {arg6 : Memref sig .tc .vmem S128x256 .bf16} {harg6 : arg6.IsWhole}
    {arg7 : Memref sig .tc .vmem S128x4096 .bf16} {harg7 : arg7.IsWhole}
    {arg8 : Memref sig .tc .vmem S512x128 .bf16} {harg8 : arg8.IsWhole}
    {arg9 : Memref sig .tc .vmem S512x4352 .f32} {harg9 : arg9.IsWhole}
    {x0 : Vec Ideal S512x256 .bf16} {x1 : Vec Ideal S256x256 .bf16} {x2 : Vec Ideal S4096x256 .bf16}
    {x3 : Vec Ideal S128x256 .bf16} {x4 : Vec Ideal S128x4096 .bf16}

/-- The block of queries as the body loads it. -/
abbrev ldQ (arg3 : Memref sig .tc .vmem S512x256 .bf16) (harg3 : arg3.IsWhole) (x0 : Vec Ideal S512x256 .bf16) :
    Vec Ideal S512x256 .bf16 :=
  View.readAt (Elt Ideal) arg3.view (Rect.unit (s := S512x256) ![0, 0] S512x256.size inb_S512x256_S512x256_0_0).toLoadRect (harg3.unread x0)

/-- The block of context keys as the body loads it. -/
abbrev ldKC (arg4 : Memref sig .tc .vmem S256x256 .bf16) (harg4 : arg4.IsWhole) (x1 : Vec Ideal S256x256 .bf16) :
    Vec Ideal S256x256 .bf16 :=
  View.readAt (Elt Ideal) arg4.view (Rect.unit (s := S256x256) ![0, 0] S256x256.size inb_S256x256_S256x256_0_0).toLoadRect (harg4.unread x1)

/-- The 512 latent keys from key `o` on, as the body loads them. -/
abbrev ldKL (arg5 : Memref sig .tc .vmem S4096x256 .bf16) (harg5 : arg5.IsWhole) (x2 : Vec Ideal S4096x256 .bf16)
    (o : ℕ) (inb : ∀ a : Fin S4096x256.rank, (![o, 0] : Fin 2 → ℕ) a + S512x256.size a ≤ S4096x256.size a) :
    Vec Ideal S512x256 .bf16 :=
  View.readAt (Elt Ideal) arg5.view (Rect.unit (s := S4096x256) ![o, 0] S512x256.size inb).toLoadRect (harg5.unread x2)

/-- The block of context values as the body loads it. -/
abbrev ldVC (arg6 : Memref sig .tc .vmem S128x256 .bf16) (harg6 : arg6.IsWhole) (x3 : Vec Ideal S128x256 .bf16) :
    Vec Ideal S128x256 .bf16 :=
  View.readAt (Elt Ideal) arg6.view (Rect.unit (s := S128x256) ![0, 0] S128x256.size inb_S128x256_S128x256_0_0).toLoadRect (harg6.unread x3)

/-- The 512 latent values from value `o` on, as the body loads them. -/
abbrev ldVL (arg7 : Memref sig .tc .vmem S128x4096 .bf16) (harg7 : arg7.IsWhole) (x4 : Vec Ideal S128x4096 .bf16)
    (o : ℕ) (inb : ∀ a : Fin S128x4096.rank, (![0, o] : Fin 2 → ℕ) a + S128x512.size a ≤ S128x4096.size a) :
    Vec Ideal S128x512 .bf16 :=
  View.readAt (Elt Ideal) arg7.view (Rect.unit (s := S128x4096) ![0, o] S128x512.size inb).toLoadRect (harg7.unread x4)

theorem ldQ_at (r : Fin 512) (k : Fin 256) : ldQ arg3 harg3 x0 (ix2 r k) = x0 (ix2 r k) := by
  unfold ldQ
  rw [Memref.IsWhole.readAt_unread]
  pointwise []

theorem ldKC_at (x k : Fin 256) : ldKC arg4 harg4 x1 (ix2 x k) = keyN x1 x2 x k := by
  unfold ldKC
  rw [Memref.IsWhole.readAt_unread, keyN, dif_pos x.isLt]
  pointwise []

theorem ldVC_at (d : Fin 128) (x : Fin 256) : ldVC arg6 harg6 x3 (ix2 d x) = valN x3 x4 d x := by
  unfold ldVC
  rw [Memref.IsWhole.readAt_unread, valN, dif_pos x.isLt]
  pointwise []

theorem ldKL_at (o : ℕ) (inb) (x : Fin 512) (k : Fin 256) :
    ldKL arg5 harg5 x2 o inb (ix2 x k) = keyN x1 x2 (o + 256 + x) k := by
  have ho : o + 512 ≤ 4096 := inb (0 : Fin 2)
  have hx := x.isLt
  unfold ldKL
  rw [Memref.IsWhole.readAt_unread, keyN, dif_neg (by omega), dif_pos (show o + 256 + ↑x - 256 < 4096 by omega)]
  refine congrArg x2 (funext fun a => ?_)
  fin_cases a
  · apply Fin.ext; show o + 1 * (x : ℕ) = o + 256 + ↑x - 256; omega
  · apply Fin.ext; show 0 + 1 * (k : ℕ) = k; omega

theorem ldVL_at (o : ℕ) (inb) (d : Fin 128) (x : Fin 512) :
    ldVL arg7 harg7 x4 o inb (ix2 d x) = valN x3 x4 d (o + 256 + x) := by
  have ho : o + 512 ≤ 4096 := inb (1 : Fin 2)
  have hx := x.isLt
  unfold ldVL
  rw [Memref.IsWhole.readAt_unread, valN, dif_neg (by omega), dif_pos (show o + 256 + ↑x - 256 < 4096 by omega)]
  refine congrArg x4 (funext fun a => ?_)
  fin_cases a
  · apply Fin.ext; show 0 + 1 * (d : ℕ) = d; omega
  · apply Fin.ext; show o + 1 * (x : ℕ) = o + 256 + ↑x - 256; omega

/-- A product with a context key, as the loads read them, is a score. -/
theorem score_ctx (r : Fin 512) (x : Fin 256) :
    ∑ k : Fin 256, ldQ arg3 harg3 x0 (ix2 r k) * ldKC arg4 harg4 x1 (ix2 x k) = score x0 x1 x2 r x :=
  Finset.sum_congr rfl fun k _ => by rw [ldQ_at, ldKC_at (x2 := x2)]

/-- A product with a latent key, as the loads read them, is a score. -/
theorem score_lat (o : ℕ) (inb) (r x : Fin 512) :
    ∑ k : Fin 256, ldQ arg3 harg3 x0 (ix2 r k) * ldKL arg5 harg5 x2 o inb (ix2 x k)
      = score x0 x1 x2 r (o + 256 + x) :=
  Finset.sum_congr rfl fun k _ => by rw [ldQ_at, ldKL_at (x1 := x1)]

/-! ## The scratch read back -/

/-- The queries kept for the later chunks are the block of queries as loaded. -/
theorem r_eq : kernelRun0_A.sl.r (F := Ideal) c arg3 harg3 x0 = ldQ arg3 harg3 x0 := by
  unfold kernelRun0_A.sl.r
  funext y
  pointwise [k0_pay2]

/-- A latent chunk's payload, stored at its columns, is the scores at those columns. -/
theorem piece_lat (p : Vec Ideal S512x512 .f32) (o : ℕ) (inb)
    (hp : ∀ r x, p (ix2 r x) = ∑ k : Fin 256, ldQ arg3 harg3 x0 (ix2 r k) * ldKL arg5 harg5 x2 o inb (ix2 x k))
    (inb' : ∀ a : Fin S512x4352.rank, (![0, o + 256] : Fin 2 → ℕ) a + S512x512.size a ≤ S512x4352.size a)
    (y : S512x512.Idx) :
    p y = score x0 x1 x2 ((Rect.unit (s := S512x4352) ![0, o + 256] S512x512.size inb').emb y 0)
      ((Rect.unit (s := S512x4352) ![0, o + 256] S512x512.size inb').emb y 1) := by
  obtain ⟨r, x, rfl⟩ : ∃ (r : Fin 512) (x : Fin 512), y = ix2 r x :=
    ⟨y 0, y 1, by funext a; fin_cases a <;> rfl⟩
  refine (hp r x).trans ((score_lat (x1 := x1) o inb r x).trans ?_)
  have e0 : r = (Rect.unit (s := S512x4352) ![0, o + 256] S512x512.size inb').emb (ix2 r x) 0 := by
    apply Fin.ext; show (r : ℕ) = 0 + 1 * (r : ℕ); omega
  have e1 : (o + 256 + x : ℕ) = ((Rect.unit (s := S512x4352) ![0, o + 256] S512x512.size inb').emb (ix2 r x) 1 : Fin 4352) := by
    show (o + 256 + x : ℕ) = o + 256 + 1 * (x : ℕ); omega
  exact congrArg₂ (score x0 x1 x2) e0 e1

/-- The context chunk's payload, stored at its columns, is the scores at those columns. -/
theorem piece_ctx (p : Vec Ideal S512x256 .f32)
    (hp : ∀ r x, p (ix2 r x) = ∑ k : Fin 256, ldQ arg3 harg3 x0 (ix2 r k) * ldKC arg4 harg4 x1 (ix2 x k))
    (inb' : ∀ a : Fin S512x4352.rank, (![0, 0] : Fin 2 → ℕ) a + S512x256.size a ≤ S512x4352.size a)
    (y : S512x256.Idx) :
    p y = score x0 x1 x2 ((Rect.unit (s := S512x4352) ![0, 0] S512x256.size inb').emb y 0)
      ((Rect.unit (s := S512x4352) ![0, 0] S512x256.size inb').emb y 1) := by
  obtain ⟨r, x, rfl⟩ : ∃ (r : Fin 512) (x : Fin 256), y = ix2 r x :=
    ⟨y 0, y 1, by funext a; fin_cases a <;> rfl⟩
  refine (hp r x).trans ((score_ctx (x2 := x2) r x).trans ?_)
  have e0 : r = (Rect.unit (s := S512x4352) ![0, 0] S512x256.size inb').emb (ix2 r x) 0 := by
    apply Fin.ext; show (r : ℕ) = 0 + 1 * (r : ℕ); omega
  have e1 : (x : ℕ) = ((Rect.unit (s := S512x4352) ![0, 0] S512x256.size inb').emb (ix2 r x) 1 : Fin 4352) := by
    show (x : ℕ) = 0 + 1 * (x : ℕ); omega
  exact congrArg₂ (score x0 x1 x2) e0 e1

/-- The nine chunks' stores leave the scores in the scratch: a load of any part of it reads scores. -/
theorem scratch_at {off size : Fin S512x4352.rank → ℕ} (inb : ∀ a, off a + size a ≤ S512x4352.size a)
    (x : (Rect.unit (s := S512x4352) off size inb).shape.Idx) :
    arg9.view.readCov (Val := Elt Ideal) (kernelRun0_A.sl.HS0_9 (F := Ideal) c arg3 harg3 arg4 harg4 arg5 harg5 x0 x1 x2)
        (Rect.unit (s := S512x4352) off size inb).toLoadRect x
      = score x0 x1 x2 ((Rect.unit (s := S512x4352) off size inb).idx x 0) ((Rect.unit (s := S512x4352) off size inb).idx x 1) := by
  refine View.read_writes_apply_of_pieces (Val := Elt Ideal) (e := .f32) arg9.view _ (fun y : S512x4352.Idx => score x0 x1 x2 (y 0) (y 1)) _ ?_ _ ?_
  · unfold kernelRun0_A.sl.HS0_9
    simp only [List.forall_mem_cons, List.not_mem_nil, false_imp_iff, implies_true, and_true, r_eq]
    refine ⟨fun y => ?_, fun y => ?_, fun y => ?_, fun y => ?_, fun y => ?_, fun y => ?_, fun y => ?_, fun y => ?_, fun y => ?_⟩
    · exact piece_lat _ 3584 _ (fun r x => pay24_at _ _ r x) _ y
    · exact piece_lat _ 3072 _ (fun r x => pay22_at _ _ r x) _ y
    · exact piece_lat _ 2560 _ (fun r x => pay20_at _ _ r x) _ y
    · exact piece_lat _ 2048 _ (fun r x => pay16_at _ _ r x) _ y
    · exact piece_lat _ 1536 _ (fun r x => pay14_at _ _ r x) _ y
    · exact piece_lat _ 1024 _ (fun r x => pay12_at _ _ r x) _ y
    · exact piece_lat _ 512 _ (fun r x => pay8_at _ _ r x) _ y
    · exact piece_lat _ 0 _ (fun r x => pay6_at _ _ r x) _ y
    · exact piece_ctx _ (fun r x => pay4_at _ _ r x) _ y
  · unfold kernelRun0_A.sl.HS0_9
    simp only [List.exists_mem_cons_iff, List.not_mem_nil, false_and, exists_false, or_false, Rect.mem_set_unit]
    have h0 : (((Rect.unit (s := S512x4352) off size inb).idx x 0 : Fin 512) : ℕ) < 512 := Fin.isLt _
    have h1 : (((Rect.unit (s := S512x4352) off size inb).idx x 1 : Fin 4352) : ℕ) < 4352 := Fin.isLt _
    have hf : ∀ P : Fin 2 → Prop, (∀ a, P a) ↔ P 0 ∧ P 1 := fun P => Fin.forall_fin_two
    simp only [hf, Matrix.cons_val_zero, Matrix.cons_val_one]
    generalize (((Rect.unit (s := S512x4352) off size inb).idx x 0 : Fin 512) : ℕ) = a at h0 ⊢
    generalize (((Rect.unit (s := S512x4352) off size inb).idx x 1 : Fin 4352) : ℕ) = b at h1 ⊢
    omega

/-- The 256 columns from 0 on, read back, are the scores at those columns. -/
theorem v129_at (r : Fin 512) (x : Fin 256) :
    kernelRun0_A.sl.v129 (F := Ideal) c arg3 harg3 arg4 harg4 arg5 harg5 arg9 x0 x1 x2 (ix2 r x) = score x0 x1 x2 r (0 + x) := by
  unfold kernelRun0_A.sl.v129
  rw [scratch_at]
  congr 1
  · apply Fin.ext; show 0 + 1 * (r : ℕ) = r; omega
  · show 0 + 1 * (x : ℕ) = 0 + x; omega

/-- The 512 columns from 256 on, read back, are the scores at those columns. -/
theorem v142_at (r : Fin 512) (x : Fin 512) :
    kernelRun0_A.sl.v142 (F := Ideal) c arg3 harg3 arg4 harg4 arg5 harg5 arg9 x0 x1 x2 (ix2 r x) = score x0 x1 x2 r (256 + x) := by
  unfold kernelRun0_A.sl.v142
  rw [scratch_at]
  congr 1
  · apply Fin.ext; show 0 + 1 * (r : ℕ) = r; omega
  · show 256 + 1 * (x : ℕ) = 256 + x; omega

/-- The 512 columns from 768 on, read back, are the scores at those columns. -/
theorem v159_at (r : Fin 512) (x : Fin 512) :
    kernelRun0_A.sl.v159 (F := Ideal) c arg3 harg3 arg4 harg4 arg5 harg5 arg9 x0 x1 x2 (ix2 r x) = score x0 x1 x2 r (768 + x) := by
  unfold kernelRun0_A.sl.v159
  rw [scratch_at]
  congr 1
  · apply Fin.ext; show 0 + 1 * (r : ℕ) = r; omega
  · show 768 + 1 * (x : ℕ) = 768 + x; omega

/-- The 512 columns from 1280 on, read back, are the scores at those columns. -/
theorem v176_at (r : Fin 512) (x : Fin 512) :
    kernelRun0_A.sl.v176 (F := Ideal) c arg3 harg3 arg4 harg4 arg5 harg5 arg9 x0 x1 x2 (ix2 r x) = score x0 x1 x2 r (1280 + x) := by
  unfold kernelRun0_A.sl.v176
  rw [scratch_at]
  congr 1
  · apply Fin.ext; show 0 + 1 * (r : ℕ) = r; omega
  · show 1280 + 1 * (x : ℕ) = 1280 + x; omega

/-- The 512 columns from 1792 on, read back, are the scores at those columns. -/
theorem v193_at (r : Fin 512) (x : Fin 512) :
    kernelRun0_A.sl.v193 (F := Ideal) c arg3 harg3 arg4 harg4 arg5 harg5 arg9 x0 x1 x2 (ix2 r x) = score x0 x1 x2 r (1792 + x) := by
  unfold kernelRun0_A.sl.v193
  rw [scratch_at]
  congr 1
  · apply Fin.ext; show 0 + 1 * (r : ℕ) = r; omega
  · show 1792 + 1 * (x : ℕ) = 1792 + x; omega

/-- The 512 columns from 2304 on, read back, are the scores at those columns. -/
theorem v210_at (r : Fin 512) (x : Fin 512) :
    kernelRun0_A.sl.v210 (F := Ideal) c arg3 harg3 arg4 harg4 arg5 harg5 arg9 x0 x1 x2 (ix2 r x) = score x0 x1 x2 r (2304 + x) := by
  unfold kernelRun0_A.sl.v210
  rw [scratch_at]
  congr 1
  · apply Fin.ext; show 0 + 1 * (r : ℕ) = r; omega
  · show 2304 + 1 * (x : ℕ) = 2304 + x; omega

/-- The 512 columns from 2816 on, read back, are the scores at those columns. -/
theorem v227_at (r : Fin 512) (x : Fin 512) :
    kernelRun0_A.sl.v227 (F := Ideal) c arg3 harg3 arg4 harg4 arg5 harg5 arg9 x0 x1 x2 (ix2 r x) = score x0 x1 x2 r (2816 + x) := by
  unfold kernelRun0_A.sl.v227
  rw [scratch_at]
  congr 1
  · apply Fin.ext; show 0 + 1 * (r : ℕ) = r; omega
  · show 2816 + 1 * (x : ℕ) = 2816 + x; omega

/-- The 512 columns from 3328 on, read back, are the scores at those columns. -/
theorem v244_at (r : Fin 512) (x : Fin 512) :
    kernelRun0_A.sl.v244 (F := Ideal) c arg3 harg3 arg4 harg4 arg5 harg5 arg9 x0 x1 x2 (ix2 r x) = score x0 x1 x2 r (3328 + x) := by
  unfold kernelRun0_A.sl.v244
  rw [scratch_at]
  congr 1
  · apply Fin.ext; show 0 + 1 * (r : ℕ) = r; omega
  · show 3328 + 1 * (x : ℕ) = 3328 + x; omega

/-- The 512 columns from 3840 on, read back, are the scores at those columns. -/
theorem v261_at (r : Fin 512) (x : Fin 512) :
    kernelRun0_A.sl.v261 (F := Ideal) c arg3 harg3 arg4 harg4 arg5 harg5 arg9 x0 x1 x2 (ix2 r x) = score x0 x1 x2 r (3840 + x) := by
  unfold kernelRun0_A.sl.v261
  rw [scratch_at]
  congr 1
  · apply Fin.ext; show 0 + 1 * (r : ℕ) = r; omega
  · show 3840 + 1 * (x : ℕ) = 3840 + x; omega

/-! ## The greatest score, the sum of the weights, and the block's result -/

/-- The most negative number the running maximum starts from is named minus infinity. -/
theorem neg_big : Named.named (F := Ideal) κ "neg_big" (φ := .f32) 0xF149F2CA#32 = (⊥ : EReal) :=
  IdealRules.named_const.ideal_named_scalar _ _ _ _ rfl

/-- The pattern of minus infinity. -/
theorem ninf : Ideal.ofBits .f32 4286578688#32 = (⊥ : EReal) := by simp [Ideal.ofBits, Ideal.ieee]

/-- The greatest score of query `r` over a block's keys. -/
abbrev top (x0 : Vec Ideal S512x256 .bf16) (x1 : Vec Ideal S256x256 .bf16) (x2 : Vec Ideal S4096x256 .bf16) (r : Fin 512) : EReal :=
  (Finset.range 4352).sup (score x0 x1 x2 r)

/-- The row maximum the body computes is the greatest score. -/
theorem r_10_at (r : Fin 512) (z : Fin 1) :
    kernelRun0_A.sl.r_10 (F := Ideal) c arg3 harg3 arg4 harg4 arg5 harg5 x0 x1 x2 (ix2 r z) = top x0 x1 x2 r := by
  rw [top, ← lanes_max]
  unfold kernelRun0_A.sl.r_10 kernelRun0_A.sl.r_7 kernelRun0_A.sl.r_8 kernelRun0_A.sl.r_9 kernelRun0_A.sl.r_4 kernelRun0_A.sl.r_5 kernelRun0_A.sl.r_6 kernelRun0_A.sl.r_1 kernelRun0_A.sl.r_2 kernelRun0_A.sl.r_3
  rw [r_eq]
  pointwise [k0_pay27, k0_pay25, k0_pay26, k0_pay17, k0_pay18, k0_pay9, k0_pay10]
  rw [ninf, neg_big]
  refine congrArg (fun f => Finset.fold max ⊥ f Finset.univ) (funext fun x => ?_)
  simp only [pay23_at, pay21_at, pay19_at, pay15_at, pay13_at, pay11_at, pay7_at, pay5_at, pay3_at]
  iterate 34 refine congrArg₂ max ?_ ?_
  · rfl
  · exact score_ctx r ⟨x, by omega⟩
  · exact score_ctx r ⟨128 + x, by omega⟩
  · exact (score_lat 0 _ r ⟨x, by omega⟩).trans (congrArg (score x0 x1 x2 r) (show 0 + 256 + (x : ℕ) = 256 + x by omega))
  · exact (score_lat 0 _ r ⟨128 + x, by omega⟩).trans (congrArg (score x0 x1 x2 r) (show 0 + 256 + (128 + (x : ℕ)) = 384 + x by omega))
  · exact (score_lat 0 _ r ⟨256 + x, by omega⟩).trans (congrArg (score x0 x1 x2 r) (show 0 + 256 + (256 + (x : ℕ)) = 512 + x by omega))
  · exact (score_lat 0 _ r ⟨384 + x, by omega⟩).trans (congrArg (score x0 x1 x2 r) (show 0 + 256 + (384 + (x : ℕ)) = 640 + x by omega))
  · exact (score_lat 512 _ r ⟨x, by omega⟩).trans (congrArg (score x0 x1 x2 r) (show 512 + 256 + (x : ℕ) = 768 + x by omega))
  · exact (score_lat 512 _ r ⟨128 + x, by omega⟩).trans (congrArg (score x0 x1 x2 r) (show 512 + 256 + (128 + (x : ℕ)) = 896 + x by omega))
  · exact (score_lat 512 _ r ⟨256 + x, by omega⟩).trans (congrArg (score x0 x1 x2 r) (show 512 + 256 + (256 + (x : ℕ)) = 1024 + x by omega))
  · exact (score_lat 512 _ r ⟨384 + x, by omega⟩).trans (congrArg (score x0 x1 x2 r) (show 512 + 256 + (384 + (x : ℕ)) = 1152 + x by omega))
  · exact (score_lat 1024 _ r ⟨x, by omega⟩).trans (congrArg (score x0 x1 x2 r) (show 1024 + 256 + (x : ℕ) = 1280 + x by omega))
  · exact (score_lat 1024 _ r ⟨128 + x, by omega⟩).trans (congrArg (score x0 x1 x2 r) (show 1024 + 256 + (128 + (x : ℕ)) = 1408 + x by omega))
  · exact (score_lat 1024 _ r ⟨256 + x, by omega⟩).trans (congrArg (score x0 x1 x2 r) (show 1024 + 256 + (256 + (x : ℕ)) = 1536 + x by omega))
  · exact (score_lat 1024 _ r ⟨384 + x, by omega⟩).trans (congrArg (score x0 x1 x2 r) (show 1024 + 256 + (384 + (x : ℕ)) = 1664 + x by omega))
  · exact (score_lat 1536 _ r ⟨x, by omega⟩).trans (congrArg (score x0 x1 x2 r) (show 1536 + 256 + (x : ℕ) = 1792 + x by omega))
  · exact (score_lat 1536 _ r ⟨128 + x, by omega⟩).trans (congrArg (score x0 x1 x2 r) (show 1536 + 256 + (128 + (x : ℕ)) = 1920 + x by omega))
  · exact (score_lat 1536 _ r ⟨256 + x, by omega⟩).trans (congrArg (score x0 x1 x2 r) (show 1536 + 256 + (256 + (x : ℕ)) = 2048 + x by omega))
  · exact (score_lat 1536 _ r ⟨384 + x, by omega⟩).trans (congrArg (score x0 x1 x2 r) (show 1536 + 256 + (384 + (x : ℕ)) = 2176 + x by omega))
  · exact (score_lat 2048 _ r ⟨x, by omega⟩).trans (congrArg (score x0 x1 x2 r) (show 2048 + 256 + (x : ℕ) = 2304 + x by omega))
  · exact (score_lat 2048 _ r ⟨128 + x, by omega⟩).trans (congrArg (score x0 x1 x2 r) (show 2048 + 256 + (128 + (x : ℕ)) = 2432 + x by omega))
  · exact (score_lat 2048 _ r ⟨256 + x, by omega⟩).trans (congrArg (score x0 x1 x2 r) (show 2048 + 256 + (256 + (x : ℕ)) = 2560 + x by omega))
  · exact (score_lat 2048 _ r ⟨384 + x, by omega⟩).trans (congrArg (score x0 x1 x2 r) (show 2048 + 256 + (384 + (x : ℕ)) = 2688 + x by omega))
  · exact (score_lat 2560 _ r ⟨x, by omega⟩).trans (congrArg (score x0 x1 x2 r) (show 2560 + 256 + (x : ℕ) = 2816 + x by omega))
  · exact (score_lat 2560 _ r ⟨128 + x, by omega⟩).trans (congrArg (score x0 x1 x2 r) (show 2560 + 256 + (128 + (x : ℕ)) = 2944 + x by omega))
  · exact (score_lat 2560 _ r ⟨256 + x, by omega⟩).trans (congrArg (score x0 x1 x2 r) (show 2560 + 256 + (256 + (x : ℕ)) = 3072 + x by omega))
  · exact (score_lat 2560 _ r ⟨384 + x, by omega⟩).trans (congrArg (score x0 x1 x2 r) (show 2560 + 256 + (384 + (x : ℕ)) = 3200 + x by omega))
  · exact (score_lat 3072 _ r ⟨x, by omega⟩).trans (congrArg (score x0 x1 x2 r) (show 3072 + 256 + (x : ℕ) = 3328 + x by omega))
  · exact (score_lat 3072 _ r ⟨128 + x, by omega⟩).trans (congrArg (score x0 x1 x2 r) (show 3072 + 256 + (128 + (x : ℕ)) = 3456 + x by omega))
  · exact (score_lat 3072 _ r ⟨256 + x, by omega⟩).trans (congrArg (score x0 x1 x2 r) (show 3072 + 256 + (256 + (x : ℕ)) = 3584 + x by omega))
  · exact (score_lat 3072 _ r ⟨384 + x, by omega⟩).trans (congrArg (score x0 x1 x2 r) (show 3072 + 256 + (384 + (x : ℕ)) = 3712 + x by omega))
  · exact (score_lat 3584 _ r ⟨x, by omega⟩).trans (congrArg (score x0 x1 x2 r) (show 3584 + 256 + (x : ℕ) = 3840 + x by omega))
  · exact (score_lat 3584 _ r ⟨128 + x, by omega⟩).trans (congrArg (score x0 x1 x2 r) (show 3584 + 256 + (128 + (x : ℕ)) = 3968 + x by omega))
  · exact (score_lat 3584 _ r ⟨256 + x, by omega⟩).trans (congrArg (score x0 x1 x2 r) (show 3584 + 256 + (256 + (x : ℕ)) = 4096 + x by omega))
  · exact (score_lat 3584 _ r ⟨384 + x, by omega⟩).trans (congrArg (score x0 x1 x2 r) (show 3584 + 256 + (384 + (x : ℕ)) = 4224 + x by omega))

/-- The row maximum, as the later payloads spell it. -/
theorem pay27_at (r : Fin 512) (z : Fin 1) :
    k0_pay27 (kernelRun0_A.sl.r_7 (F := Ideal) c arg3 harg3 arg5 harg5 x0 x2) (kernelRun0_A.sl.r_8 (F := Ideal) c arg3 harg3 arg4 harg4 arg5 harg5 x0 x1 x2)
      (kernelRun0_A.sl.r_9 (F := Ideal) c arg3 harg3 arg5 harg5 x0 x2) (ix2 r z) = top x0 x1 x2 r :=
  r_10_at r z

/-- What the body stores for query `r` at column `d`: the softmax attention of its scores on that column. -/
theorem block_at (r : Fin 512) (d : Fin 128) :
    k0_pay1 (kernelRun0_A.sl.r_10 (F := Ideal) c arg3 harg3 arg4 harg4 arg5 harg5 x0 x1 x2) (kernelRun0_A.sl.r_16 c arg3 harg3 arg4 harg4 arg5 harg5 arg6 harg6 arg7 harg7 arg9 x0 x1 x2 x3 x4) (kernelRun0_A.sl.r_17 c arg3 harg3 arg4 harg4 arg5 harg5 arg9 x0 x1 x2) (kernelRun0_A.sl.r_18 c arg3 harg3 arg4 harg4 arg5 harg5 arg9 x0 x1 x2) (kernelRun0_A.sl.r_19 c arg7 harg7 x4) (kernelRun0_A.sl.v261 c arg3 harg3 arg4 harg4 arg5 harg5 arg9 x0 x1 x2)
      (ldVL arg7 harg7 x4 3584 inb_S128x4096_S128x512_0_3584) (ix2 r d)
      = attend2 4352 (score x0 x1 x2 r) (valN x3 x4 d) := by
  pointwise [k0_pay1]
  unfold kernelRun0_A.sl.r_18 kernelRun0_A.sl.r_17 kernelRun0_A.sl.r_19 kernelRun0_A.sl.r_16
  pointwise [k0_pay41, k0_pay39, k0_pay40, k0_pay37, k0_pay38, k0_pay42]
  unfold kernelRun0_A.sl.r_15 kernelRun0_A.sl.r_14 kernelRun0_A.sl.r_13 kernelRun0_A.sl.r_12 kernelRun0_A.sl.r_11
  pointwise [k0_pay36, k0_pay35, k0_pay34, k0_pay33, k0_pay32, k0_pay31, k0_pay30, k0_pay29, k0_pay28]
  simp only [pay27_at, r_10_at, v129_at, v142_at, v159_at, v176_at, v193_at, v210_at, v227_at, v244_at, v261_at]
  unfold attend2
  refine congrArg₂ Ideal.div ?_ ?_
  · rw [← chunks_sum]
    iterate 8 refine congrArg₂ (· + ·) ?_ ?_
    · refine Finset.sum_congr rfl fun x _ => congrArg₂ (· * ·) (ldVC_at d x) ?_
      rw [Nat.zero_add]
    · refine Finset.sum_congr rfl fun x _ => congrArg₂ (· * ·) ?_ rfl
      exact (ldVL_at 0 _ d x).trans (congrArg (valN x3 x4 d) (show 0 + 256 + (x : ℕ) = 256 + x by omega))
    · refine Finset.sum_congr rfl fun x _ => congrArg₂ (· * ·) ?_ rfl
      exact (ldVL_at 512 _ d x).trans (congrArg (valN x3 x4 d) (show 512 + 256 + (x : ℕ) = 768 + x by omega))
    · refine Finset.sum_congr rfl fun x _ => congrArg₂ (· * ·) ?_ rfl
      exact (ldVL_at 1024 _ d x).trans (congrArg (valN x3 x4 d) (show 1024 + 256 + (x : ℕ) = 1280 + x by omega))
    · refine Finset.sum_congr rfl fun x _ => congrArg₂ (· * ·) ?_ rfl
      exact (ldVL_at 1536 _ d x).trans (congrArg (valN x3 x4 d) (show 1536 + 256 + (x : ℕ) = 1792 + x by omega))
    · refine Finset.sum_congr rfl fun x _ => congrArg₂ (· * ·) ?_ rfl
      exact (ldVL_at 2048 _ d x).trans (congrArg (valN x3 x4 d) (show 2048 + 256 + (x : ℕ) = 2304 + x by omega))
    · refine Finset.sum_congr rfl fun x _ => congrArg₂ (· * ·) ?_ rfl
      exact (ldVL_at 2560 _ d x).trans (congrArg (valN x3 x4 d) (show 2560 + 256 + (x : ℕ) = 2816 + x by omega))
    · refine Finset.sum_congr rfl fun x _ => congrArg₂ (· * ·) ?_ rfl
      exact (ldVL_at 3072 _ d x).trans (congrArg (valN x3 x4 d) (show 3072 + 256 + (x : ℕ) = 3328 + x by omega))
    · refine Finset.sum_congr rfl fun x _ => congrArg₂ (· * ·) ?_ rfl
      exact (ldVL_at 3584 _ d x).trans (congrArg (valN x3 x4 d) (show 3584 + 256 + (x : ℕ) = 3840 + x by omega))
  · rw [← lanes_sum]
    refine Finset.sum_congr rfl fun x _ => ?_
    simp only [← Nat.add_assoc, Nat.reduceAdd, zero_add]

end Cert.KernelIdeal.Block

end
-- ==== Proof.Array.lean ====
module

public import proofs.«01_k».proof.Proof.Block
public import Idealize.ShloMosaic.Lib.Writes

/-! The attention kernel's result array after the run: every block is what its grid point computes of the blocks of the
    five operand arrays, and the blocks tile the array. -/

@[expose] public section

set_option maxRecDepth 16384

noncomputable section

namespace Cert.KernelIdeal.Result

open Cert.KernelIdeal Cert.KernelIdeal.Gen Idealize.ShloMosaic Idealize.ShloMosaic.TcCoe Idealize.SL.Sem
open Idealize.ShloMosaic.Pipeline (Dat)
open Cert.KernelIdeal.Block

/-- What the body leaves in the result's staging buffer, at query `r` and column `d` of the block. -/
theorem out_at {c : Dev nD} {i : grid0.Coords} {arg3 : Memref sig .tc .vmem S512x256 .bf16} {harg3 : arg3.IsWhole}
    {arg4 : Memref sig .tc .vmem S256x256 .bf16} {harg4 : arg4.IsWhole}
    {arg5 : Memref sig .tc .vmem S4096x256 .bf16} {harg5 : arg5.IsWhole}
    {arg6 : Memref sig .tc .vmem S128x256 .bf16} {harg6 : arg6.IsWhole}
    {arg7 : Memref sig .tc .vmem S128x4096 .bf16} {harg7 : arg7.IsWhole}
    {arg8 : Memref sig .tc .vmem S512x128 .bf16} {harg8 : arg8.IsWhole}
    {arg9 : Memref sig .tc .vmem S512x4352 .f32} {harg9 : arg9.IsWhole}
    {x0 : Vec Ideal S512x256 .bf16} {x1 : Vec Ideal S256x256 .bf16} {x2 : Vec Ideal S4096x256 .bf16}
    {x3 : Vec Ideal S128x256 .bf16} {x4 : Vec Ideal S128x4096 .bf16} (y : S512x128.Idx) :
    out0_A_5 c i arg3 harg3 arg4 harg4 arg5 harg5 arg6 harg6 arg7 harg7 arg8 harg8 arg9 harg9 x0 x1 x2 x3 x4 y
      = attend2 4352 (score x0 x1 x2 (y 0)) (valN x3 x4 (y 1)) := by
  unfold out0_A_5
  refine View.read_writes_apply_of_pieces (Val := Elt Ideal) (e := .bf16) VO0_5 _
    (fun y : S512x128.Idx => attend2 4352 (score x0 x1 x2 (y 0)) (valN x3 x4 (y 1))) _ ?_ _ ?_
  · unfold kernelRun0_A
    dsimp only
    simp only [List.forall_mem_cons, List.not_mem_nil, false_imp_iff, implies_true, and_true]
    intro y
    obtain ⟨r, d, rfl⟩ : ∃ (r : Fin 512) (d : Fin 128), y = ix2 r d := ⟨y 0, y 1, by funext a; fin_cases a <;> rfl⟩
    refine (block_at r d).trans ?_
    have e0 : r = (Rect.unit (s := S512x128) ![0, 0] S512x128.size inb_S512x128_S512x128_0_0).emb (ix2 r d) 0 := by
      apply Fin.ext; show (r : ℕ) = 0 + 1 * (r : ℕ); omega
    have e1 : d = (Rect.unit (s := S512x128) ![0, 0] S512x128.size inb_S512x128_S512x128_0_0).emb (ix2 r d) 1 := by
      apply Fin.ext; show (d : ℕ) = 0 + 1 * (d : ℕ); omega
    exact congrArg₂ (fun a b => attend2 4352 (score x0 x1 x2 a) (valN x3 x4 b)) e0 e1
  · unfold kernelRun0_A
    dsimp only
    simp only [List.exists_mem_cons_iff, List.not_mem_nil, false_and, exists_false, or_false, Rect.mem_set_unit]
    have h0 : ((y 0 : Fin 512) : ℕ) < 512 := Fin.isLt _
    have h1 : ((y 1 : Fin 128) : ℕ) < 128 := Fin.isLt _
    intro a
    match a with
    | ⟨0, _⟩ => exact ⟨Nat.zero_le _, by show ((y 0 : Fin 512) : ℕ) < 0 + 512; omega⟩
    | ⟨1, _⟩ => exact ⟨Nat.zero_le _, by show ((y 1 : Fin 128) : ℕ) < 0 + 128; omega⟩

variable (m : (ℓ : Loc nD τ sig) → Buf (Elt Ideal) ℓ)

/-- Where each window's block lies, in blocks, at every grid point. -/
theorem idx_all : ∀ t : Fin grid0.N,
    (win0_0.index t 0 = t.val / 64 * 8 + t.val % 8 ∧ win0_0.index t 1 = t.val / 8 % 8)
    ∧ (win0_1.index t 0 = t.val / 64 ∧ win0_1.index t 1 = t.val / 8 % 8)
    ∧ (win0_2.index t 0 = t.val / 64 ∧ win0_2.index t 1 = t.val / 8 % 8)
    ∧ (win0_3.index t 0 = t.val / 64 * 8 + t.val / 8 % 8 ∧ win0_3.index t 1 = 0)
    ∧ (win0_4.index t 0 = t.val / 64 * 8 + t.val / 8 % 8 ∧ win0_4.index t 1 = 0)
    ∧ (win0_5.index t 0 = t.val / 64 * 8 + t.val % 8 ∧ win0_5.index t 1 = t.val / 8 % 8)
    ∧ (win0_5.xsize (grid0.coords t) 0 = 512 ∧ win0_5.xsize (grid0.coords t) 1 = 128) := by
  decide +kernel

theorem N_256 : cfg0.N = 256 := by decide +kernel

variable (c : Dev nD) (t : Fin cfg0.N)

theorem iblk0_at (r : Fin 512) (k : Fin 256) (R : Fin 16384) (K : Fin 2048)
    (hR : (R : ℕ) = (t.val / 64 * 8 + t.val % 8) * 512 + r) (hK : (K : ℕ) = t.val / 8 % 8 * 256 + k) :
    (iblk m c 0 t : Vec Ideal S512x256 .bf16) (ix2 r k) = (V m c main_v8 : Vec Ideal S16384x2048 .bf16) (ix2 R K) := by
  refine congrArg (V m c main_v8 : Vec Ideal S16384x2048 .bf16) (funext fun a => ?_)
  have e := (idx_all t).1
  fin_cases a
  · apply Fin.ext; show win0_0.index t 0 * 512 + 1 * (r : ℕ) = R; rw [e.1]; omega
  · apply Fin.ext; show win0_0.index t 1 * 256 + 1 * (k : ℕ) = K; rw [e.2]; omega

theorem iblk1_at (r : Fin 256) (k : Fin 256) (R : Fin 1024) (K : Fin 2048)
    (hR : (R : ℕ) = t.val / 64 * 256 + r) (hK : (K : ℕ) = t.val / 8 % 8 * 256 + k) :
    (iblk m c 1 t : Vec Ideal S256x256 .bf16) (ix2 r k) = (V m c main_v11 : Vec Ideal S1024x2048 .bf16) (ix2 R K) := by
  refine congrArg (V m c main_v11 : Vec Ideal S1024x2048 .bf16) (funext fun a => ?_)
  have e := (idx_all t).2.1
  fin_cases a
  · apply Fin.ext; show win0_1.index t 0 * 256 + 1 * (r : ℕ) = R; rw [e.1]; omega
  · apply Fin.ext; show win0_1.index t 1 * 256 + 1 * (k : ℕ) = K; rw [e.2]; omega

theorem iblk2_at (r : Fin 4096) (k : Fin 256) (R : Fin 16384) (K : Fin 2048)
    (hR : (R : ℕ) = t.val / 64 * 4096 + r) (hK : (K : ℕ) = t.val / 8 % 8 * 256 + k) :
    (iblk m c 2 t : Vec Ideal S4096x256 .bf16) (ix2 r k) = (V m c main_v14 : Vec Ideal S16384x2048 .bf16) (ix2 R K) := by
  refine congrArg (V m c main_v14 : Vec Ideal S16384x2048 .bf16) (funext fun a => ?_)
  have e := (idx_all t).2.2.1
  fin_cases a
  · apply Fin.ext; show win0_2.index t 0 * 4096 + 1 * (r : ℕ) = R; rw [e.1]; omega
  · apply Fin.ext; show win0_2.index t 1 * 256 + 1 * (k : ℕ) = K; rw [e.2]; omega

theorem iblk3_at (d : Fin 128) (k : Fin 256) (R : Fin 4096)
    (hR : (R : ℕ) = (t.val / 64 * 8 + t.val / 8 % 8) * 128 + d) :
    (iblk m c 3 t : Vec Ideal S128x256 .bf16) (ix2 d k) = (V m c main_v17 : Vec Ideal S4096x256 .bf16) (ix2 R k) := by
  refine congrArg (V m c main_v17 : Vec Ideal S4096x256 .bf16) (funext fun a => ?_)
  have e := (idx_all t).2.2.2.1
  fin_cases a
  · apply Fin.ext; show win0_3.index t 0 * 128 + 1 * (d : ℕ) = R; rw [e.1]; omega
  · apply Fin.ext; show win0_3.index t 1 * 256 + 1 * (k : ℕ) = k; rw [e.2]; omega

theorem iblk4_at (d : Fin 128) (k : Fin 4096) (R : Fin 4096)
    (hR : (R : ℕ) = (t.val / 64 * 8 + t.val / 8 % 8) * 128 + d) :
    (iblk m c 4 t : Vec Ideal S128x4096 .bf16) (ix2 d k) = (V m c main_v20 : Vec Ideal S4096x4096 .bf16) (ix2 R k) := by
  refine congrArg (V m c main_v20 : Vec Ideal S4096x4096 .bf16) (funext fun a => ?_)
  have e := (idx_all t).2.2.2.2.1
  fin_cases a
  · apply Fin.ext; show win0_4.index t 0 * 128 + 1 * (d : ℕ) = R; rw [e.1]; omega
  · apply Fin.ext; show win0_4.index t 1 * 4096 + 1 * (k : ℕ) = k; rw [e.2]; omega

/-- An index of the result array lies in the block of the grid point whose batch, head and query block it names. -/
theorem mem_blk (i : S16384x1024.Idx) :
    i ∈ ((cfg0.win 5).blk t).view.set ↔
      ((t.val / 64 * 8 + t.val % 8) * 512 ≤ ((i 0 : Fin 16384) : ℕ) ∧ ((i 0 : Fin 16384) : ℕ) < (t.val / 64 * 8 + t.val % 8) * 512 + 512)
      ∧ (t.val / 8 % 8 * 128 ≤ ((i 1 : Fin 1024) : ℕ) ∧ ((i 1 : Fin 1024) : ℕ) < t.val / 8 % 8 * 128 + 128) := by
  show i ∈ ((View.whole main_v21).slice (win0_5.rect t)).set ↔ _
  rw [View.set_slice_whole, Rect.mem_set_unit]
  have e := (idx_all t).2.2.2.2.2
  refine ⟨fun h => ?_, fun h a => ?_⟩
  · have h0 : win0_5.index t 0 * 512 ≤ ((i 0 : Fin 16384) : ℕ) ∧ ((i 0 : Fin 16384) : ℕ) < win0_5.index t 0 * 512 + win0_5.xsize (grid0.coords t) 0 := h 0
    have h1 : win0_5.index t 1 * 128 ≤ ((i 1 : Fin 1024) : ℕ) ∧ ((i 1 : Fin 1024) : ℕ) < win0_5.index t 1 * 128 + win0_5.xsize (grid0.coords t) 1 := h 1
    rw [e.1.1, e.2.1] at h0
    rw [e.1.2, e.2.2] at h1
    exact ⟨h0, h1⟩
  · match a with
    | ⟨0, _⟩ => show win0_5.index t 0 * 512 ≤ ((i 0 : Fin 16384) : ℕ) ∧ ((i 0 : Fin 16384) : ℕ) < win0_5.index t 0 * 512 + win0_5.xsize (grid0.coords t) 0
                rw [e.1.1, e.2.1]; exact h.1
    | ⟨1, _⟩ => show win0_5.index t 1 * 128 ≤ ((i 1 : Fin 1024) : ℕ) ∧ ((i 1 : Fin 1024) : ℕ) < win0_5.index t 1 * 128 + win0_5.xsize (grid0.coords t) 1
                rw [e.1.2, e.2.2]; exact h.2

/-- The result's blocks tile its array. -/
theorem cover (i : S16384x1024.Idx) : ∃ t : Fin cfg0.N, (cfg0.win 5).flush t = true ∧ i ∈ ((cfg0.win 5).blk t).view.set := by
  have h0 : ((i 0 : Fin 16384) : ℕ) < 16384 := Fin.isLt _
  have h1 : ((i 1 : Fin 1024) : ℕ) < 1024 := Fin.isLt _
  have hN := N_256
  refine ⟨⟨((i 0 : Fin 16384) : ℕ) / 4096 * 64 + ((i 1 : Fin 1024) : ℕ) / 128 * 8 + ((i 0 : Fin 16384) : ℕ) / 512 % 8, by omega⟩, flush0_5 _, ?_⟩
  rw [mem_blk]
  dsimp only
  omega

/-- A function that agrees with what every grid point computes, at the place its block gives, is the result array. -/
theorem final_of (G : S16384x1024.Idx → EReal)
    (hG : ∀ (t : Fin cfg0.N) (r : Fin 512) (d : Fin 128) (R : Fin 16384) (L : Fin 1024),
      (R : ℕ) = (t.val / 64 * 8 + t.val % 8) * 512 + r → (L : ℕ) = t.val / 8 % 8 * 128 + d →
      attend2 4352 (score (iblk m c 0 t) (iblk m c 1 t) (iblk m c 2 t) r) (valN (iblk m c 3 t) (iblk m c 4 t) d) = G (ix2 R L)) :
    (dats m 0 c).arrAt 5 cfg0.N = G := by
  refine (dats m 0 c).arrAt_eq_of_cover 5 G (fun t _ => ?_) cover
  rw [Value.flushed5_A]
  funext y
  have e := (idx_all t).2.2.2.2.2
  obtain ⟨r, d, hy⟩ : ∃ (r : Fin 512) (d : Fin 128), y = ix2 r d := ⟨y 0, y 1, by funext a; fin_cases a <;> rfl⟩
  subst hy
  refine (out_at (ix2 r d)).trans ?_
  have hN := N_256
  have ht : t.val < 256 := lt_of_lt_of_eq t.isLt N_256
  have e0 : (t.val / 64 * 8 + t.val % 8) * 512 + (r : ℕ) < 16384 := by have := r.isLt; omega
  have e1 : t.val / 8 % 8 * 128 + (d : ℕ) < 1024 := by have := d.isLt; omega
  refine (hG t r d ⟨_, e0⟩ ⟨_, e1⟩ rfl rfl).trans (congrArg G (funext fun a => ?_))
  fin_cases a
  · apply Fin.ext; show (t.val / 64 * 8 + t.val % 8) * 512 + (r : ℕ) = win0_5.index t 0 * 512 + 1 * (r : ℕ); rw [e.1.1]; omega
  · apply Fin.ext; show t.val / 8 % 8 * 128 + (d : ℕ) = win0_5.index t 1 * 128 + 1 * (d : ℕ); rw [e.1.2]; omega

end Cert.KernelIdeal.Result

end
-- ==== Proof.Host.lean ====
module

public import proofs.«01_k».proof.Proof.Gen.KernelIdeal.Value
public import Idealize.ShloMosaic.Lib.Pointwise
public import Idealize.ShloMosaic.Lib.StableHlo.ReadAt

/-! What the host lines leave in the five operands of the attention kernel, read at an index. -/

@[expose] public section

set_option maxRecDepth 16384

noncomputable section

namespace Cert.KernelIdeal.Operands

open Cert.KernelIdeal Cert.KernelIdeal.Gen Idealize.ShloMosaic Idealize.ShloMosaic.TcCoe Idealize.SL.Sem

variable (m : (ℓ : Loc nD τ sig) → Buf (Elt Ideal) ℓ) (c : Dev nD)

/-- The five arguments. -/
abbrev argQ : FVec Ideal S4x4096x8x192 .f32 := m ((c : Thread nD τ).loc main_arg0)
abbrev argKC : FVec Ideal S4x256x8x192 .f32 := m ((c : Thread nD τ).loc main_arg1)
abbrev argKL : FVec Ideal S4x4096x8x192 .f32 := m ((c : Thread nD τ).loc main_arg2)
abbrev argVC : FVec Ideal S4x256x8x128 .f32 := m ((c : Thread nD τ).loc main_arg3)
abbrev argVL : FVec Ideal S4x4096x8x128 .f32 := m ((c : Thread nD τ).loc main_arg4)

/-- Zero, as the padding writes it. -/
theorem pad_zero : FloatOps.sitofp (F := Ideal) .f32 (0#32) = (0 : EReal) := by
  show (((0#32 : BitVec 32).toInt : ℝ) : EReal) = 0
  simp

/-- Two. -/
theorem two : Ideal.ofBits .f32 1073741824#32 = ((2 : ℝ) : EReal) := by
  simp [Ideal.ofBits, Ideal.ieee]
  rw [← EReal.coe_mul]
  norm_num

/-- The queries: a head's 192 columns times the scale over the logarithm of two, then zeros. -/
theorem q_at (b : Fin 4) (r : Fin 4096) (h : Fin 8) (k : Fin 256) (R : Fin 16384) (K : Fin 2048)
    (hR : (R : ℕ) = b * 4096 + r) (hK : (K : ℕ) = h * 256 + k) :
    (V m c main_v8 : FVec Ideal S16384x2048 .bf16) (ix2 R K)
      = if hk : (k : ℕ) < 192 then Ideal.div (argQ m c (ix4 b r h ⟨k, hk⟩) * Ideal.ofBits .f32 0x3D93CD3A#32) ((Real.log 2 : ℝ) : EReal) else (0 : EReal) := by
  have hl : (id (Host.log (constant (F := Ideal) S_ FTy.f32 1073741824#32)) ix0 : EReal) = ((Real.log 2 : ℝ) : EReal) := by
    show Ideal.log (Ideal.ofBits .f32 1073741824#32) = _
    rw [two, Ideal.log_coe, if_neg (by norm_num)]
  unfold V
  after_reads_at
  have e1 : (R : ℕ) / 4096 = b := by omega
  have e2 : (R : ℕ) % 4096 = r := by omega
  have e3 : (K : ℕ) / 256 = h := by omega
  have e4 : (K : ℕ) % 256 = k := by omega
  simp only [hl, pad_zero, e1, e2, e3, e4, Fin.is_lt, true_and]

/-- The context keys: a head's 192 columns, then zeros. -/
theorem kc_at (b : Fin 4) (r : Fin 256) (h : Fin 8) (k : Fin 256) (R : Fin 1024) (K : Fin 2048)
    (hR : (R : ℕ) = b * 256 + r) (hK : (K : ℕ) = h * 256 + k) :
    (V m c main_v11 : FVec Ideal S1024x2048 .bf16) (ix2 R K)
      = if hk : (k : ℕ) < 192 then argKC m c (ix4 b r h ⟨k, hk⟩) else (0 : EReal) := by
  unfold V
  after_reads_at
  have e1 : (R : ℕ) / 256 = b := by omega
  have e2 : (R : ℕ) % 256 = r := by omega
  have e3 : (K : ℕ) / 256 = h := by omega
  have e4 : (K : ℕ) % 256 = k := by omega
  simp only [pad_zero, e1, e2, e3, e4, Fin.is_lt, true_and]

/-- The latent keys, likewise. -/
theorem kl_at (b : Fin 4) (r : Fin 4096) (h : Fin 8) (k : Fin 256) (R : Fin 16384) (K : Fin 2048)
    (hR : (R : ℕ) = b * 4096 + r) (hK : (K : ℕ) = h * 256 + k) :
    (V m c main_v14 : FVec Ideal S16384x2048 .bf16) (ix2 R K)
      = if hk : (k : ℕ) < 192 then argKL m c (ix4 b r h ⟨k, hk⟩) else (0 : EReal) := by
  unfold V
  after_reads_at
  have e1 : (R : ℕ) / 4096 = b := by omega
  have e2 : (R : ℕ) % 4096 = r := by omega
  have e3 : (K : ℕ) / 256 = h := by omega
  have e4 : (K : ℕ) % 256 = k := by omega
  simp only [pad_zero, e1, e2, e3, e4, Fin.is_lt, true_and]

/-- The context values, a head's columns as rows. -/
theorem vc_at (b : Fin 4) (h : Fin 8) (d : Fin 128) (R : Fin 4096) (x : Fin 256) (hR : (R : ℕ) = (b * 8 + h) * 128 + d) :
    (V m c main_v17 : FVec Ideal S4096x256 .bf16) (ix2 R x) = argVC m c (ix4 b x h d) := by
  unfold V
  after_reads_at
  have e1 : (R : ℕ) / 1024 = b := by omega
  have e2 : (R : ℕ) / 128 % 8 = h := by omega
  have e3 : (R : ℕ) % 128 = d := by omega
  simp only [e1, e2, e3]

/-- The latent values, likewise. -/
theorem vl_at (b : Fin 4) (h : Fin 8) (d : Fin 128) (R : Fin 4096) (x : Fin 4096) (hR : (R : ℕ) = (b * 8 + h) * 128 + d) :
    (V m c main_v20 : FVec Ideal S4096x4096 .bf16) (ix2 R x) = argVL m c (ix4 b x h d) := by
  unfold V
  after_reads_at
  have e1 : (R : ℕ) / 1024 = b := by omega
  have e2 : (R : ℕ) / 128 % 8 = h := by omega
  have e3 : (R : ℕ) % 128 = d := by omega
  simp only [e1, e2, e3]

end Cert.KernelIdeal.Operands

end
-- ==== Proof.Reference.lean ====
module

public import proofs.«01_k».proof.Proof.Gen.ReferenceIdeal.Run
public import Idealize.ShloMosaic.Lib.Pointwise

/-! The reference's composed term, stage by stage, read at an index at the ideal instance: scores, their greatest, the
    weights, their sum, the normalised weights and the weighted sum of the values. -/

@[expose] public section

set_option maxRecDepth 16384

noncomputable section

namespace Cert.ReferenceIdeal.Out

open Cert.ReferenceIdeal Cert.ReferenceIdeal.Gen Idealize.ShloMosaic Idealize.ShloMosaic.TcCoe Idealize.SL.Sem

/-- Context keys then latent keys, along the keys' axis. -/
def kAll (kc : FVec Ideal S4x256x8x192 .f32) (kl : FVec Ideal S4x4096x8x192 .f32) : FVec Ideal S4x4352x8x192 .f32 :=
  concatenate S4x4352x8x192 1 [⟨S4x256x8x192, kc⟩, ⟨S4x4096x8x192, kl⟩] concatenates_S4x256x8x192_S4x4096x8x192_S4x4352x8x192_d1

/-- Context values then latent values, along the keys' axis. -/
def vAll (vc : FVec Ideal S4x256x8x128 .f32) (vl : FVec Ideal S4x4096x8x128 .f32) : FVec Ideal S4x4352x8x128 .f32 :=
  concatenate S4x4352x8x128 1 [⟨S4x256x8x128, vc⟩, ⟨S4x4096x8x128, vl⟩] concatenates_S4x256x8x128_S4x4096x8x128_S4x4352x8x128_d1

/-- The scaled scores of every query against every key. -/
def sc (q : FVec Ideal S4x4096x8x192 .f32) (k : FVec Ideal S4x4352x8x192 .f32) : FVec Ideal S4x8x4096x4352 .f32 :=
  mulf (Host.dotGeneral dot_S4x4096x8x192_S4x4352x8x192_S4x8x4096x4352_3_3_1_1_02_02 none q k)
    (broadcastInDim S4x8x4096x4352 ![] bcast_S_S4x8x4096x4352 (constant S_ .f32 0x3D93CD3A#32))

/-- A query's greatest score. -/
def mx (s : FVec Ideal S4x8x4096x4352 .f32) : FVec Ideal S4x8x4096 .f32 :=
  maximumf (broadcastInDim S4x8x4096 ![] bcast_S_S4x8x4096 (constant S_ .f32 0xFF800000#32))
    (Host.reduce FloatOps.maximumf s (constant S_ .f32 0xFF800000#32) reducesTo_S4x8x4096x4352_S4x8x4096_d3 h_S_)

/-- A number per query, repeated over the keys. -/
def rep (x : FVec Ideal S4x8x4096 .f32) : FVec Ideal S4x8x4096x4352 .f32 :=
  broadcastInDim S4x8x4096x4352 ![0, 1, 2, 3] bcast_S4x8x4096x1_S4x8x4096x4352_0_1_2_3
    (broadcastInDim S4x8x4096x1 ![0, 1, 2] bcast_S4x8x4096_S4x8x4096x1_0_1_2 x)

/-- The exponentials of the scores less the greatest one. -/
def ex (s : FVec Ideal S4x8x4096x4352 .f32) : FVec Ideal S4x8x4096x4352 .f32 := Host.exp (subf s (rep (mx s)))

/-- Their sum over the keys. -/
def ls (e : FVec Ideal S4x8x4096x4352 .f32) : FVec Ideal S4x8x4096 .f32 :=
  Host.reduceAdd e (constant S_ .f32 0x00000000#32) reducesTo_S4x8x4096x4352_S4x8x4096_d3 h_S_

/-- The softmax. -/
def pr (e : FVec Ideal S4x8x4096x4352 .f32) : FVec Ideal S4x8x4096x4352 .f32 := Host.divf e (rep (ls e))

/-- The weighted sums of the values, heads side by side. -/
def fin (v : FVec Ideal S4x4352x8x128 .f32) (p : FVec Ideal S4x8x4096x4352 .f32) : FVec Ideal S16384x1024 .bf16 :=
  truncf .bf16 (shapeCast _ (transpose S4x4096x8x128 [0, 3, 1, 2]
    (Host.dotGeneral dot_S4x4352x8x128_S4x8x4096x4352_S4x8x128x4096_1_3_3_2_02_01 none v p)
    transposes_S4x8x128x4096_S4x4096x8x128_0_3_1_2) shapeCasts_S4x4096x8x128_S16384x1024) bitsLt_bf16_f32

/-- The reference's result, of its five arguments. -/
def out (q : FVec Ideal S4x4096x8x192 .f32) (kc : FVec Ideal S4x256x8x192 .f32) (kl : FVec Ideal S4x4096x8x192 .f32)
    (vc : FVec Ideal S4x256x8x128 .f32) (vl : FVec Ideal S4x4096x8x128 .f32) : FVec Ideal S16384x1024 .bf16 :=
  fin (vAll vc vl) (pr (ex (sc q (kAll kc kl))))

/-- Key `j` of batch `b` and head `h`: a context key, or a latent one. -/
theorem kAll_at (kc : FVec Ideal S4x256x8x192 .f32) (kl : FVec Ideal S4x4096x8x192 .f32) (b : Fin 4) (j : Fin 4352) (h : Fin 8) (k : Fin 192) :
    kAll kc kl (ix4 b j h k) = if hj : (j : ℕ) < 256 then kc (ix4 b ⟨j, hj⟩ h k) else kl (ix4 b ⟨j - 256, by omega⟩ h k) := by
  pointwise [kAll]

/-- Value `j` of batch `b` and head `h`: a context value, or a latent one. -/
theorem vAll_at (vc : FVec Ideal S4x256x8x128 .f32) (vl : FVec Ideal S4x4096x8x128 .f32) (b : Fin 4) (j : Fin 4352) (h : Fin 8) (d : Fin 128) :
    vAll vc vl (ix4 b j h d) = if hj : (j : ℕ) < 256 then vc (ix4 b ⟨j, hj⟩ h d) else vl (ix4 b ⟨j - 256, by omega⟩ h d) := by
  pointwise [vAll]

/-- A score: the product of the query and the key, times the scale. -/
theorem sc_at (q : FVec Ideal S4x4096x8x192 .f32) (k : FVec Ideal S4x4352x8x192 .f32) (b : Fin 4) (h : Fin 8) (r : Fin 4096) (j : Fin 4352) :
    sc q k (ix4 b h r j) = (∑ d : Fin 192, q (ix4 b r h d) * k (ix4 b j h d)) * Ideal.ofBits .f32 0x3D93CD3A#32 := by
  pointwise [sc]

/-- The pattern of minus infinity. -/
theorem ninf : Ideal.ofBits .f32 4286578688#32 = (⊥ : EReal) := by simp [Ideal.ofBits, Ideal.ieee]

/-- Folding `max` from minus infinity is the supremum. -/
theorem fold_max_sup {n : ℕ} (f : Fin n → EReal) : Finset.fold max (⊥ : EReal) f Finset.univ = Finset.univ.sup f :=
  eq_of_forall_ge_iff fun a => by
    rw [Finset.fold_max_le, Finset.sup_le_iff]
    simp only [bot_le, true_and]

/-- A host maximum over the last of four axes, of any sizes, is the fold of `max` along that axis. -/
theorem host_max {A B C N : ℕ} (x : FVec Ideal ⟨4, ![A, B, C, N]⟩ .f32) (init : FVec Ideal S_ .f32)
    (h : (⟨4, ![A, B, C, N]⟩ : Shape).ReducesTo [3] ⟨3, ![A, B, C]⟩) (hu : 0 < S_.numel) (b : Fin A) (c : Fin B) (r : Fin C) :
    Host.reduce FloatOps.maximumf x init h hu (ix3 b c r)
      = Finset.fold max (init (Shape.Idx.first hu) : EReal) (fun j : Fin N => (x (ix4 b c r j) : EReal)) Finset.univ := by
  rw [Host.reduce_eq_fold, h.fold_fiber_r4_a3]
  rfl

/-- A query's greatest score is the supremum of its scores. -/
theorem mx_at (s : FVec Ideal S4x8x4096x4352 .f32) (b : Fin 4) (h : Fin 8) (r : Fin 4096) :
    mx s (ix3 b h r) = Finset.univ.sup fun j : Fin 4352 => (s (ix4 b h r j) : EReal) := by
  have e : ∀ (x y : FVec Ideal S4x8x4096 .f32) (i : S4x8x4096.Idx) (u v : EReal), x i = u → y i = v → maximumf x y i = max u v := by
    rintro x y i u v rfl rfl; rfl
  have e1 : broadcastInDim S4x8x4096 ![] bcast_S_S4x8x4096 (constant (F := Ideal) S_ .f32 0xFF800000#32) (ix3 b h r) = (⊥ : EReal) := ninf
  refine (e _ _ _ _ _ e1 (host_max s _ _ _ b h r)).trans ?_
  rw [max_eq_right bot_le, ← fold_max_sup]
  refine congrArg (fun z => Finset.fold max z (fun j : Fin 4352 => (s (ix4 b h r j) : EReal)) Finset.univ) ?_
  exact ninf

theorem rep_at (x : FVec Ideal S4x8x4096 .f32) (b : Fin 4) (h : Fin 8) (r : Fin 4096) (j : Fin 4352) :
    rep x (ix4 b h r j) = x (ix3 b h r) := by
  pointwise [rep]

theorem ex_at (s : FVec Ideal S4x8x4096x4352 .f32) (b : Fin 4) (h : Fin 8) (r : Fin 4096) (j : Fin 4352) :
    ex s (ix4 b h r j) = Ideal.exp (s (ix4 b h r j) - Finset.univ.sup fun j : Fin 4352 => (s (ix4 b h r j) : EReal)) := by
  pointwise [ex]
  rw [rep_at, mx_at]

theorem ls_at (e : FVec Ideal S4x8x4096x4352 .f32) (b : Fin 4) (h : Fin 8) (r : Fin 4096) :
    ls e (ix3 b h r) = ∑ j : Fin 4352, e (ix4 b h r j) := by
  pointwise [ls]

theorem pr_at (e : FVec Ideal S4x8x4096x4352 .f32) (b : Fin 4) (h : Fin 8) (r : Fin 4096) (j : Fin 4352) :
    pr e (ix4 b h r j) = Ideal.div (e (ix4 b h r j)) (∑ j : Fin 4352, e (ix4 b h r j)) := by
  pointwise [pr]
  rw [rep_at, ls_at]

theorem fin_at (v : FVec Ideal S4x4352x8x128 .f32) (p : FVec Ideal S4x8x4096x4352 .f32) (r : Fin 16384) (l : Fin 1024) :
    fin v p (ix2 r l) = ∑ j : Fin 4352, v (ix4 (⟨r / 4096, by omega⟩ : Fin 4) j (⟨l / 128, by omega⟩ : Fin 8) (⟨l % 128, by omega⟩ : Fin 128))
      * p (ix4 (⟨r / 4096, by omega⟩ : Fin 4) (⟨l / 128, by omega⟩ : Fin 8) (⟨r % 4096, by omega⟩ : Fin 4096) j) := by
  pointwise [fin]

end Cert.ReferenceIdeal.Out

end
-- ==== Proof.Softmax.lean ====
module

public import proofs.«01_k».proof.Proof.Block

/-! The equation of the two softmaxes: in base two on scores divided by the logarithm of two with the sum dividing at the
    end, and in base `e` with the weights normalised first. -/

@[expose] public section

noncomputable section

namespace Cert.KernelIdeal.Softmax

open Idealize.ShloMosaic Cert.KernelIdeal.Block

/-- Softmax attention of one query with scores `s` over `n` keys on a column `v` of the values, weights normalised first. -/
def attend (n : ℕ) (s v : ℕ → EReal) : EReal :=
  ∑ j ∈ Finset.range n, v j * Ideal.div (Ideal.exp (s j - (Finset.range n).sup s))
    (∑ i ∈ Finset.range n, Ideal.exp (s i - (Finset.range n).sup s))

/-- A sum of coerced reals is the coerced sum. -/
theorem coe_sum {ι : Type*} (S : Finset ι) (f : ι → ℝ) : ∑ j ∈ S, (f j : EReal) = ((∑ j ∈ S, f j : ℝ) : EReal) := by
  induction S using Finset.cons_induction with
  | empty => simp
  | cons a S h ih => rw [Finset.sum_cons, Finset.sum_cons, ih, EReal.coe_add]

/-- A nonnegative real factor may be taken into a sum of extended reals. -/
theorem sum_mul_real (S : Finset ℕ) (f : ℕ → EReal) (c : ℝ) (hc : 0 ≤ c) :
    (∑ j ∈ S, f j) * (c : EReal) = ∑ j ∈ S, f j * (c : EReal) := by
  induction S using Finset.cons_induction with
  | empty => simp
  | cons a S h ih =>
    rw [Finset.sum_cons, Finset.sum_cons, ← ih]
    exact EReal.right_distrib_of_nonneg_of_ne_top (by exact_mod_cast hc) (EReal.coe_ne_top c) _ _

/-- The greatest of real scores is one of them. -/
theorem sup_real (n : ℕ) (hn : 0 < n) (s : ℕ → ℝ) :
    ∃ j₀ ∈ Finset.range n, (∀ j ∈ Finset.range n, s j ≤ s j₀) :=
  Finset.exists_max_image (Finset.range n) s ⟨0, Finset.mem_range.mpr hn⟩

theorem sup_eq (n : ℕ) (s : ℕ → ℝ) (j₀ : ℕ) (h₀ : j₀ ∈ Finset.range n) (h : ∀ j ∈ Finset.range n, s j ≤ s j₀) :
    ((Finset.range n).sup fun j => (s j : EReal)) = (s j₀ : EReal) :=
  le_antisymm (Finset.sup_le fun j hj => by exact_mod_cast h j hj) (Finset.le_sup (f := fun j => (s j : EReal)) h₀)

/-- On real scores the two softmaxes agree, whatever the values. -/
theorem attend2_eq (n : ℕ) (hn : 0 < n) (s : ℕ → ℝ) (v : ℕ → EReal) :
    attend2 n (fun j => ((s j / Real.log 2 : ℝ) : EReal)) v = attend n (fun j => (s j : EReal)) v := by
  obtain ⟨j₀, h₀, hm⟩ := sup_real n hn s
  have hl : 0 < Real.log 2 := Real.log_pos (by norm_num)
  have e1 := sup_eq n s j₀ h₀ hm
  have e2 := sup_eq n (fun j => s j / Real.log 2) j₀ h₀ fun j hj => div_le_div_of_nonneg_right (hm j hj) hl.le
  have w1 : ∀ j, Ideal.exp ((s j : EReal) - (s j₀ : EReal)) = ((Real.exp (s j - s j₀) : ℝ) : EReal) := fun j => by
    rw [← EReal.coe_sub, Ideal.exp_coe]
  have w2 : ∀ j, pow2 (((s j / Real.log 2 : ℝ) : EReal) - ((s j₀ / Real.log 2 : ℝ) : EReal)) = ((Real.exp (s j - s j₀) : ℝ) : EReal) := fun j => by
    rw [← EReal.coe_sub]
    show Ideal.exp2 _ = _
    rw [Ideal.exp2_coe, ← sub_div, Real.rpow_eq_pow, Real.rpow_def_of_pos (by norm_num), mul_div_cancel₀ _ hl.ne']
  unfold attend2 attend
  simp only [e1, e2, w1, w2, coe_sum]
  have hp : 0 < ∑ j ∈ Finset.range n, Real.exp (s j - s j₀) :=
    Finset.sum_pos (fun j _ => Real.exp_pos _) ⟨j₀, h₀⟩
  simp only [Ideal.div_coe hp.ne']
  rw [sum_mul_real _ _ _ (by positivity)]
  exact Finset.sum_congr rfl fun j _ => mul_assoc _ _ _

end Cert.KernelIdeal.Softmax

end
-- ==== Proof.Attention.lean ====
module

public import proofs.«01_k».proof.Defs
public import proofs.«01_k».proof.Proof.Array
public import proofs.«01_k».proof.Proof.Host
public import proofs.«01_k».proof.Proof.Reference
public import proofs.«01_k».proof.Proof.Softmax
public import proofs.«01_k».proof.Proof.Gen.Pre_finite
public import Idealize.ShloMosaic.Lib.ReduceAll

/-! The attention kernel's result is the reference's: the precondition read back as real queries and keys, a block's
    scores as the reference's over the logarithm of two, and the two softmaxes' equation at every element. -/

@[expose] public section

set_option maxRecDepth 16384

noncomputable section

namespace Cert.KernelIdeal.Attention

open Cert.KernelIdeal Cert.KernelIdeal.Gen Idealize.ShloMosaic Idealize.ShloMosaic.TcCoe Idealize.SL.Sem
open Cert.KernelIdeal.Block Cert.KernelIdeal.Softmax Cert.KernelIdeal.Operands Cert.KernelIdeal.Result

/-! ## The precondition -/

/-- An extended real whose absolute value is below infinity is a real. -/
theorem real_of_abs (x : EReal) (h : Ideal.cmp .olt (max x (-x)) (Ideal.ofBits .f32 0x7F800000#32) = 1#1) : ∃ r : ℝ, x = r := by
  have hi : Ideal.ofBits .f32 0x7F800000#32 = (⊤ : EReal) := by simp [Ideal.ofBits, Ideal.ieee]
  rw [hi] at h
  induction x using EReal.rec with
  | bot => simp [Ideal.cmp] at h
  | coe r => exact ⟨r, rfl⟩
  | top => simp [Ideal.cmp] at h

/-- Where the precondition holds, the queries and the keys are reals. -/
theorem reals (q : FVec Ideal S4x4096x8x192 .f32) (kc : FVec Ideal S4x256x8x192 .f32) (kl : FVec Ideal S4x4096x8x192 .f32)
    (vc : FVec Ideal S4x256x8x128 .f32) (vl : FVec Ideal S4x4096x8x128 .f32)
    (h : Cert.Pre_finite.fn (F := Ideal) q kc kl vc vl = fun _ => 1#1) :
    (∃ f : S4x4096x8x192.Idx → ℝ, ∀ i, q i = (f i : EReal)) ∧ (∃ f : S4x256x8x192.Idx → ℝ, ∀ i, kc i = (f i : EReal))
      ∧ (∃ f : S4x4096x8x192.Idx → ℝ, ∀ i, kl i = (f i : EReal)) := by
  have h0 := congrFun h ix0
  dsimp only [Cert.Pre_finite.fn] at h0
  obtain ⟨h1, h2⟩ := IntOp.andi_eq_one.1 h0
  obtain ⟨h3, h4⟩ := IntOp.andi_eq_one.1 h1
  haveI : Subsingleton Cert.Pre_finite.S_.Idx := ⟨fun a b => funext fun i => i.elim0⟩
  exact ⟨Classical.skolem.1 fun i => real_of_abs _ (Host.reduce_andi_all _ _ _ _ _ h3 i),
    Classical.skolem.1 fun i => real_of_abs _ (Host.reduce_andi_all _ _ _ _ _ h4 i),
    Classical.skolem.1 fun i => real_of_abs _ (Host.reduce_andi_all _ _ _ _ _ h2 i)⟩

/-- The scale is a real. -/
theorem scale_real : ∃ s : ℝ, Ideal.ofBits .f32 0x3D93CD3A#32 = (s : EReal) := by
  simp only [Ideal.ofBits, Ideal.ieee]
  norm_num
  exact ⟨_, (EReal.coe_mul _ _).symm⟩

/-! ## Scores -/

/-- Key `j` of batch `b` and head `h`, a real: a context key, a latent one, or nothing. -/
def keyR (kc : S4x256x8x192.Idx → ℝ) (kl : S4x4096x8x192.Idx → ℝ) (b : Fin 4) (h : Fin 8) (j : ℕ) (d : Fin 192) : ℝ :=
  if hj : j < 256 then kc (ix4 b ⟨j, hj⟩ h d) else if hj' : j - 256 < 4096 then kl (ix4 b ⟨j - 256, hj'⟩ h d) else 0

/-- The score of a query against key `j`, a real. -/
def scoreR (q : S4x4096x8x192.Idx → ℝ) (kc : S4x256x8x192.Idx → ℝ) (kl : S4x4096x8x192.Idx → ℝ) (s : ℝ)
    (b : Fin 4) (h : Fin 8) (r : Fin 4096) (j : ℕ) : ℝ :=
  (∑ d : Fin 192, q (ix4 b r h d) * keyR kc kl b h j d) * s

/-- A sum over 256 columns of which the last 64 are zero. -/
theorem sum_padded (f : Fin 192 → ℝ) :
    ∑ k : Fin 256, (if hk : (k : ℕ) < 192 then ((f ⟨k, hk⟩ : ℝ) : EReal) else 0) = ((∑ d, f d : ℝ) : EReal) := by
  rw [← coe_sum]
  refine (Fin.sum_univ_add (a := 192) (b := 64) _).trans ?_
  have z : ∑ i : Fin 64, (if hk : ((Fin.natAdd 192 i : Fin (192 + 64)) : ℕ) < 192 then ((f ⟨_, hk⟩ : ℝ) : EReal) else 0) = 0 :=
    Finset.sum_eq_zero fun i _ => dif_neg (by simp)
  rw [z, add_zero]
  refine Finset.sum_congr rfl fun i _ => ?_
  rw [dif_pos (show ((Fin.castAdd 64 i : Fin (192 + 64)) : ℕ) < 192 from i.isLt)]
  rfl

section
variable (m : (ℓ : Loc nD τ sig) → Buf (Elt Ideal) ℓ) (c : Dev nD) (t : Fin cfg0.N)
variable {q : S4x4096x8x192.Idx → ℝ} {kc : S4x256x8x192.Idx → ℝ} {kl : S4x4096x8x192.Idx → ℝ} {s : ℝ}

/-- A column of a block's key `j`: the key's, then zeros. -/
theorem keyN_at (hkc : ∀ i, argKC m c i = (kc i : EReal)) (hkl : ∀ i, argKL m c i = (kl i : EReal))
    (b : Fin 4) (h : Fin 8) (hb : (b : ℕ) = t.val / 64) (hh : (h : ℕ) = t.val / 8 % 8) (j : ℕ) (k : Fin 256) :
    keyN (iblk m c 1 t) (iblk m c 2 t) j k = if hk : (k : ℕ) < 192 then ((keyR kc kl b h j ⟨k, hk⟩ : ℝ) : EReal) else 0 := by
  unfold keyN keyR
  have hb' := b.isLt
  have hh' := h.isLt
  have hk' := k.isLt
  by_cases hj : j < 256
  · simp only [dif_pos hj]
    rw [iblk1_at m c t ⟨j, hj⟩ k ⟨t.val / 64 * 256 + j, by omega⟩ ⟨t.val / 8 % 8 * 256 + k, by omega⟩ rfl rfl,
      kc_at m c b ⟨j, hj⟩ h k _ _ (by dsimp only; omega) (by dsimp only; omega)]
    simp only [hkc]
  · simp only [dif_neg hj]
    by_cases hj' : j - 256 < 4096
    · simp only [dif_pos hj']
      rw [iblk2_at m c t ⟨j - 256, hj'⟩ k ⟨t.val / 64 * 4096 + (j - 256), by omega⟩ ⟨t.val / 8 % 8 * 256 + k, by omega⟩ rfl rfl,
        kl_at m c b ⟨j - 256, hj'⟩ h k _ _ (by dsimp only; omega) (by dsimp only; omega)]
      simp only [hkl]
    · simp only [dif_neg hj', EReal.coe_zero, dite_eq_ite, ite_self]

/-- A block's score is the real score over the logarithm of two. -/
theorem score_at (hq : ∀ i, argQ m c i = (q i : EReal)) (hkc : ∀ i, argKC m c i = (kc i : EReal)) (hkl : ∀ i, argKL m c i = (kl i : EReal))
    (hs : Ideal.ofBits .f32 0x3D93CD3A#32 = (s : EReal))
    (b : Fin 4) (h : Fin 8) (hb : (b : ℕ) = t.val / 64) (hh : (h : ℕ) = t.val / 8 % 8)
    (r : Fin 512) (R : Fin 4096) (hR : (R : ℕ) = t.val % 8 * 512 + r) (j : ℕ) :
    score (iblk m c 0 t) (iblk m c 1 t) (iblk m c 2 t) r j = ((scoreR q kc kl s b h R j / Real.log 2 : ℝ) : EReal) := by
  have hb' := b.isLt
  have hh' := h.isLt
  have hL : Real.log 2 ≠ 0 := (Real.log_pos (by norm_num)).ne'
  have e : scoreR q kc kl s b h R j / Real.log 2 = ∑ d : Fin 192, q (ix4 b R h d) * s / Real.log 2 * keyR kc kl b h j d := by
    unfold scoreR
    rw [Finset.sum_mul, Finset.sum_div]
    exact Finset.sum_congr rfl fun d _ => by ring
  rw [e, ← sum_padded]
  refine Finset.sum_congr rfl fun k _ => ?_
  have hk' := k.isLt
  rw [keyN_at m c t hkc hkl b h hb hh j k,
    iblk0_at m c t r k ⟨(t.val / 64 * 8 + t.val % 8) * 512 + r, by omega⟩ ⟨t.val / 8 % 8 * 256 + k, by omega⟩ rfl rfl,
    q_at m c b R h k _ _ (by dsimp only; omega) (by dsimp only; omega)]
  by_cases hk : (k : ℕ) < 192
  · simp only [dif_pos hk]
    rw [hq, hs, ← EReal.coe_mul, Ideal.div_coe hL, ← EReal.coe_mul, ← EReal.coe_mul]
    exact congrArg ((↑) : ℝ → EReal) (by ring)
  · simp only [dif_neg hk, mul_zero]

/-- A block's value `j` is the reference's. -/
theorem valN_at (b : Fin 4) (h : Fin 8) (hb : (b : ℕ) = t.val / 64) (hh : (h : ℕ) = t.val / 8 % 8) (d : Fin 128) (j : Fin 4352) :
    valN (iblk m c 3 t) (iblk m c 4 t) d j = Cert.ReferenceIdeal.Out.vAll (argVC m c) (argVL m c) (ix4 b j h d) := by
  rw [Cert.ReferenceIdeal.Out.vAll_at]
  unfold valN
  have hb' := b.isLt
  have hh' := h.isLt
  have hd' := d.isLt
  have hj' := j.isLt
  by_cases hj : (j : ℕ) < 256
  · simp only [dif_pos hj]
    rw [iblk3_at m c t d ⟨j, hj⟩ ⟨(t.val / 64 * 8 + t.val / 8 % 8) * 128 + d, by omega⟩ rfl,
      vc_at m c b h d _ ⟨j, hj⟩ (by dsimp only; omega)]
  · have hj2 : (j : ℕ) - 256 < 4096 := by omega
    simp only [dif_neg hj, dif_pos hj2]
    rw [iblk4_at m c t d ⟨j - 256, hj2⟩ ⟨(t.val / 64 * 8 + t.val / 8 % 8) * 128 + d, by omega⟩ rfl,
      vl_at m c b h d _ ⟨j - 256, hj2⟩ (by dsimp only; omega)]

end

/-! ## The reference -/

/-- The reference's score is the real score. -/
theorem ref_score {q : S4x4096x8x192.Idx → ℝ} {kc : S4x256x8x192.Idx → ℝ} {kl : S4x4096x8x192.Idx → ℝ} {s : ℝ}
    {aq : FVec Ideal S4x4096x8x192 .f32} {akc : FVec Ideal S4x256x8x192 .f32} {akl : FVec Ideal S4x4096x8x192 .f32}
    (hq : ∀ i, aq i = (q i : EReal)) (hkc : ∀ i, akc i = (kc i : EReal)) (hkl : ∀ i, akl i = (kl i : EReal))
    (hs : Ideal.ofBits .f32 0x3D93CD3A#32 = (s : EReal)) (b : Fin 4) (h : Fin 8) (r : Fin 4096) (j : Fin 4352) :
    Cert.ReferenceIdeal.Out.sc aq (Cert.ReferenceIdeal.Out.kAll akc akl) (ix4 b h r j) = ((scoreR q kc kl s b h r j : ℝ) : EReal) := by
  have hj' := j.isLt
  rw [Cert.ReferenceIdeal.Out.sc_at, hs]
  unfold scoreR
  rw [EReal.coe_mul, ← coe_sum]
  refine congrArg (· * (s : EReal)) (Finset.sum_congr rfl fun d _ => ?_)
  rw [hq, Cert.ReferenceIdeal.Out.kAll_at, EReal.coe_mul]
  refine congrArg (((q (ix4 b r h d) : ℝ) : EReal) * ·) ?_
  unfold keyR
  by_cases hj : (j : ℕ) < 256
  · simp only [dif_pos hj, hkc]
  · simp only [dif_neg hj, dif_pos (show (j : ℕ) - 256 < 4096 by omega), hkl]

/-- Softmax attention over the first `n` natural numbers, written over `Fin n`. -/
theorem attend_fin (n : ℕ) (s v : ℕ → EReal) (s' v' : Fin n → EReal) (hs : ∀ j, s' j = s j) (hv : ∀ j, v' j = v j) :
    attend n s v = ∑ j : Fin n, v' j * Ideal.div (Ideal.exp (s' j - Finset.univ.sup s')) (∑ i : Fin n, Ideal.exp (s' i - Finset.univ.sup s')) := by
  have e : (Finset.range n).sup s = Finset.univ.sup s' := eq_of_forall_ge_iff fun a => by
    rw [Finset.sup_le_iff, Finset.sup_le_iff]
    exact ⟨fun h j _ => (hs j).trans_le (h j (Finset.mem_range.2 j.isLt)),
      fun h j hj => (hs ⟨j, Finset.mem_range.1 hj⟩).symm.trans_le (h ⟨j, Finset.mem_range.1 hj⟩ (Finset.mem_univ _))⟩
  unfold attend
  rw [e, Finset.sum_range, Finset.sum_range]
  simp only [← hs, ← hv]

/-- The reference at an element: softmax attention. -/
theorem ref_at (q : FVec Ideal S4x4096x8x192 .f32) (kc : FVec Ideal S4x256x8x192 .f32) (kl : FVec Ideal S4x4096x8x192 .f32)
    (vc : FVec Ideal S4x256x8x128 .f32) (vl : FVec Ideal S4x4096x8x128 .f32)
    (b : Fin 4) (h : Fin 8) (r : Fin 4096) (d : Fin 128) (R : Fin 16384) (L : Fin 1024)
    (hR : (R : ℕ) = b * 4096 + r) (hL : (L : ℕ) = h * 128 + d) (s v : ℕ → EReal)
    (hs : ∀ j : Fin 4352, Cert.ReferenceIdeal.Out.sc q (Cert.ReferenceIdeal.Out.kAll kc kl) (ix4 b h r j) = s j)
    (hv : ∀ j : Fin 4352, Cert.ReferenceIdeal.Out.vAll vc vl (ix4 b j h d) = v j) :
    Cert.ReferenceIdeal.Out.out q kc kl vc vl (ix2 R L) = attend 4352 s v := by
  have e1 : (⟨(R : ℕ) / 4096, by omega⟩ : Fin 4) = b := Fin.ext (by dsimp only; omega)
  have e2 : (⟨(L : ℕ) / 128, by omega⟩ : Fin 8) = h := Fin.ext (by dsimp only; omega)
  have e3 : (⟨(L : ℕ) % 128, by omega⟩ : Fin 128) = d := Fin.ext (by dsimp only; omega)
  have e4 : (⟨(R : ℕ) % 4096, by omega⟩ : Fin 4096) = r := Fin.ext (by dsimp only; omega)
  rw [attend_fin 4352 s v _ _ hs hv]
  unfold Cert.ReferenceIdeal.Out.out
  rw [Cert.ReferenceIdeal.Out.fin_at, e1, e2, e3, e4]
  refine Finset.sum_congr rfl fun j _ => ?_
  rw [Cert.ReferenceIdeal.Out.pr_at]
  simp only [Cert.ReferenceIdeal.Out.ex_at]

/-! ## The claim -/

/-- The array the kernel leaves is the reference's result of the same arguments. -/
theorem result (m : (ℓ : Loc nD τ sig) → Buf (Elt Ideal) ℓ) (hm : Cert.Pre_KernelIdeal_finite m) (c : Dev nD) :
    (dats m 0 c).arrAt 5 cfg0.N = Cert.ReferenceIdeal.Out.out (argQ m c) (argKC m c) (argKL m c) (argVC m c) (argVL m c) := by
  obtain ⟨⟨q, hq⟩, ⟨kc, hkc⟩, ⟨kl, hkl⟩⟩ := reals _ _ _ _ _ (hm c)
  obtain ⟨s, hs⟩ := scale_real
  refine final_of m c _ fun t r d R L hR hL => ?_
  have ht : t.val < 256 := lt_of_lt_of_eq t.isLt N_256
  have hr := r.isLt
  have hd := d.isLt
  rw [ref_at (argQ m c) (argKC m c) (argKL m c) (argVC m c) (argVL m c) ⟨t.val / 64, by omega⟩ ⟨t.val / 8 % 8, by omega⟩
    ⟨t.val % 8 * 512 + r, by omega⟩ d R L (by dsimp only; omega) (by dsimp only; omega)
    (fun j => ((scoreR q kc kl s ⟨t.val / 64, by omega⟩ ⟨t.val / 8 % 8, by omega⟩ ⟨t.val % 8 * 512 + r, by omega⟩ j : ℝ) : EReal))
    (valN (iblk m c 3 t) (iblk m c 4 t) d)
    (fun j => ref_score hq hkc hkl hs _ _ _ j) (fun j => (valN_at m c t _ _ rfl rfl d j).symm), ← attend2_eq 4352 (by norm_num)]
  refine congrArg (attend2 4352 · _) (funext fun j => ?_)
  exact score_at m c t hq hkc hkl hs _ _ rfl rfl r _ rfl j

end Cert.KernelIdeal.Attention

namespace Cert.Proof.AttentionClaims

open Cert.KernelIdeal Idealize.ShloMosaic Idealize.ShloMosaic.TcCoe Idealize.SL.Sem

/-- From arguments that agree, with real queries and keys, the kernel and the reference end with the same array. -/
theorem algebraic : Cert.algebraic_KernelIdeal_ReferenceIdeal_pre_finite := by
  intro m ρ m' ρ' hm ha
  refine ⟨fun c => (Cert.KernelIdeal.Gen.dats m 0 c).arrAt 5 Cert.KernelIdeal.cfg0.N, Cert.KernelIdeal.Value.run_blocks m ρ, ?_⟩
  refine (θ_run Cert.ReferenceIdeal.defs _ _).mono (fun _ h c => ⟨(h c).1.trans ?_, (h c).2⟩) (Cert.ReferenceIdeal.Value.run (F := Ideal) m' ρ')
  obtain ⟨h0, h1, h2, h3, h4⟩ := ha c
  refine Eq.trans ?_ (Cert.KernelIdeal.Attention.result m hm c).symm
  rw [h0, h1, h2, h3, h4]
  rfl

end Cert.Proof.AttentionClaims

end
-- ==== Proof.ExpertsRun.lean ====
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.WholeRead
public import Idealize.ShloMosaic.Lib.Pointwise

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two tables as whole memrefs, and the two scratch buffers. -/
abbrev expertM : Memref sig .tc .smem S72 .i32 := Memref.whole main_arg2
abbrev validM : Memref sig .tc .smem S72 .i32 := Memref.whole main_arg3

/-- A table held at half the full share, at the contents `f`; the pipeline keeps the other half. -/
abbrev tablePt (c : Dev nD) {S : Shape} {e : EltTy} (M : Memref sig .tc .smem S e) (f : Buf (Elt F) (M.view.loc (c : Thread nD τ))) : sProp 𝕄 :=
  M.view.loc (c : Thread nD τ) ↦{fullShare.right} f

/-- A table's word at place `n`. -/
def word (t : S72.Idx → BitVec 32) (n : ℕ) : BitVec 32 := if h : n < 72 then t (ix1 ⟨n, h⟩) else 0#32

/-- The row tile's weights are loaded anew: the first row tile of a column tile, or another expert than the row tile before. -/
def reload (te : S72.Idx → BitVec 32) (k : ℕ) : Prop := k = 0 ∨ word te k ≠ word te (k - 1)
instance (te : S72.Idx → BitVec 32) (k : ℕ) : Decidable (reload te k) := inferInstanceAs (Decidable (_ ∨ _))

theorem off2_zero (i : grid0.Coords) : k0_off2 i 0 = (i 1).val - 1 := by
  have r_i1 : (i 1).val < 72 := (i 1).isLt
  have h_arg1 : Affine.IsInt (BitVec.ofNat 32 (i 1).val) (((i 1).val : Int)) := Affine.ofNat _ (by omega)
  have h_c1 : Affine.IsInt 1#32 (1) := Affine.ofNat _ (by omega)
  have h_v0 : Affine.IsInt _ (((i 1).val : Int) - 1) := Affine.subi h_arg1 h_c1 (by omega)
  have h_c0 : Affine.IsInt 0#32 (0) := Affine.ofNat _ (by omega)
  have h_v1 : Affine.IsInt _ ((max (((i 1).val : Int) - 1) 0)) := Affine.maxsi h_v0 h_c0 (by omega)
  have h_v2 : Affine.IsInt _ ((max (((i 1).val : Int) - 1) 0)) := Affine.indexCast h_v1
  have e : k0_off2 i = ![(i 1).val - 1] := Affine.vec_cons h_v2 (by omega) <| Affine.vec_nil
  rw [e]; rfl

/-- A scalar read of the expert table is its word at the read's offset. -/
theorem expert_read (c : Dev nD) (te : S72.Idx → BitVec 32) {off : Fin 1 → ℕ} (h : ∀ a, off a + S1.size a ≤ S72.size a) {n : ℕ} (hn : off 0 = n)
    (x : S1.Idx) : View.readAt (Elt F) expertM.view (Rect.unit (s := S72) off S1.size h).toLoadRect te x = word te n := by
  have hl : n < 72 := by have := h 0; simp [S1, S72] at this; omega
  unfold word; rw [dif_pos hl]
  show te _ = te _
  refine congrArg te (funext fun a => ?_)
  obtain rfl : a = (0 : Fin 1) := Subsingleton.elim (α := Fin 1) _ _
  have hx : (x 0).val = 0 := by have := (x 0).isLt; simp [S1] at this; omega
  apply Fin.ext
  show off 0 + 1 * (x 0).val = n
  omega

/-- A scalar read of the table of valid row tiles is its word at the read's offset. -/
theorem valid_read (c : Dev nD) (te : S72.Idx → BitVec 32) {off : Fin 1 → ℕ} (h : ∀ a, off a + S1.size a ≤ S72.size a) {n : ℕ} (hn : off 0 = n)
    (x : S1.Idx) : View.readAt (Elt F) validM.view (Rect.unit (s := S72) off S1.size h).toLoadRect te x = word te n := by
  have hl : n < 72 := by have := h 0; simp [S1, S72] at this; omega
  unfold word; rw [dif_pos hl]
  show te _ = te _
  refine congrArg te (funext fun a => ?_)
  obtain rfl : a = (0 : Fin 1) := Subsingleton.elim (α := Fin 1) _ _
  have hx : (x 0).val = 0 := by have := (x 0).isLt; simp [S1] at this; omega
  apply Fin.ext
  show off 0 + 1 * (x 0).val = n
  omega

/-- An index map's read of the expert table is its word at the read's offset. -/
theorem at_read (pf : pre0.Contents (Elt F)) {off : Fin 1 → ℕ} (h : ∀ a, off a + S1.size a ≤ S72.size a) {n : ℕ} (hn : off 0 = n) :
   pf.at 0 (Rect.unit (s := S72) off S1.size h) numel1_S1 = word (pf 0) n := by
  have hl : n < 72 := by have := h 0; simp [S1, S72] at this; omega
  refine Eq.trans ?_ (show word (pf 0) n = pf 0 (ix1 ⟨n, hl⟩) from dif_pos hl).symm
  show pf 0 _ = pf 0 _
  refine congrArg (pf 0) (funext fun a => ?_)
  obtain rfl : a = (0 : Fin 1) := Subsingleton.elim (α := Fin 1) _ _
  apply Fin.ext
  show off 0 + 1 * 0 = n
  omega

/-- The kernel's own condition for loading the weights anew is `reload`. -/
theorem reload_cond (te : S72.Idx → BitVec 32) (k : ℕ) (hk : k < 72) :
    Iff (Scalar.cmpi .ne (Scalar.extui (Scalar.ori (Scalar.cmpi .eq (BitVec.ofNat 32 k) 0#32) (Scalar.cmpi .ne (word te k) (word te (k - 1)))) : BitVec 32) 0#32 = 1#1) (reload te k) := by
  unfold reload
  generalize word te k = a
  generalize word te (k - 1) = b
  have hk0 : (BitVec.ofNat 32 k = 0#32) ↔ k = 0 := by
    constructor
    · intro h
      have := congrArg BitVec.toNat h
      simp at this; omega
    · rintro rfl; rfl
  have b1 : (BitVec.ofNat 32 k == 0#32) = decide (k = 0) := by
    rw [Bool.eq_iff_iff]; simp [hk0]
  have b2 : (a != b) = !decide (a = b) := by
    rw [Bool.eq_iff_iff]; simp
  simp only [Scalar.cmpi, Scalar.extui, Scalar.ori, IntOp.cmpi, IntOp.ori, b1, b2]
  have b3 : Iff (k = 0 ∨ a ≠ b) ((decide (k = 0) || !decide (a = b)) = true) := by simp
  rw [b3]
  generalize decide (k = 0) = p
  generalize decide (a = b) = q
  revert p q
  decide

/-- What the first weight scratch holds after a grid point whose weight block is `x1`, having held `s0`. -/
def kept0 (te : S72.Idx → BitVec 32) (k : ℕ) (x1 : Vec F S1x1x2048x1024 .f32) (s0 : Vec F S2048x1024 .bf16) : Vec F S2048x1024 .bf16 :=
  if reload te k then k0_pay1 x1 else s0
/-- What the second weight scratch holds after a grid point whose weight block is `x2`, having held `s1`. -/
def kept1 (te : S72.Idx → BitVec 32) (k : ℕ) (x2 : Vec F S1x1x2048x1024 .f32) (s1 : Vec F S2048x1024 .bf16) : Vec F S2048x1024 .bf16 :=
  if reload te k then k0_pay2 x2 else s1
/-- What the output tile holds after a grid point: the gated product where the row tile is valid, zero where it is not. -/
def tile (tv : S72.Idx → BitVec 32) (k : ℕ) (x0 : Vec F S512x2048 .bf16) (w0 w1 : Vec F S2048x1024 .bf16) : Vec F S512x1024 .bf16 :=
  if word tv k = 1#32 then k0_pay3 x0 w0 w1 else k0_pay4

set_option maxHeartbeats 2000000 in
/-- One grid point of the kernel: from the input blocks `x0`, `x1`, `x2` and the weight scratches at `s0`, `s1` it leaves the
    inputs, the scratches at `kept0`, `kept1` and the output tile at `tile` of them. -/
theorem run (c : Dev nD) (i : grid0.Coords) (arg4 : Memref sig .tc .vmem S512x2048 .bf16) (harg4 : arg4.IsWhole) (arg5 : Memref sig .tc .vmem S1x1x2048x1024 .f32) (harg5 : arg5.IsWhole) (arg6 : Memref sig .tc .vmem S1x1x2048x1024 .f32) (harg6 : arg6.IsWhole) (arg7 : Memref sig .tc .vmem S512x1024 .bf16) (harg7 : arg7.IsWhole) (arg8 : Memref sig .tc .vmem S2048x1024 .bf16) (harg8 : arg8.IsWhole) (arg9 : Memref sig .tc .vmem S2048x1024 .bf16) (harg9 : arg9.IsWhole)
    (x0 : Vec F S512x2048 .bf16) (x1 : Vec F S1x1x2048x1024 .f32) (x2 : Vec F S1x1x2048x1024 .f32)
    (te tv : S72.Idx → BitVec 32) (hv : word tv (i 1).val = 0#32 ∨ word tv (i 1).val = 1#32)
    (s0 s1 : Vec F S2048x1024 .bf16) (E : Set ℕ) (K : PUnit → sProp 𝕄) :
    iprop(owns (c : Thread nD τ) arg4 fullShare x0 ∗ owns (c : Thread nD τ) arg5 fullShare x1 ∗ owns (c : Thread nD τ) arg6 fullShare x2 ∗ (∃ d, owns (c : Thread nD τ) arg7 fullShare d) ∗ owns (c : Thread nD τ) arg8 fullShare s0 ∗ owns (c : Thread nD τ) arg9 fullShare s1 ∗ tablePt c expertM te ∗ tablePt c validM tv
            ∗ (iprop(owns (c : Thread nD τ) arg4 fullShare x0 ∗ owns (c : Thread nD τ) arg5 fullShare x1 ∗ owns (c : Thread nD τ) arg6 fullShare x2 ∗ owns (c : Thread nD τ) arg7 fullShare (tile tv (i 1).val x0 (kept0 te (i 1).val x1 s0) (kept1 te (i 1).val x2 s1)) ∗ owns (c : Thread nD τ) arg8 fullShare (kept0 te (i 1).val x1 s0) ∗ owns (c : Thread nD τ) arg9 fullShare (kept1 te (i 1).val x2 s1) ∗ tablePt c expertM te ∗ tablePt c validM tv) -∗ K ⟨⟩))
          ⊢ wp frame (wpE (defs₀ (F := F)) Variants.none c none) E (cc0_moe_w13 i expertM (Memref.isWhole_whole _) validM (Memref.isWhole_whole _) arg4 harg4 arg5 harg5 arg6 harg6 arg7 harg7 arg8 harg8 arg9 harg9) K := by
    have hk : (i 1).val < 72 := (i 1).isLt
    have o1 : k0_off1 i 0 = (i 1).val := congrFun (k0_off1_eq i) 0
    have o3 : k0_off3 i 0 = (i 1).val := congrFun (k0_off3_eq i) 0
    have o4 : k0_off4 i 0 = (i 1).val := congrFun (k0_off4_eq i) 0
    have hR := reload_cond te (i 1).val hk
    simp only [cc0_moe_w13_eq_skeleton]; unfold cc0_moe_w13_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, HT0, HT1, Hk⟩
    obtain rfl := harg4.eq_unread hf0; obtain rfl := harg5.eq_unread hf1; obtain rfl := harg6.eq_unread hf2; obtain rfl := harg8.eq_unread hfs0; obtain rfl := harg9.eq_unread hfs1
    sl_exec
    sl_step
    iapply Hk
    have hc : Iff (run.sl.v10 (F := F) i te = 1#1) (reload te (i 1).val) := by
      unfold run.sl.v10
      unfold run.sl.v9 run.sl.v8 run.sl.v7 run.sl.v4
      try unfold run.sl.r
      try unfold run.sl.r_1
      rw [expert_read c te _ o1, expert_read c te _ (off2_zero i)]
      exact hR
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr
      swap
      · iexact H3
      ipureintro
      unfold run.sl.v23 run.sl.v33 run.sl.r_2 run.sl.r_3
      rw [valid_read c tv _ o3, valid_read c tv _ o4]
      unfold tile kept0 kept1
      rcases hv with hv | hv <;> rw [hv]
      · rw [dif_pos (show k0_cond3 0#32 = 1#1 by decide), if_neg (by decide)]
        exact View.read_writes_full _ _ _ _ _
      · rw [dif_neg (show ¬ k0_cond3 1#32 = 1#1 by decide), dif_pos (show k0_cond2 1#32 = 1#1 by decide), if_pos rfl, View.read_writes_full]
        by_cases hr : reload te (i 1).val
        · rw [dif_pos (hc.2 hr), dif_pos (hc.2 hr), if_pos hr, if_pos hr, View.readAt_writes_full, View.readAt_writes_full, View.readAt_full, View.readAt_full, View.readAt_full, harg4.read_unread, harg5.read_unread, harg6.read_unread]
        · have hn : ¬ (run.sl.v10 (F := F) i te = 1#1) := fun h => hr (hc.1 h)
          rw [dif_neg hn, dif_neg hn, if_neg hr, if_neg hr, View.readAt_full, View.readAt_full, View.readAt_full, harg4.read_unread, harg8.read_unread, harg9.read_unread]
    isplitl [HS0]
    · iexists _; isplitr
      swap
      · iexact HS0
      ipureintro
      unfold kept0
      by_cases hr : reload te (i 1).val
      · rw [dif_pos (hc.2 hr), if_pos hr, View.read_writes_full, View.readAt_full, harg5.read_unread]
      · rw [dif_neg fun h => hr (hc.1 h), if_neg hr]
        exact harg8.read_unread _
    isplitl [HS1]
    · iexists _; isplitr
      swap
      · iexact HS1
      ipureintro
      unfold kept1
      by_cases hr : reload te (i 1).val
      · rw [dif_pos (hc.2 hr), if_pos hr, View.read_writes_full, View.readAt_full, harg6.read_unread]
      · rw [dif_neg fun h => hr (hc.1 h), if_neg hr]
        exact harg9.read_unread _
    isplitl [HT0]; · iexact HT0
    iexact HT1

end Cert.Kernel2Ideal.Experts
end
-- ==== Proof.ExpertsFrame.lean ====
module

public import proofs.«01_k».proof.Proof.ExpertsRun
public import Idealize.ShloMosaic.Lib.Claim

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the pipelined call -/

/-- The unscoped buffers when the pipelined call is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program up to the pipelined call: its host operation, then the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer other than the cast activations is found as launched. -/
theorem V_of_ne (c : Dev nD) (b : Ref sig .tc) (hb : b ≠ main_v0) : V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact StableHlo.devRef_ne_of_ne hb))

/-- The two tables' contents when the call is entered. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- The experts' table and the table of valid row tiles, as functions of the row tile. -/
abbrev te : S72.Idx → BitVec 32 := tbl m 0
abbrev tv : S72.Idx → BitVec 32 := tbl m 1

/-- What the run needs of the tables: every expert's block inside the weights, every row tile valid or not. -/
structure Fine : Prop where
  ok : ok0 (F := F) (tbl m)
  valid : ∀ k, k < 72 → word (tv m) k = 0#32 ∨ word (tv m) k = 1#32

variable {m}

abbrev adm (hO : Fine m) : (pcfg0 (F := F)).Adm := ⟨tbl m, hO.ok⟩
abbrev cfgM (hO : Fine m) : Pipeline.Cfg sig Λ₀ := cfg0 (adm hO)

/-- The tables' halves the call hands the body, table by table. -/
theorem PhiT_eq (c : Dev nD) : (Pipeline.ΦT pre0 (tbl m) c : sProp 𝕄) = iprop(tablePt c expertM (tbl m 0) ∗ tablePt c validM (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The weight scratches as whole memrefs. -/
abbrev scratch0 : Memref sig .tc .vmem S2048x1024 .bf16 := Memref.whole cc0_scratch0
abbrev scratch1 : Memref sig .tc .vmem S2048x1024 .bf16 := Memref.whole cc0_scratch1

/-- The call's own invariant with the scratches owned at some contents. -/
theorem PhiA_eq (c : Dev nD) :
    (Pipeline.ΦA spec0 c : sProp 𝕄)
      = iprop(iprop((∃ d, owns (c : Thread nD τ) scratch0 fullShare d) ∗ (∃ d, owns (c : Thread nD τ) scratch1 fullShare d)) ∗ (∃ r, prngReg c r)) := by
  unfold Pipeline.ΦA; rw [scopedRest0_eq]; simp only [scratch0, scratch1, owns_whole]; rfl

/-! ## The windows' blocks -/

/-- Window `w`'s block at grid point `t`, read off its array. -/
def iblk (hO : Fine m) (c : Dev nD) (w : Fin (cfgM hO).W) (t : Fin (cfgM hO).N) : (((cfgM hO).win w).xblock ((cfgM hO).grid.coords t)).Idx → Elt F ((cfgM hO).win w).elt :=
  (((cfgM hO).win w).blk t).view.read (Elt F) (V m c (Pipeline.arrRef spec0 w))

/-- The row tile and the column tile of a grid point. -/
abbrev rowOf (hO : Fine m) (t : Fin (cfgM hO).N) : ℕ := (grid0.coords t 1).val
abbrev colOf (hO : Fine m) (t : Fin (cfgM hO).N) : ℕ := (grid0.coords t 0).val

theorem row_eq (hO : Fine m) (t : Fin (cfgM hO).N) : rowOf hO t = t.val % 72 := by
  have h : (grid0.coords t 1).val = t.val / 1 % 72 := Pipeline.Grid.coords_val (G := grid0) t 1 (by decide) rfl
  rw [rowOf, h, Nat.div_one]

theorem col_eq (hO : Fine m) (t : Fin (cfgM hO).N) : colOf hO t = t.val / 72 := by
  have ht : t.val < 504 := Nat.lt_of_lt_of_eq t.isLt N_0
  have h : (grid0.coords t 0).val = t.val / 72 % 7 := Pipeline.Grid.coords_val (G := grid0) t 0 (by decide) rfl
  rw [colOf, h]; omega

theorem row_lt (hO : Fine m) (t : Fin (cfgM hO).N) : rowOf hO t < 72 := (grid0.coords t 1).isLt

/-- Where the first weight block lies, in blocks: the row tile's expert and the column tile. -/
theorem map1 (pf : pre0.Contents (Elt F)) (i : grid0.Coords) : cc0_transform_1 k0_off1_inb numel1_S1 pf i = ![0, (word (pf 0) (i 1).val).toNat, 0, (i 0).val] := by
  have h0 : (i 0).val < 7 := (i 0).isLt
  have e : pf.at 0 (Rect.unit (s := S72) (k0_off1 i) S1.size (k0_off1_inb i)) numel1_S1 = word (pf 0) (i 1).val :=
    at_read pf (k0_off1_inb i) (congrFun (k0_off1_eq i) 0)
  have e0 : (BitVec.ofNat 32 (i 0).val).toNat = (i 0).val := by simp; omega
  show ![(0#32 : BitVec 32).toNat, (pf.at 0 (Rect.unit (s := S72) (k0_off1 i) S1.size (k0_off1_inb i)) numel1_S1 : BitVec 32).toNat, (0#32 : BitVec 32).toNat, (BitVec.ofNat 32 (i 0).val).toNat] = _
  rw [e, e0]; rfl

/-- Where the second weight block lies: seven column tiles further. -/
theorem map2 (pf : pre0.Contents (Elt F)) (i : grid0.Coords) : cc0_transform_2 k0_off1_inb numel1_S1 pf i = ![0, (word (pf 0) (i 1).val).toNat, 0, (i 0).val + 7] := by
  have h0 : (i 0).val < 7 := (i 0).isLt
  have e : pf.at 0 (Rect.unit (s := S72) (k0_off1 i) S1.size (k0_off1_inb i)) numel1_S1 = word (pf 0) (i 1).val :=
    at_read pf (k0_off1_inb i) (congrFun (k0_off1_eq i) 0)
  have e0 : (Scalar.addi (BitVec.ofNat 32 (i 0).val) 7#32 : BitVec 32).toNat = (i 0).val + 7 := by
    show ((BitVec.ofNat 32 (i 0).val) + 7#32 : BitVec 32).toNat = _
    simp [BitVec.toNat_add]; omega
  show ![(0#32 : BitVec 32).toNat, (pf.at 0 (Rect.unit (s := S72) (k0_off1 i) S1.size (k0_off1_inb i)) numel1_S1 : BitVec 32).toNat, (0#32 : BitVec 32).toNat, (Scalar.addi (BitVec.ofNat 32 (i 0).val) 7#32 : BitVec 32).toNat] = _
  rw [e, e0]; rfl

/-- An expert's number is below eight. -/
theorem word_lt (hO : Fine m) (k : ℕ) : (word (te m) k).toNat < 8 := by
  by_cases hk : k < 72
  · obtain ⟨h, -⟩ := hO.ok.1 (fun a => match a with | ⟨0, _⟩ => (⟨0, by decide⟩ : Fin 7) | ⟨1, _⟩ => (⟨k, hk⟩ : Fin 72))
    have := h 1
    rw [map1] at this
    have this' : ((word (te m) k).toNat + 1) * 1 ≤ 8 := this
    omega
  · unfold word; rw [dif_neg hk]; decide

/-- The first weight block at an entry: the expert's weights at the column tile. -/
theorem iblk1_at (hO : Fine m) (c : Dev nD) (t : Fin (cfgM hO).N) (d : Fin 2048) (n : Fin 1024) (E : Fin 8) (N : Fin 14336)
    (hE : (E : ℕ) = (word (te m) (rowOf hO t)).toNat) (hN : (N : ℕ) = colOf hO t * 1024 + n) :
    (iblk hO c 1 t : Vec F S1x1x2048x1024 .f32) (ix4 (0 : Fin 1) (0 : Fin 1) d n) = (V m c main_arg1 : Vec F S1x8x2048x14336 .f32) (ix4 (0 : Fin 1) E d N) := by
  refine congrArg (V m c main_arg1 : Vec F S1x8x2048x14336 .f32) (funext fun a => ?_)
  have e := map1 (tbl m) (grid0.coords t)
  have e' : ∀ a, cc0_transform_1 k0_off1_inb numel1_S1 (tbl m) (grid0.coords t) a = ![0, (word (te m) (rowOf hO t)).toNat, 0, colOf hO t] a := congrFun e
  fin_cases a
  · apply Fin.ext; show cc0_transform_1 k0_off1_inb numel1_S1 (tbl m) (grid0.coords t) 0 * 1 + 1 * 0 = 0; rw [e']; rfl
  · apply Fin.ext; show cc0_transform_1 k0_off1_inb numel1_S1 (tbl m) (grid0.coords t) 1 * 1 + 1 * 0 = E; rw [e', hE]; simp
  · apply Fin.ext; show cc0_transform_1 k0_off1_inb numel1_S1 (tbl m) (grid0.coords t) 2 * 2048 + 1 * (d : ℕ) = d; rw [e']; simp
  · apply Fin.ext; show cc0_transform_1 k0_off1_inb numel1_S1 (tbl m) (grid0.coords t) 3 * 1024 + 1 * (n : ℕ) = N; rw [e', hN]; simp

/-- The second weight block at an entry: the expert's weights seven column tiles further. -/
theorem iblk2_at (hO : Fine m) (c : Dev nD) (t : Fin (cfgM hO).N) (d : Fin 2048) (n : Fin 1024) (E : Fin 8) (N : Fin 14336)
    (hE : (E : ℕ) = (word (te m) (rowOf hO t)).toNat) (hN : (N : ℕ) = colOf hO t * 1024 + n + 7168) :
    (iblk hO c 2 t : Vec F S1x1x2048x1024 .f32) (ix4 (0 : Fin 1) (0 : Fin 1) d n) = (V m c main_arg1 : Vec F S1x8x2048x14336 .f32) (ix4 (0 : Fin 1) E d N) := by
  refine congrArg (V m c main_arg1 : Vec F S1x8x2048x14336 .f32) (funext fun a => ?_)
  have e := map2 (tbl m) (grid0.coords t)
  have e' : ∀ a, cc0_transform_2 k0_off1_inb numel1_S1 (tbl m) (grid0.coords t) a = ![0, (word (te m) (rowOf hO t)).toNat, 0, colOf hO t + 7] a := congrFun e
  fin_cases a
  · apply Fin.ext; show cc0_transform_2 k0_off1_inb numel1_S1 (tbl m) (grid0.coords t) 0 * 1 + 1 * 0 = 0; rw [e']; rfl
  · apply Fin.ext; show cc0_transform_2 k0_off1_inb numel1_S1 (tbl m) (grid0.coords t) 1 * 1 + 1 * 0 = E; rw [e', hE]; simp
  · apply Fin.ext; show cc0_transform_2 k0_off1_inb numel1_S1 (tbl m) (grid0.coords t) 2 * 2048 + 1 * (d : ℕ) = d; rw [e']; simp
  · apply Fin.ext; show cc0_transform_2 k0_off1_inb numel1_S1 (tbl m) (grid0.coords t) 3 * 1024 + 1 * (n : ℕ) = N; rw [e', hN]; simp; omega

/-- An index into a weight block, by its two free places. -/
theorem wblk_idx (y : S1x1x2048x1024.Idx) : y = ix4 (0 : Fin 1) (0 : Fin 1) (y 2 : Fin 2048) (y 3 : Fin 1024) := by
  funext a
  match a with
  | ⟨0, _⟩ => exact Subsingleton.elim (α := Fin 1) _ _
  | ⟨1, _⟩ => exact Subsingleton.elim (α := Fin 1) _ _
  | ⟨2, _⟩ => rfl
  | ⟨3, _⟩ => rfl

/-- Where the weights are not loaded anew, both weight blocks are those of the grid point before. -/
theorem same_block (hO : Fine m) (c : Dev nD) (t t' : Fin (cfgM hO).N) (ht : t.val = t'.val + 1) (hr : ¬ reload (te m) (rowOf hO t)) :
    (iblk hO c 1 t : Vec F S1x1x2048x1024 .f32) = iblk hO c 1 t' ∧ (iblk hO c 2 t : Vec F S1x1x2048x1024 .f32) = iblk hO c 2 t' := by
  unfold reload at hr
  have hr0 : rowOf hO t ≠ 0 := fun h => hr (.inl h)
  have hw : word (te m) (rowOf hO t) = word (te m) (rowOf hO t - 1) := by
    by_contra h; exact hr (.inr h)
  have hrow : rowOf hO t' = rowOf hO t - 1 := by rw [row_eq] at *; rw [row_eq]; omega
  have hcol : colOf hO t' = colOf hO t := by rw [row_eq] at *; rw [col_eq, col_eq]; omega
  have hc7 : colOf hO t < 7 := (grid0.coords t 0).isLt
  have hlt := word_lt hO (rowOf hO t)
  constructor
  · refine funext fun (y : S1x1x2048x1024.Idx) => ?_
    obtain ⟨d, n, rfl⟩ : ∃ (d : Fin 2048) (n : Fin 1024), y = ix4 (0 : Fin 1) (0 : Fin 1) d n := ⟨_, _, wblk_idx y⟩
    exact (iblk1_at hO c t d n ⟨_, hlt⟩ ⟨colOf hO t * 1024 + n, by omega⟩ rfl rfl).trans
      (iblk1_at hO c t' d n ⟨_, hlt⟩ ⟨colOf hO t * 1024 + n, by omega⟩ (by rw [hrow, ← hw]) (by rw [hcol])).symm
  · refine funext fun (y : S1x1x2048x1024.Idx) => ?_
    obtain ⟨d, n, rfl⟩ : ∃ (d : Fin 2048) (n : Fin 1024), y = ix4 (0 : Fin 1) (0 : Fin 1) d n := ⟨_, _, wblk_idx y⟩
    exact (iblk2_at hO c t d n ⟨_, hlt⟩ ⟨colOf hO t * 1024 + n + 7168, by omega⟩ rfl rfl).trans
      (iblk2_at hO c t' d n ⟨_, hlt⟩ ⟨colOf hO t * 1024 + n + 7168, by omega⟩ (by rw [hrow, ← hw]) (by rw [hcol])).symm

/-! ## What every grid point leaves -/

/-- The output tile after grid point `t`: the gated product of the activations and the row tile's expert, or zero. -/
def outTile (hO : Fine m) (c : Dev nD) (t : Fin (cfgM hO).N) : Vec F S512x1024 .bf16 :=
  tile (tv m) (rowOf hO t) (iblk hO c 0 t) (k0_pay1 (iblk hO c 1 t)) (k0_pay2 (iblk hO c 2 t))

/-- The invariant before grid point `n`: the scratches hold the weights of the point before, cast. -/
def PhiS (hO : Fine m) (c : Dev nD) : (n : ℕ) → n ≤ (cfgM hO).N → sProp 𝕄
  | 0, _ => iprop(Pipeline.ΦA spec0 c ∗ Pipeline.ΦT pre0 (tbl m) c)
  | n + 1, hn => iprop(iprop(iprop(owns (c : Thread nD τ) scratch0 fullShare (k0_pay1 (iblk hO c 1 ⟨n, hn⟩)) ∗ owns (c : Thread nD τ) scratch1 fullShare (k0_pay2 (iblk hO c 2 ⟨n, hn⟩))) ∗ (∃ r, prngReg c r)) ∗ Pipeline.ΦT pre0 (tbl m) c)

theorem PhiS_zero (hO : Fine m) (c : Dev nD) (n : ℕ) (h : n ≤ (cfgM hO).N) (hz : n = 0) : PhiS hO c n h = iprop(Pipeline.ΦA spec0 c ∗ Pipeline.ΦT pre0 (tbl m) c) := by
  subst hz; rfl

theorem PhiS_succ (hO : Fine m) (c : Dev nD) (n : ℕ) (hn : n < (cfgM hO).N) :
    PhiS hO c (n + 1) hn = iprop(iprop(iprop(owns (c : Thread nD τ) scratch0 fullShare (k0_pay1 (iblk hO c 1 ⟨n, hn⟩)) ∗ owns (c : Thread nD τ) scratch1 fullShare (k0_pay2 (iblk hO c 2 ⟨n, hn⟩))) ∗ (∃ r, prngReg c r)) ∗ Pipeline.ΦT pre0 (tbl m) c) := rfl

theorem PhiS_pos (hO : Fine m) (c : Dev nD) (n : ℕ) (h : n ≤ (cfgM hO).N) (n' : ℕ) (hz : n = n' + 1) (hn' : n' < (cfgM hO).N) :
    PhiS hO c n h = iprop(iprop(iprop(owns (c : Thread nD τ) scratch0 fullShare (k0_pay1 (iblk hO c 1 ⟨n', hn'⟩)) ∗ owns (c : Thread nD τ) scratch1 fullShare (k0_pay2 (iblk hO c 2 ⟨n', hn'⟩))) ∗ (∃ r, prngReg c r)) ∗ Pipeline.ΦT pre0 (tbl m) c) := by
  subst hz; rfl

/-- The pipeline's proof data: every input block stays, every output tile is `outTile`. -/
def dats (hO : Fine m) (_ : Fin 1) (c : Dev nD) : Dat τ (Elt F) Unit ℕ (UR sig nD τ) ℕ (cfgM hO) c where
  A w := V m c (Pipeline.arrRef spec0 w)
  after w t := match w with
    | ⟨0, _⟩ => iblk hO c 0 t
    | ⟨1, _⟩ => iblk hO c 1 t
    | ⟨2, _⟩ => iblk hO c 2 t
    | ⟨3, _⟩ => outTile hO c t
  Φ t := PhiS hO c t.val (Nat.le_of_lt_succ t.isLt)
  q w := Pipeline.shareOf spec0 w
  owed _ := 0

theorem A_eq (hO : Fine m) (c : Dev nD) (w : Fin (cfgM hO).W) : (dats hO 0 c).A w = V m c (Pipeline.arrRef spec0 w) := by
  dsimp only [dats]

theorem Phi_castSucc (hO : Fine m) (c : Dev nD) (t : Fin (cfgM hO).N) :
    (dats hO 0 c).Φ t.castSucc = PhiS hO c t.val (Nat.le_of_lt t.isLt) := by
  dsimp only [dats]; exact Pipeline.Dat.Φ_castSucc (PhiS hO c) t

theorem after_0 (hO : Fine m) (c : Dev nD) (t : Fin (cfgM hO).N) : (dats hO 0 c).after 0 t = iblk hO c 0 t := by dsimp only [dats]; try rfl
theorem after_1 (hO : Fine m) (c : Dev nD) (t : Fin (cfgM hO).N) : (dats hO 0 c).after 1 t = iblk hO c 1 t := by dsimp only [dats]; try rfl
theorem after_2 (hO : Fine m) (c : Dev nD) (t : Fin (cfgM hO).N) : (dats hO 0 c).after 2 t = iblk hO c 2 t := by dsimp only [dats]; try rfl
theorem after_3 (hO : Fine m) (c : Dev nD) (t : Fin (cfgM hO).N) : (dats hO 0 c).after 3 t = outTile hO c t := by dsimp only [dats]; try rfl

/-- An input's staging buffer holds its block at every point, fetched there or not. -/
theorem before_0 (hO : Fine m) (c : Dev nD) (t : Fin (cfgM hO).N) (d) : (dats hO 0 c).before 0 t d = iblk hO c 0 t :=
  ((dats hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (hO : Fine m) (c : Dev nD) (t : Fin (cfgM hO).N) (d) : (dats hO 0 c).before 1 t d = iblk hO c 1 t :=
  ((dats hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (hO : Fine m) (c : Dev nD) (t : Fin (cfgM hO).N) (d) : (dats hO 0 c).before 2 t d = iblk hO c 2 t :=
  ((dats hO 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-! ## The body at every grid point -/

abbrev st (hO : Fine m) (t : Fin (cfgM hO).N) (w : Fin (cfgM hO).W) := ((cfgM hO).win w).stage ((cfgM hO).slots t w)
abbrev st0 (hO : Fine m) (t : Fin (cfgM hO).N) : Memref sig .tc .vmem S512x2048 .bf16 := spec0_0.stage ((cfgM hO).slots t 0)
abbrev st1 (hO : Fine m) (t : Fin (cfgM hO).N) : Memref sig .tc .vmem S1x1x2048x1024 .f32 := spec0_1.stage ((cfgM hO).slots t 1)
abbrev st2 (hO : Fine m) (t : Fin (cfgM hO).N) : Memref sig .tc .vmem S1x1x2048x1024 .f32 := spec0_2.stage ((cfgM hO).slots t 2)
abbrev st3 (hO : Fine m) (t : Fin (cfgM hO).N) : Memref sig .tc .vmem S512x1024 .bf16 := spec0_3.stage ((cfgM hO).slots t 3)

/-- The kernel's body at grid point `t`, as the pipeline calls it. -/
abbrev bodyAt (hO : Fine m) (t : Fin (cfgM hO).N) : Prog (TpuEff nD τ sig (Elt F) Λ₀ .tc) PUnit :=
  cc0_moe_w13 (grid0.coords t) expertM (Memref.isWhole_whole _) validM (Memref.isWhole_whole _) (st0 hO t) (hstage0_0 (((cfgM hO).slots t 0).cast nbuf0_0)) (st1 hO t) (hstage0_1 (((cfgM hO).slots t 1).cast nbuf0_1)) (st2 hO t) (hstage0_2 (((cfgM hO).slots t 2).cast nbuf0_2)) (st3 hO t) (hstage0_3 (((cfgM hO).slots t 3).cast nbuf0_3)) scratch0 (Memref.isWhole_whole _) scratch1 (Memref.isWhole_whole _)

def bodyPre (hO : Fine m) (c : Dev nD) (t : Fin (cfgM hO).N) : sProp 𝕄 :=
  iprop((dats hO 0 c).Φ t.castSucc ∗ (dats hO 0 c).owesAt () t.castSucc
    ∗ (∃ d, owns (c : Thread nD τ) (st0 hO t) fullShare ((dats hO 0 c).before 0 t d))
    ∗ (∃ d, owns (c : Thread nD τ) (st1 hO t) fullShare ((dats hO 0 c).before 1 t d))
    ∗ (∃ d, owns (c : Thread nD τ) (st2 hO t) fullShare ((dats hO 0 c).before 2 t d))
    ∗ (∃ d, owns (c : Thread nD τ) (st3 hO t) fullShare ((dats hO 0 c).before 3 t d)))

def bodyPost (hO : Fine m) (c : Dev nD) (t : Fin (cfgM hO).N) : sProp 𝕄 :=
  iprop((dats hO 0 c).Φ t.succ ∗ (dats hO 0 c).owesAt () t.succ
    ∗ owns (c : Thread nD τ) (st0 hO t) fullShare ((dats hO 0 c).after 0 t)
    ∗ owns (c : Thread nD τ) (st1 hO t) fullShare ((dats hO 0 c).after 1 t)
    ∗ owns (c : Thread nD τ) (st2 hO t) fullShare ((dats hO 0 c).after 2 t)
    ∗ owns (c : Thread nD τ) (st3 hO t) fullShare ((dats hO 0 c).after 3 t))

/-- What is kept of the scratches at the first point is that point's weights. -/
theorem kept_first (hO : Fine m) (c : Dev nD) (t : Fin (cfgM hO).N) (ht : t.val = 0) (s0 s1 : Vec F S2048x1024 .bf16) :
    kept0 (te m) (rowOf hO t) (iblk hO c 1 t) s0 = k0_pay1 (iblk hO c 1 t) ∧ kept1 (te m) (rowOf hO t) (iblk hO c 2 t) s1 = k0_pay2 (iblk hO c 2 t) := by
  have hr : reload (te m) (rowOf hO t) := .inl (by rw [row_eq, ht])
  exact ⟨if_pos hr, if_pos hr⟩

/-- What is kept of the scratches at a later point is that point's weights: loaded there, or unchanged since the point before. -/
theorem kept_next (hO : Fine m) (c : Dev nD) (t t' : Fin (cfgM hO).N) (ht : t.val = t'.val + 1) :
    kept0 (te m) (rowOf hO t) (iblk hO c 1 t) (k0_pay1 (iblk hO c 1 t')) = k0_pay1 (iblk hO c 1 t)
      ∧ kept1 (te m) (rowOf hO t) (iblk hO c 2 t) (k0_pay2 (iblk hO c 2 t')) = k0_pay2 (iblk hO c 2 t) := by
  by_cases hr : reload (te m) (rowOf hO t)
  · exact ⟨if_pos hr, if_pos hr⟩
  · obtain ⟨e1, e2⟩ := same_block hO c t t' ht hr
    exact ⟨(if_neg hr).trans (congrArg k0_pay1 e1.symm), (if_neg hr).trans (congrArg k0_pay2 e2.symm)⟩

set_option maxHeartbeats 1600000 in
/-- The body at any point: from the inputs' blocks and the invariant it leaves the output tile and the next invariant. -/
theorem sound_body (hO : Fine m) (c : Dev nD) (t : Fin (cfgM hO).N) :
    bodyPre hO c t ⊢ wp frame (wpE (defs₀ (F := F)) Variants.none c none) Set.univ (bodyAt hO t) (fun _ => bodyPost hO c t) := by
  unfold bodyPre bodyPost bodyAt
  simp only [before_0, before_1, before_2]
  rw [show (dats hO 0 c).owesAt () t.succ = (dats hO 0 c).owesAt () t.castSucc from rfl, after_0, after_1, after_2, after_3]
  rw [show (dats hO 0 c).Φ t.succ = PhiS hO c (t.val + 1) t.isLt from rfl, PhiS_succ, PhiT_eq]
  have hv := hO.valid (rowOf hO t) (row_lt hO t)
  by_cases hz : t.val = 0
  · rw [Phi_castSucc hO c t, PhiS_zero hO c _ _ hz, PhiT_eq, PhiA_eq]
    iintro ⟨⟨⟨⟨⟨%s0, HS0⟩, ⟨%s1, HS1⟩⟩, Hg⟩, ⟨HT0, HT1⟩⟩, Ho, ⟨%d0, H0⟩, ⟨%d1, H1⟩, ⟨%d2, H2⟩, ⟨%d3, H3⟩⟩
    obtain ⟨k0, k1⟩ := kept_first hO c t hz s0 s1
    iapply (run c (grid0.coords t) _ _ _ _ _ _ _ _ _ _ _ _ (iblk hO c 0 t) (iblk hO c 1 t) (iblk hO c 2 t) (tbl m 0) (tbl m 1) hv s0 s1 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HT0]; · iexact HT0
    isplitl [HT1]; · iexact HT1
    rw [k0, k1]
    iintro ⟨H0, H1, H2, H3, HS0, HS1, HT0, HT1⟩
    isplitl [HS0 HS1 Hg HT0 HT1]
    · isplitl [HS0 HS1 Hg]
      · isplitl [HS0 HS1]
        · isplitl [HS0]; · iexact HS0
          iexact HS1
        iexact Hg
      isplitl [HT0]; · iexact HT0
      iexact HT1
    isplitl [Ho]; · iexact Ho
    isplitl [H0]; · iexact H0
    isplitl [H1]; · iexact H1
    isplitl [H2]; · iexact H2
    iexact H3
  · obtain ⟨n', hn'⟩ : ∃ n', t.val = n' + 1 := ⟨t.val - 1, by omega⟩
    have hlt : n' < (cfgM hO).N := by have := t.isLt; omega
    rw [Phi_castSucc hO c t, PhiS_pos hO c _ _ n' hn' hlt, PhiT_eq]
    iintro ⟨⟨⟨⟨HS0, HS1⟩, Hg⟩, ⟨HT0, HT1⟩⟩, Ho, ⟨%d0, H0⟩, ⟨%d1, H1⟩, ⟨%d2, H2⟩, ⟨%d3, H3⟩⟩
    obtain ⟨k0, k1⟩ := kept_next hO c t ⟨n', hlt⟩ hn'
    iapply (run c (grid0.coords t) _ _ _ _ _ _ _ _ _ _ _ _ (iblk hO c 0 t) (iblk hO c 1 t) (iblk hO c 2 t) (tbl m 0) (tbl m 1) hv (k0_pay1 (iblk hO c 1 ⟨n', hlt⟩)) (k0_pay2 (iblk hO c 2 ⟨n', hlt⟩)) Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HT0]; · iexact HT0
    isplitl [HT1]; · iexact HT1
    rw [k0, k1]
    iintro ⟨H0, H1, H2, H3, HS0, HS1, HT0, HT1⟩
    isplitl [HS0 HS1 Hg HT0 HT1]
    · isplitl [HS0 HS1 Hg]
      · isplitl [HS0 HS1]
        · isplitl [HS0]; · iexact HS0
          iexact HS1
        iexact Hg
      isplitl [HT0]; · iexact HT0
      iexact HT1
    isplitl [Ho]; · iexact Ho
    isplitl [H0]; · iexact H0
    isplitl [H1]; · iexact H1
    isplitl [H2]; · iexact H2
    iexact H3

/-- The body table's row at point `t` is the body. -/
theorem defs₀_row (hO : Fine m) (t : Fin (cfgM hO).N) :
    defs₀ (F := F) .tc (cfgM hO).body ((cfgM hO).bodyArgs t ((cfgM hO).slots t)) = bodyAt hO t := by
  unfold defs₀; rw [Defs.onTc_tc]

/-- The output window is written back at every point. -/
theorem flush_3 (hO : Fine m) (t : Fin (cfgM hO).N) : ((cfgM hO).win 3).flush t = true :=
  (fun t => (Pipeline.Window.flushOf_reads cc0_transform_3 reads0_3 hreads0_3 1 (by decide) (by decide) (Pipeline.Window.sep_of_coord cc0_transform_3 1 0 (fun _ => rfl) (by decide)) (P := 1) (m := 0) (by decide) rfl t).mpr (Nat.mod_one _) : ∀ t : Fin grid0.N, Pipeline.Window.flushOf grid0 true cc0_transform_3 t = true) t

/-- A window written back at a point holds what the body leaves there, idle or not. -/
theorem settle (b f : Bool) (X Y : sProp 𝕄) : f = true → Idealize.SL.BI.Entails X (match b with | true => (match f with | false => Y | true => X) | false => X) := by
  rintro rfl; cases b <;> exact Idealize.SL.BI.Entails.refl _

/-- The body's obligation at every point. -/
theorem body_obligation (hO : Fine m) (c : Dev nD) : BodyObligation (dats (F := F) hO 0 c) (defs₀ (F := F)) Variants.none () Set.univ := fun t => by
  rw [bigSep_W0, bigSep_W0, defs₀_row hO]
  refine triple_restated (sound_body hO c t) rfl .rfl fun _ => ?_
  unfold bodyPost
  have e := settle ((cfgM hO).idle 3 ((cfgM hO).grid.coords t)) (((cfgM hO).win 3).flush t)
    (owns (c : Thread nD τ) (((cfgM hO).win 3).stage ((cfgM hO).slots t 3)) fullShare ((dats hO 0 c).after 3 t))
    iprop(∃ d, owns (c : Thread nD τ) (((cfgM hO).win 3).stage ((cfgM hO).slots t 3)) fullShare ((dats hO 0 c).before 3 t d)) (flush_3 hO t)
  exact Idealize.SL.BI.sep_mono (Idealize.SL.BI.Entails.refl _) (Idealize.SL.BI.sep_mono (Idealize.SL.BI.Entails.refl _)
    (Idealize.SL.BI.sep_mono (Idealize.SL.BI.Entails.refl _) (Idealize.SL.BI.sep_mono (Idealize.SL.BI.Entails.refl _)
      (Idealize.SL.BI.sep_mono (Idealize.SL.BI.Entails.refl _) e))))

/-! ## The run -/

/-- What the launch hands the call is the invariant before the first point. -/
theorem hin (hO : Fine m) (c : Dev nD) : iprop(Pipeline.ΦA spec0 c ∗ Pipeline.ΦT pre0 (tbl m) c) ⊢ (dats hO 0 c).Φ 0 := by
  rw [show (dats hO 0 c).Φ 0 = PhiS hO c 0 (Nat.zero_le _) from rfl, PhiS_zero hO c 0 _ rfl]
  try exact Idealize.SL.BI.Entails.refl _

/-- After the last point the scratches' contents are forgotten. -/
theorem hout (hO : Fine m) (c : Dev nD) : (dats hO 0 c).Φ (Fin.last (cfgM hO).N) ⊢ Pipeline.ΦA spec0 c := by
  have hN : (cfgM hO).N = 504 := N_0
  rw [show (dats hO 0 c).Φ (Fin.last (cfgM hO).N) = PhiS hO c (cfgM hO).N (Nat.le_refl _) from rfl,
    PhiS_pos hO c _ _ 503 hN (by rw [hN]; decide), PhiA_eq]
  iintro ⟨⟨⟨HS0, HS1⟩, Hg⟩, -⟩
  isplitl [HS0 HS1]
  · isplitl [HS0]
    · iexists _; iexact HS0
    iexists _; iexact HS1
  iexact Hg

-- the launch theorem's implicit arguments are found by unifying its conclusion with this one
set_option backward.isDefEq.respectTransparency.types false in
/-- The run: every execution ends, with every array of the call at what the proof data computes, every other unscoped
    buffer as the call found it, and every semaphore counter at zero. -/
theorem run_main (hO : Fine m) : θ_run defs (onTc (τ := τ) (main (F := F))) (s₀ m ρ) (fun r => (Pipeline.FramePost (Pipeline.pin pcfgs fun _ => adm hO) (dats hO) 0 (V m)) r ∧ r.2.sem = fun _ => 0) :=
  Pipeline.θ_run_frameP_track_shared (Q' := _) pcfgs (fun _ => adm hO) (dats hO) (0 : Fin 1) launch₀0 defs₀ Variants.none m ρ main
    (hbody := fun c => (body_obligation hO c).loose) (hq := fun _ _ _ => rfl)
    (howed := fun _ _ => rfl) (V := V m) (hmain := hmain m Variants.none) (hA := A_eq hO) (hpf := V_pre m)
    (hin := hin hO) (hout := hout hO)

/-- The run leaves the argument arrays as launched, the result array at what the proof data computes, and every counter at zero. -/
theorem run_result (hO : Fine m) : θ_run defs (onTc (τ := τ) (main (F := F))) ⟨m, fun _ => 0, ρ⟩ (fun r => (∀ c : Dev nD,
      r.2.mem ((c.tc : Thread nD τ).loc main_v1) = (dats hO 0 c).arrAt 3 (Fin.last (cfgM hO).N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c).1 3,
      ((h.1 c).2 main_arg0 (by decide : main_arg0 ∈ Pipeline.restRefs sig spec0)).trans (V_of_ne m c main_arg0 (by decide)),
      ((h.1 c).1 2).trans (((dats hO 0 c).arrAt_in 2 rfl _).trans ((A_eq hO c 2).trans (V_of_ne m c main_arg1 (by decide)))),
      ((h.1 c).2 main_arg2 (by decide : main_arg2 ∈ Pipeline.restRefs sig spec0)).trans (V_of_ne m c main_arg2 (by decide)),
      ((h.1 c).2 main_arg3 (by decide : main_arg3 ∈ Pipeline.restRefs sig spec0)).trans (V_of_ne m c main_arg3 (by decide))⟩, h.2⟩) (run_main ρ hO)

/-- The frame: the argument arrays end as launched and every counter at zero. -/
theorem frame (hO : Fine m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2, h.2⟩) (run_result ρ hO)

end Cert.Kernel2Ideal.Experts
end
-- ==== Proof.ExpertsTables.lean ====
module

public import proofs.«01_k».proof.Proof.ExpertsFrame
public import proofs.«01_k».proof.Pre_tables
public import Idealize.ShloMosaic.Lib.ReduceAll
public import Idealize.ShloMosaic.Lib.Pointwise
public import Idealize.ShloMosaic.Lib.StableHlo.Predicate

/-! What the precondition says of the two tables: every expert's number is below eight, every row tile is valid or not.
    From that the run has what it needs of them. -/

@[expose] public section

set_option maxRecDepth 16384

noncomputable section

namespace Cert.Pre_tables

open Idealize.ShloMosaic

variable {F : FTy → Type} [FloatOps F] [Facts]

omit [Facts] in
/-- A word from zero up to eight, as signed numbers go, is below eight. -/
theorem below (x : BitVec 32) (h : IntOp.cmpi .sge x 0#32 = 1#1) (h' : IntOp.cmpi .slt x 8#32 = 1#1) : x.toNat < 8 := by
  simp only [IntOp.cmpi, StableHlo.Predicate.ofBool_eq_one_iff, BitVec.sle, BitVec.slt, decide_eq_true_eq, BitVec.toInt_eq_toNat_cond] at h h'
  have := x.isLt
  simp at h h'
  split at h <;> split at h' <;> omega

omit [Facts] in
/-- A word from zero to one, as signed numbers go, is zero or one. -/
theorem bit (x : BitVec 32) (h : IntOp.cmpi .sge x 0#32 = 1#1) (h' : IntOp.cmpi .sle x 1#32 = 1#1) : x = 0#32 ∨ x = 1#32 := by
  simp only [IntOp.cmpi, StableHlo.Predicate.ofBool_eq_one_iff, BitVec.sle, BitVec.slt, decide_eq_true_eq, BitVec.toInt_eq_toNat_cond] at h h'
  have := x.isLt
  simp at h h'
  have h2 : x.toNat = 0 ∨ x.toNat = 1 := by
    split at h <;> split at h' <;> omega
  rcases h2 with h2 | h2
  · left; exact BitVec.eq_of_toNat_eq h2
  · right; exact BitVec.eq_of_toNat_eq h2

/-- The precondition, entry by entry. -/
theorem entries (a : FVec F S36864x2048 .f32) (W : FVec F S1x8x2048x14336 .f32) (te tv : IVec S72 32)
    (h : fn a W te tv = fun _ => 1#1) (k : S72.Idx) : (te k).toNat < 8 ∧ (tv k = 0#32 ∨ tv k = 1#32) := by
  have h0 := congrFun h ix0
  dsimp only [fn] at h0
  obtain ⟨h1, h2⟩ := IntOp.andi_eq_one.1 h0
  obtain ⟨h3, h4⟩ := IntOp.andi_eq_one.1 h1
  obtain ⟨h5, h6⟩ := IntOp.andi_eq_one.1 h3
  haveI : Subsingleton S_.Idx := ⟨fun a b => funext fun i => i.elim0⟩
  exact ⟨below _ (Host.reduce_andi_all _ _ _ _ _ h5 k) (Host.reduce_andi_all _ _ _ _ _ h6 k),
    bit _ (Host.reduce_andi_all _ _ _ _ _ h4 k) (Host.reduce_andi_all _ _ _ _ _ h2 k)⟩

end Cert.Pre_tables

namespace Cert.Kernel2Ideal.Experts

open Cert.Kernel2Ideal Cert.Kernel2Ideal.Gen
open Idealize.ShloMosaic Idealize.ShloMosaic.TcCoe Idealize.SL.Sem

variable {F : FTy → Type} [FloatOps F] (m : (ℓ : Loc nD τ sig) → Buf (Elt F) ℓ)

theorem te_eq : te m = m ((0 : Dev nD), main_arg2) := V_of_ne m 0 main_arg2 (by decide)
theorem tv_eq : tv m = m ((0 : Dev nD), main_arg3) := V_of_ne m 0 main_arg3 (by decide)

/-- Tables of experts below eight and of zeros and ones are what the run needs. -/
theorem fine_of (h : ∀ k : S72.Idx, (te m k).toNat < 8 ∧ (tv m k = 0#32 ∨ tv m k = 1#32)) : Fine m := by
  have hw : ∀ n : ℕ, (word (te m) n).toNat < 8 := fun n => by
    unfold word
    by_cases hn : n < 72
    · rw [dif_pos hn]; exact (h _).1
    · rw [dif_neg hn]; decide
  refine ⟨⟨fun i => ⟨fun a => ?_, .inl rfl⟩, fun i => ⟨fun a => ?_, .inl rfl⟩⟩, fun n hn => ?_⟩
  · have h0 : (i 0).val < 7 := (i 0).isLt
    have h1 := hw (i 1).val
    rw [map1]
    match a with
    | ⟨0, _⟩ => show (0 + 1) * 1 ≤ 1; omega
    | ⟨1, _⟩ => show ((word (te m) (i 1).val).toNat + 1) * 1 ≤ 8; omega
    | ⟨2, _⟩ => show (0 + 1) * 2048 ≤ 2048; omega
    | ⟨3, _⟩ => show ((i 0).val + 1) * 1024 ≤ 14336; omega
  · have h0 : (i 0).val < 7 := (i 0).isLt
    have h1 := hw (i 1).val
    rw [map2]
    match a with
    | ⟨0, _⟩ => show (0 + 1) * 1 ≤ 1; omega
    | ⟨1, _⟩ => show ((word (te m) (i 1).val).toNat + 1) * 1 ≤ 8; omega
    | ⟨2, _⟩ => show (0 + 1) * 2048 ≤ 2048; omega
    | ⟨3, _⟩ => show ((i 0).val + 7 + 1) * 1024 ≤ 14336; omega
  · unfold word
    rw [dif_pos hn]
    exact (h _).2

end Cert.Kernel2Ideal.Experts

end
-- ==== Proof.ExpertsReference.lean ====
module

public import proofs.«01_k».proof.Proof.Gen.Reference2Ideal.Run
public import Idealize.ShloMosaic.Lib.Pointwise
public import Idealize.ShloMosaic.Lib.StableHlo.Predicate

/-! The experts' reference, read at a row and a column at the ideal instance: each expert in turn takes the rows that are
    its own, so a row ends with its own expert's gated product, or with zero where it is none's. -/

@[expose] public section

set_option maxRecDepth 16384

noncomputable section

namespace Cert.Reference2Ideal.Out

open Cert.Reference2Ideal Cert.Reference2Ideal.Gen Idealize.ShloMosaic Idealize.ShloMosaic.TcCoe Idealize.SL.Sem

/-- A number per tile of 512 rows, repeated for each of its rows. -/
def rows (t : S72.Idx → BitVec 32) : S36864x1.Idx → BitVec 32 :=
  shapeCast S36864x1 (broadcastInDim S72x512 ![0, 1] bcast_S72x1_S72x512_0_1 (broadcastInDim S72x1 ![0] bcast_S72_S72x1_0 t))
    shapeCasts_S72x512_S36864x1

/-- Whether a row's number is `x`. -/
def rowIs (x : BitVec 32) (e : S36864x1.Idx → BitVec 32) : S36864x1.Idx → BitVec 1 :=
  cmpi .eq e (broadcastInDim S36864x1 ![] bcast_S_S36864x1 (constantI S_ 32 x))

/-- The sigmoid-weighted linear unit. -/
def silu (x : FVec Ideal S36864x7168 .f32) : FVec Ideal S36864x7168 .f32 :=
  mulf x (Host.divf (broadcastInDim S36864x7168 ![] bcast_S_S36864x7168 (constant S_ .f32 0x3F800000#32))
    (addf (broadcastInDim S36864x7168 ![] bcast_S_S36864x7168 (constant S_ .f32 0x3F800000#32)) (Host.exp (Host.negf x))))

/-- The rows' products with an expert's two matrices, side by side. -/
def prod (a : FVec Ideal S36864x2048 .f32) (w : FVec Ideal S2048x14336 .f32) : FVec Ideal S36864x14336 .f32 :=
  Host.dotGeneral dot_S36864x2048_S2048x14336_S36864x14336_1_0_0_1_n_n none a w

/-- The first product's unit times the second product. -/
def gate (p : FVec Ideal S36864x14336 .f32) : FVec Ideal S36864x7168 .f32 :=
  mulf (silu (extractStridedSlice S36864x7168 ![0, 0] p slices_S36864x14336_S36864x7168_0_0))
    (extractStridedSlice S36864x7168 ![0, 7168] p slices_S36864x14336_S36864x7168_0_7168)

/-- The marked rows replaced. -/
def pick (k : S36864x1.Idx → BitVec 1) (x y : FVec Ideal S36864x7168 .f32) : FVec Ideal S36864x7168 .f32 :=
  select (broadcastInDim S36864x7168 ![0, 1] bcast_S36864x1_S36864x7168_0_1 k) x y

/-- An expert's turn: the valid rows of its own get its gated product. -/
def turn (a : FVec Ideal S36864x2048 .f32) (te tv : S72.Idx → BitVec 32) (x : BitVec 32) (w : FVec Ideal S2048x14336 .f32)
    (y : FVec Ideal S36864x7168 .f32) : FVec Ideal S36864x7168 .f32 :=
  pick (andi (rowIs x (rows te)) (rowIs 1#32 (rows tv))) (gate (prod a w)) y

/-- An expert's two matrices, cut out of all the experts'. -/
def wt (o : Fin 4 → ℕ) (W : FVec Ideal S1x8x2048x14336 .f32) (h : S1x8x2048x14336.Slices o S1x1x2048x14336) :
    FVec Ideal S2048x14336 .f32 :=
  shapeCast S2048x14336 (extractStridedSlice S1x1x2048x14336 o W h) shapeCasts_S1x1x2048x14336_S2048x14336

/-- The zero rows the turns start from. -/
def zero : FVec Ideal S36864x7168 .f32 :=
  broadcastInDim S36864x7168 ![] bcast_S_S36864x7168 (constant S_ .f32 0x00000000#32)

/-- The reference's result, of its four arguments. -/
def out (a : FVec Ideal S36864x2048 .f32) (W : FVec Ideal S1x8x2048x14336 .f32) (te tv : S72.Idx → BitVec 32) :
    FVec Ideal S36864x7168 .bf16 :=
  truncf .bf16
    (turn a te tv 7#32 (wt ![0, 7, 0, 0] W slices_S1x8x2048x14336_S1x1x2048x14336_0_7_0_0)
    (turn a te tv 6#32 (wt ![0, 6, 0, 0] W slices_S1x8x2048x14336_S1x1x2048x14336_0_6_0_0)
    (turn a te tv 5#32 (wt ![0, 5, 0, 0] W slices_S1x8x2048x14336_S1x1x2048x14336_0_5_0_0)
    (turn a te tv 4#32 (wt ![0, 4, 0, 0] W slices_S1x8x2048x14336_S1x1x2048x14336_0_4_0_0)
    (turn a te tv 3#32 (wt ![0, 3, 0, 0] W slices_S1x8x2048x14336_S1x1x2048x14336_0_3_0_0)
    (turn a te tv 2#32 (wt ![0, 2, 0, 0] W slices_S1x8x2048x14336_S1x1x2048x14336_0_2_0_0)
    (turn a te tv 1#32 (wt ![0, 1, 0, 0] W slices_S1x8x2048x14336_S1x1x2048x14336_0_1_0_0)
    (turn a te tv 0#32 (wt ![0, 0, 0, 0] W slices_S1x8x2048x14336_S1x1x2048x14336_0_0_0_0)
      zero)))))))) bitsLt_bf16_f32

/-- A row's number is its tile's. -/
theorem rows_at (t : S72.Idx → BitVec 32) (r : Fin 36864) (z : Fin 1) :
    rows t (ix2 r z) = t (ix1 (⟨r / 512, by omega⟩ : Fin 72)) := by
  pointwise [rows]

/-- The pattern of one is one. -/
theorem one : Ideal.ofBits .f32 1065353216#32 = (1 : EReal) := by
  simp [Ideal.ofBits, Ideal.ieee]
  rw [← EReal.coe_mul]
  norm_num

/-- The unit of a number. -/
def unit (x : EReal) : EReal := x * Ideal.div 1 (1 + Ideal.exp (-x))

theorem silu_at (x : FVec Ideal S36864x7168 .f32) (r : Fin 36864) (n : Fin 7168) :
    silu x (ix2 r n) = unit (x (ix2 r n)) := by
  have e1 : broadcastInDim S36864x7168 ![] bcast_S_S36864x7168 (constant (F := Ideal) S_ .f32 0x3F800000#32) (ix2 r n) = (1 : EReal) := one
  show x (ix2 r n) * Ideal.div (broadcastInDim S36864x7168 ![] bcast_S_S36864x7168 (constant (F := Ideal) S_ .f32 0x3F800000#32) (ix2 r n))
    (broadcastInDim S36864x7168 ![] bcast_S_S36864x7168 (constant (F := Ideal) S_ .f32 0x3F800000#32) (ix2 r n) + Ideal.exp (-x (ix2 r n))) = _
  rw [e1]
  rfl

theorem prod_at (a : FVec Ideal S36864x2048 .f32) (w : FVec Ideal S2048x14336 .f32) (r : Fin 36864) (n : Fin 14336) :
    prod a w (ix2 r n) = ∑ d : Fin 2048, a (ix2 r d) * w (ix2 d n) := by
  pointwise [prod]

/-- The gated product of a row and a column: the unit of the first sum times the second sum. -/
theorem gate_at (p : FVec Ideal S36864x14336 .f32) (r : Fin 36864) (n : Fin 7168) :
    gate p (ix2 r n) = (unit (p (ix2 r (⟨n, by omega⟩ : Fin 14336))) : EReal) * p (ix2 r (⟨n + 7168, by omega⟩ : Fin 14336)) := by
  have e : ∀ (x y : FVec Ideal S36864x7168 .f32) (i : S36864x7168.Idx) (u v : EReal), x i = u → y i = v → mulf x y i = u * v := by
    rintro x y i u v rfl rfl; rfl
  refine e _ _ _ _ _ ((silu_at _ r n).trans (congrArg unit ?_)) ?_
  · pointwise []
  · pointwise []
    exact congrArg (fun k => p (ix2 r k)) (Fin.ext (Nat.add_comm _ _))

theorem pick_at (k : S36864x1.Idx → BitVec 1) (x y : FVec Ideal S36864x7168 .f32) (r : Fin 36864) (n : Fin 7168) :
    pick k x y (ix2 r n) = if k (ix2 r (0 : Fin 1)) = 1#1 then x (ix2 r n) else y (ix2 r n) := by
  pointwise [pick]
  rfl

theorem rowIs_at (x : BitVec 32) (t : S72.Idx → BitVec 32) (r : Fin 36864) (z : Fin 1) :
    rowIs x (rows t) (ix2 r z) = 1#1 ↔ t (ix1 (⟨r / 512, by omega⟩ : Fin 72)) = x := by
  rw [← rows_at t r z]
  exact StableHlo.Predicate.cmpi_eq_iff

/-- A gated product of row `r` and column `n` with expert `E`. -/
def hid (a : FVec Ideal S36864x2048 .f32) (W : FVec Ideal S1x8x2048x14336 .f32) (E : Fin 8) (r : Fin 36864) (n : Fin 7168) : EReal :=
  unit (∑ d : Fin 2048, a (ix2 r d) * W (ix4 (0 : Fin 1) E d (⟨n, by omega⟩ : Fin 14336)))
    * ∑ d : Fin 2048, a (ix2 r d) * W (ix4 (0 : Fin 1) E d (⟨n + 7168, by omega⟩ : Fin 14336))

/-- An expert's turn at a row and a column. -/
theorem turn_at (a : FVec Ideal S36864x2048 .f32) (te tv : S72.Idx → BitVec 32) (x : BitVec 32) (w : FVec Ideal S2048x14336 .f32)
    (y : FVec Ideal S36864x7168 .f32) (W : FVec Ideal S1x8x2048x14336 .f32) (E : Fin 8)
    (hw : ∀ (d : Fin 2048) (n : Fin 14336), w (ix2 d n) = W (ix4 (0 : Fin 1) E d n)) (r : Fin 36864) (n : Fin 7168) :
    turn a te tv x w y (ix2 r n)
      = if te (ix1 (⟨r / 512, by omega⟩ : Fin 72)) = x ∧ tv (ix1 (⟨r / 512, by omega⟩ : Fin 72)) = 1#32 then hid a W E r n else y (ix2 r n) := by
  refine (pick_at _ _ _ r n).trans ?_
  have e : gate (prod a w) (ix2 r n) = hid a W E r n := by
    rw [gate_at, prod_at, prod_at]
    simp only [hw]
    rfl
  rw [e]
  refine if_congr ?_ rfl rfl
  refine Iff.trans (IntOp.andi_eq_one (c := rowIs x (rows te) (ix2 r (0 : Fin 1))) (d := rowIs 1#32 (rows tv) (ix2 r (0 : Fin 1)))) ?_
  rw [rowIs_at, rowIs_at]

theorem wt_at0 (W : FVec Ideal S1x8x2048x14336 .f32) (h) (d : Fin 2048) (n : Fin 14336) :
    wt ![0, 0, 0, 0] W h (ix2 d n) = W (ix4 (0 : Fin 1) (0 : Fin 8) d n) := by
  pointwise [wt]

theorem wt_at1 (W : FVec Ideal S1x8x2048x14336 .f32) (h) (d : Fin 2048) (n : Fin 14336) :
    wt ![0, 1, 0, 0] W h (ix2 d n) = W (ix4 (0 : Fin 1) (1 : Fin 8) d n) := by
  pointwise [wt]

theorem wt_at2 (W : FVec Ideal S1x8x2048x14336 .f32) (h) (d : Fin 2048) (n : Fin 14336) :
    wt ![0, 2, 0, 0] W h (ix2 d n) = W (ix4 (0 : Fin 1) (2 : Fin 8) d n) := by
  pointwise [wt]

theorem wt_at3 (W : FVec Ideal S1x8x2048x14336 .f32) (h) (d : Fin 2048) (n : Fin 14336) :
    wt ![0, 3, 0, 0] W h (ix2 d n) = W (ix4 (0 : Fin 1) (3 : Fin 8) d n) := by
  pointwise [wt]

theorem wt_at4 (W : FVec Ideal S1x8x2048x14336 .f32) (h) (d : Fin 2048) (n : Fin 14336) :
    wt ![0, 4, 0, 0] W h (ix2 d n) = W (ix4 (0 : Fin 1) (4 : Fin 8) d n) := by
  pointwise [wt]

theorem wt_at5 (W : FVec Ideal S1x8x2048x14336 .f32) (h) (d : Fin 2048) (n : Fin 14336) :
    wt ![0, 5, 0, 0] W h (ix2 d n) = W (ix4 (0 : Fin 1) (5 : Fin 8) d n) := by
  pointwise [wt]

theorem wt_at6 (W : FVec Ideal S1x8x2048x14336 .f32) (h) (d : Fin 2048) (n : Fin 14336) :
    wt ![0, 6, 0, 0] W h (ix2 d n) = W (ix4 (0 : Fin 1) (6 : Fin 8) d n) := by
  pointwise [wt]

theorem wt_at7 (W : FVec Ideal S1x8x2048x14336 .f32) (h) (d : Fin 2048) (n : Fin 14336) :
    wt ![0, 7, 0, 0] W h (ix2 d n) = W (ix4 (0 : Fin 1) (7 : Fin 8) d n) := by
  pointwise [wt]

/-- The reference at a row and a column: the gated product with the row's own expert where its tile is valid, zero elsewhere. -/
theorem out_at (a : FVec Ideal S36864x2048 .f32) (W : FVec Ideal S1x8x2048x14336 .f32) (te tv : S72.Idx → BitVec 32)
    (r : Fin 36864) (n : Fin 7168) (E : Fin 8) (hE : te (ix1 (⟨r / 512, by omega⟩ : Fin 72)) = BitVec.ofNat 32 E.val) :
    out a W te tv (ix2 r n) = if tv (ix1 (⟨r / 512, by omega⟩ : Fin 72)) = 1#32 then hid a W E r n else 0 := by
  have hz : zero (ix2 r n) = (0 : EReal) := by
    show Ideal.ofBits .f32 0x00000000#32 = _
    simp [Ideal.ofBits, Ideal.ieee]
  have ht : ∀ (x : FVec Ideal S36864x7168 .f32) (i : S36864x7168.Idx), truncf .bf16 x bitsLt_bf16_f32 i = x i := fun _ _ => rfl
  unfold out
  rw [ht]
  rw [turn_at _ _ _ _ _ _ W 7 (wt_at7 W _), turn_at _ _ _ _ _ _ W 6 (wt_at6 W _), turn_at _ _ _ _ _ _ W 5 (wt_at5 W _),
    turn_at _ _ _ _ _ _ W 4 (wt_at4 W _), turn_at _ _ _ _ _ _ W 3 (wt_at3 W _), turn_at _ _ _ _ _ _ W 2 (wt_at2 W _),
    turn_at _ _ _ _ _ _ W 1 (wt_at1 W _), turn_at _ _ _ _ _ _ W 0 (wt_at0 W _), hz, hE]
  by_cases hv : tv (ix1 (⟨r / 512, by omega⟩ : Fin 72)) = 1#32
  · rw [if_pos hv]
    simp only [hv, and_true]
    fin_cases E <;> simp
  · rw [if_neg hv]
    simp only [hv, and_false, if_false]

end Cert.Reference2Ideal.Out
-- ==== Proof.Experts.lean ====
module

public import proofs.«01_k».proof.Proof.ExpertsTables
public import proofs.«01_k».proof.Proof.ExpertsReference
public import proofs.«01_k».proof.Proof.Gen.Pre_tables
public import proofs.«01_k».proof.Proof.Gen.Kernel2
public import proofs.«01_k».proof.Defs
public import Idealize.ShloMosaic.Lib.Pointwise
public import Idealize.ShloMosaic.Lib.StableHlo.ReadAt
public import Idealize.ShloMosaic.Lib.Quiescent

/-! The experts' first kernel at the ideal instance: what a tile holds at a row and a column, the result array the tiles
    make up, and that it is the reference's. -/

@[expose] public section

set_option maxRecDepth 16384

noncomputable section

namespace Cert.Kernel2Ideal.Experts

open Cert.Kernel2Ideal Cert.Kernel2Ideal.Gen Idealize.ShloMosaic Idealize.ShloMosaic.TcCoe Idealize.SL.Sem
open Idealize.ShloMosaic.Pipeline (Dat)
open Cert.Reference2Ideal.Out (unit one hid)

/-- The gated product of a tile's row and column. -/
theorem pay3_at (x : Vec Ideal S512x2048 .bf16) (w0 w1 : Vec Ideal S2048x1024 .bf16) (r : Fin 512) (n : Fin 1024) :
    k0_pay3 x w0 w1 (ix2 r n) = (unit (∑ d : Fin 2048, (x (ix2 r d) : EReal) * w0 (ix2 d n)) : EReal) * ∑ d : Fin 2048, (x (ix2 r d) : EReal) * w1 (ix2 d n) := by
  pointwise [k0_pay3]
  rw [zero_sub]
  rfl

theorem pay1_at (w : Vec Ideal S1x1x2048x1024 .f32) (d : Fin 2048) (n : Fin 1024) :
    k0_pay1 w (ix2 d n) = (w (ix4 (0 : Fin 1) (0 : Fin 1) d n) : EReal) := by
  pointwise [k0_pay1]

theorem pay2_at (w : Vec Ideal S1x1x2048x1024 .f32) (d : Fin 2048) (n : Fin 1024) :
    k0_pay2 w (ix2 d n) = (w (ix4 (0 : Fin 1) (0 : Fin 1) d n) : EReal) := by
  pointwise [k0_pay2]

theorem pay4_at (i : S512x1024.Idx) : (k0_pay4 (F := Ideal)) i = (0 : EReal) := by
  show Ideal.ofBits .bf16 0x0000#16 = _
  simp [Ideal.ofBits, Ideal.ieee]

/-- Where the activations' block and the result's block lie, in blocks. -/
theorem map0 (i : grid0.Coords) : cc0_transform_0 i = ![(i 1).val, 0] := by
  have h0 : (i 1).val < 72 := (i 1).isLt
  have e0 : (BitVec.ofNat 32 (i 1).val).toNat = (i 1).val := by simp; omega
  show ![(BitVec.ofNat 32 (i 1).val).toNat, (0#32 : BitVec 32).toNat] = _
  rw [e0]; rfl

theorem map3 (i : grid0.Coords) : cc0_transform_3 i = ![(i 1).val, (i 0).val] := by
  have h0 : (i 1).val < 72 := (i 1).isLt
  have h1 : (i 0).val < 7 := (i 0).isLt
  have e0 : (BitVec.ofNat 32 (i 1).val).toNat = (i 1).val := by simp; omega
  have e1 : (BitVec.ofNat 32 (i 0).val).toNat = (i 0).val := by simp; omega
  show ![(BitVec.ofNat 32 (i 1).val).toNat, (BitVec.ofNat 32 (i 0).val).toNat] = _
  rw [e0, e1]

variable {m : (ℓ : Loc nD τ sig) → Buf (Elt Ideal) ℓ}

/-- The arguments: the rows, the weights. -/
abbrev argA (m : (ℓ : Loc nD τ sig) → Buf (Elt Ideal) ℓ) (c : Dev nD) : FVec Ideal S36864x2048 .f32 := m ((c : Thread nD τ).loc main_arg0)
abbrev argW (m : (ℓ : Loc nD τ sig) → Buf (Elt Ideal) ℓ) (c : Dev nD) : FVec Ideal S1x8x2048x14336 .f32 := m ((c : Thread nD τ).loc main_arg1)

theorem v0_at (c : Dev nD) (i : S36864x2048.Idx) : (V m c main_v0 : FVec Ideal S36864x2048 .bf16) i = argA m c i := by
  unfold V
  after_reads_at

theorem iblk0_at (hO : Fine m) (c : Dev nD) (t : Fin (cfgM hO).N) (r : Fin 512) (d : Fin 2048) (R : Fin 36864)
    (hR : (R : ℕ) = rowOf hO t * 512 + r) :
    (iblk hO c 0 t : Vec Ideal S512x2048 .bf16) (ix2 r d) = argA m c (ix2 R d) := by
  refine Eq.trans (congrArg (V m c main_v0 : Vec Ideal S36864x2048 .bf16) (funext fun a => ?_)) (v0_at c (ix2 R d))
  have e' : ∀ a, cc0_transform_0 (grid0.coords t) a = ![rowOf hO t, 0] a := congrFun (map0 (grid0.coords t))
  fin_cases a
  · apply Fin.ext; show cc0_transform_0 (grid0.coords t) 0 * 512 + 1 * (r : ℕ) = R; rw [e', hR]; simp
  · apply Fin.ext; show cc0_transform_0 (grid0.coords t) 1 * 2048 + 1 * (d : ℕ) = d; rw [e']; simp

/-- A tile at a row and a column: the gated product with the row tile's expert, or zero. -/
theorem tile_at (hO : Fine m) (c : Dev nD) (t : Fin (cfgM hO).N) (r : Fin 512) (n : Fin 1024) (R : Fin 36864) (N : Fin 7168)
    (hR : (R : ℕ) = rowOf hO t * 512 + r) (hN : (N : ℕ) = colOf hO t * 1024 + n) (E : Fin 8) (hE : (E : ℕ) = (word (te m) (rowOf hO t)).toNat) :
    outTile hO c t (ix2 r n) = if word (tv m) (rowOf hO t) = 1#32 then hid (argA m c) (argW m c) E R N else 0 := by
  unfold outTile tile
  by_cases hv : word (tv m) (rowOf hO t) = 1#32
  · rw [if_pos hv, if_pos hv]
    refine (pay3_at _ _ _ r n).trans ?_
    have hw : (V m c main_arg1 : Vec Ideal S1x8x2048x14336 .f32) = argW m c := V_of_ne m c main_arg1 (by decide)
    have e0 : ∀ d : Fin 2048, ((iblk hO c 0 t : Vec Ideal S512x2048 .bf16) (ix2 r d) : EReal) = argA m c (ix2 R d) := fun d => iblk0_at hO c t r d R hR
    have e1 : ∀ d : Fin 2048, (k0_pay1 (iblk hO c 1 t) (ix2 d n) : EReal) = argW m c (ix4 (0 : Fin 1) E d (⟨N, by omega⟩ : Fin 14336)) := fun d =>
      ((pay1_at _ d n).trans (iblk1_at hO c t d n E ⟨N, by omega⟩ hE hN)).trans (congrFun hw _)
    have e2 : ∀ d : Fin 2048, (k0_pay2 (iblk hO c 2 t) (ix2 d n) : EReal) = argW m c (ix4 (0 : Fin 1) E d (⟨N + 7168, by omega⟩ : Fin 14336)) := fun d =>
      ((pay2_at _ d n).trans (iblk2_at hO c t d n E ⟨N + 7168, by omega⟩ hE (by dsimp only; omega))).trans (congrFun hw _)
    refine congrArg₂ (fun a b : EReal => a * b) (congrArg unit (Finset.sum_congr rfl fun d _ => congrArg₂ (fun a b : EReal => a * b) (e0 d) (e1 d)))
      (Finset.sum_congr rfl fun d _ => congrArg₂ (fun a b : EReal => a * b) (e0 d) (e2 d))
  · rw [if_neg hv, if_neg hv]
    exact pay4_at _

/-- The result's block lies inside its array. -/
theorem inb3 (i : grid0.Coords) (a : Fin 2) : cc0_transform_3 i a * S512x1024.size a + S512x1024.size a ≤ S36864x7168.size a := by
  have h := hinb0_3 i a
  rwa [Nat.add_mul, Nat.one_mul] at h

/-- An index of the result array lies in the block of the grid point whose row tile and column tile it names. -/
theorem mem_blk (hO : Fine m) (t : Fin (cfgM hO).N) (i : S36864x7168.Idx) :
    i ∈ (((cfgM hO).win 3).blk t).view.set ↔
      (rowOf hO t * 512 ≤ ((i 0 : Fin 36864) : ℕ) ∧ ((i 0 : Fin 36864) : ℕ) < rowOf hO t * 512 + 512)
      ∧ (colOf hO t * 1024 ≤ ((i 1 : Fin 7168) : ℕ) ∧ ((i 1 : Fin 7168) : ℕ) < colOf hO t * 1024 + 1024) := by
  show i ∈ ((View.whole main_v1).slice (Rect.unit (s := S36864x7168) (fun a => cc0_transform_3 (grid0.coords t) a * S512x1024.size a) S512x1024.size (inb3 (grid0.coords t)))).set ↔ _
  rw [View.set_slice_whole, Rect.mem_set_unit]
  have e' : ∀ a, cc0_transform_3 (grid0.coords t) a = ![rowOf hO t, colOf hO t] a := congrFun (map3 (grid0.coords t))
  have e0 : cc0_transform_3 (grid0.coords t) 0 = rowOf hO t := e' 0
  have e1 : cc0_transform_3 (grid0.coords t) 1 = colOf hO t := e' 1
  refine ⟨fun h => ?_, fun h a => ?_⟩
  · have h0 : cc0_transform_3 (grid0.coords t) 0 * 512 ≤ ((i 0 : Fin 36864) : ℕ) ∧ ((i 0 : Fin 36864) : ℕ) < cc0_transform_3 (grid0.coords t) 0 * 512 + 512 := h 0
    have h1 : cc0_transform_3 (grid0.coords t) 1 * 1024 ≤ ((i 1 : Fin 7168) : ℕ) ∧ ((i 1 : Fin 7168) : ℕ) < cc0_transform_3 (grid0.coords t) 1 * 1024 + 1024 := h 1
    rw [e0] at h0
    rw [e1] at h1
    exact ⟨h0, h1⟩
  · match a with
    | ⟨0, _⟩ => show cc0_transform_3 (grid0.coords t) 0 * 512 ≤ ((i 0 : Fin 36864) : ℕ) ∧ ((i 0 : Fin 36864) : ℕ) < cc0_transform_3 (grid0.coords t) 0 * 512 + 512
                rw [e0]; exact h.1
    | ⟨1, _⟩ => show cc0_transform_3 (grid0.coords t) 1 * 1024 ≤ ((i 1 : Fin 7168) : ℕ) ∧ ((i 1 : Fin 7168) : ℕ) < cc0_transform_3 (grid0.coords t) 1 * 1024 + 1024
                rw [e1]; exact h.2

/-- The result's blocks tile its array. -/
theorem cover (hO : Fine m) (i : S36864x7168.Idx) :
    ∃ t : Fin (cfgM hO).N, ((cfgM hO).win 3).flush t = true ∧ i ∈ (((cfgM hO).win 3).blk t).view.set := by
  have h0 : ((i 0 : Fin 36864) : ℕ) < 36864 := Fin.isLt _
  have h1 : ((i 1 : Fin 7168) : ℕ) < 7168 := Fin.isLt _
  have hN : (cfgM hO).N = 504 := N_0
  refine ⟨⟨((i 1 : Fin 7168) : ℕ) / 1024 * 72 + ((i 0 : Fin 36864) : ℕ) / 512, by omega⟩, flush_3 hO _, ?_⟩
  rw [mem_blk, row_eq, col_eq]
  dsimp only
  omega

/-- The array the tiles make up is the reference's result. -/
theorem final (hO : Fine m) (c : Dev nD) :
    (dats hO 0 c).arrAt 3 (cfgM hO).N = Cert.Reference2Ideal.Out.out (argA m c) (argW m c) (te m) (tv m) := by
  refine (dats hO 0 c).arrAt_eq_of_cover 3 (Cert.Reference2Ideal.Out.out (argA m c) (argW m c) (te m) (tv m)) (fun t _ => ?_) (cover hO)
  refine Eq.trans (show (dats hO 0 c).flushed 3 t = outTile hO c t from after_3 hO c t) ?_
  funext y
  obtain ⟨r, n, hy⟩ : ∃ (r : Fin 512) (n : Fin 1024), y = ix2 r n := ⟨y 0, y 1, by funext a; fin_cases a <;> rfl⟩
  subst hy
  have hr := row_lt hO t
  have hc : colOf hO t < 7 := (grid0.coords t 0).isLt
  have hE := word_lt hO (rowOf hO t)
  have e0 : rowOf hO t * 512 + (r : ℕ) < 36864 := by have := r.isLt; omega
  have e1 : colOf hO t * 1024 + (n : ℕ) < 7168 := by have := n.isLt; omega
  have ht : (rowOf hO t * 512 + (r : ℕ)) / 512 = rowOf hO t := by have := r.isLt; omega
  have hw : ∀ s : S72.Idx → BitVec 32, s (ix1 (⟨(rowOf hO t * 512 + (r : ℕ)) / 512, by omega⟩ : Fin 72)) = word s (rowOf hO t) := fun s => by
    unfold word; rw [dif_pos hr]; exact congrArg (fun k => s (ix1 k)) (Fin.ext ht)
  refine (tile_at hO c t r n ⟨_, e0⟩ ⟨_, e1⟩ rfl rfl ⟨_, hE⟩ rfl).trans (Eq.trans ?_ (congrArg (Cert.Reference2Ideal.Out.out (argA m c) (argW m c) (te m) (tv m)) (?_ : ix2 (⟨_, e0⟩ : Fin 36864) (⟨_, e1⟩ : Fin 7168) = _)))
  · refine ((Cert.Reference2Ideal.Out.out_at (argA m c) (argW m c) (te m) (tv m) ⟨_, e0⟩ ⟨_, e1⟩ ⟨_, hE⟩ ((hw (te m)).trans ?_)).trans ?_).symm
    · simp
    · exact if_congr (Iff.of_eq (congrArg (· = 1#32) (hw (tv m)))) rfl rfl
  · have e' : ∀ a, cc0_transform_3 (grid0.coords t) a = ![rowOf hO t, colOf hO t] a := congrFun (map3 (grid0.coords t))
    funext a
    fin_cases a
    · apply Fin.ext; show rowOf hO t * 512 + (r : ℕ) = cc0_transform_3 (grid0.coords t) 0 * 512 + 1 * (r : ℕ); rw [e']; simp
    · apply Fin.ext; show colOf hO t * 1024 + (n : ℕ) = cc0_transform_3 (grid0.coords t) 1 * 1024 + 1 * (n : ℕ); rw [e']; simp

/-- Where the precondition holds, the run has what it needs of the tables. -/
theorem fine_ideal (hm : Cert.Pre_Kernel2Ideal m) : Fine m := fine_of m fun k => by
  rw [te_eq, tv_eq]
  exact Cert.Pre_tables.entries _ _ _ _ (hm 0) k

end Cert.Kernel2Ideal.Experts

namespace Cert.Proof.ExpertsClaims

open Cert.Kernel2Ideal Idealize.ShloMosaic Idealize.ShloMosaic.TcCoe Idealize.SL.Sem
open Cert.Kernel2Ideal.Experts

/-- The kernel's body and its ideal form's are the same text. -/
theorem body_same : Cert.Kernel2.defs₀ (F := Bits) = defs₀ (F := Bits) := by
  unfold Cert.Kernel2.defs₀ defs₀
  refine congrArg Defs.onTc (funext fun l => ?_)
  match l with
  | ⟨0, _⟩ => exact funext fun args => rfl

/-- So are their body tables with the pipeline. -/
theorem defs_same : Cert.Kernel2.defs (F := Bits) = defs (F := Bits) := congrArg (Pipeline.defs pcfgs) body_same

/-- With tables that name experts and mark row tiles, the kernel returns with its arguments unchanged and its counters at zero. -/
theorem frame_kernel : Cert.quiescent_Kernel2 := fun m ρ hm => by
  have hO : Fine (F := Bits) m := fine_of (F := Bits) m fun k => by
    rw [te_eq, tv_eq]
    exact Cert.Pre_tables.entries _ _ _ _ (hm 0) k
  rw [defs_same]
  exact frame (F := Bits) ρ hO

/-- So does its ideal form. -/
theorem frame_ideal : Cert.quiescent_Kernel2Ideal := fun m ρ hm => frame (F := Ideal) ρ (fine_ideal hm)

/-- From arguments that agree, with tables that name experts and mark row tiles, the kernel and the reference end with the same array. -/
theorem algebraic : Cert.algebraic_Kernel2Ideal_Reference2Ideal := by
  intro m ρ m' ρ' hm ha
  have hO := fine_ideal hm
  refine ⟨fun c => (dats hO 0 c).arrAt 3 (cfgM hO).N, (θ_run defs _ _).mono (fun _ h => h.1) (run_result ρ hO), ?_⟩
  refine (θ_run Cert.Reference2Ideal.defs _ _).mono (fun _ h c => ⟨(h c).1.trans ?_, (h c).2⟩) (Cert.Reference2Ideal.Value.run (F := Ideal) m' ρ')
  obtain ⟨h0, h1, h2, h3⟩ := ha c
  obtain rfl : c = 0 := Subsingleton.elim _ _
  refine Eq.trans ?_ (final hO 0).symm
  rw [te_eq, tv_eq]
  unfold Cert.Reference2Ideal.Value.res_main_v97
  rw [h0, h1, h2, h3]
  rfl

end Cert.Proof.ExpertsClaims

end
-- ==== Proof.DownRun.lean ====
module

public import proofs.«01_k».proof.Proof.Gen.Kernel3Ideal.Launch
public import proofs.«01_k».proof.Proof.Gen.Kernel3Ideal.Skeleton
public import proofs.«01_k».proof.Proof.ExpertsRun
public import Idealize.ShloMosaic.Lib.Writes
public import Idealize.ShloMosaic.Lib.Pipeline.Value

@[expose] public section

set_option maxRecDepth 16384

noncomputable section

namespace Cert.Kernel3Ideal.Down

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Experts (word)

variable {F : FTy → Type} [FloatOps F]

local notation "𝕄" => MT nD τ sig Unit (Elt F) ℕ (UR sig nD τ) ℕ

/-- The three tables as whole memrefs: the experts', the valid row tiles', the row tiles' sources. -/
abbrev expertM : Memref sig .tc .smem S72 .i32 := Memref.whole main_arg2
abbrev validM : Memref sig .tc .smem S72 .i32 := Memref.whole main_arg3
abbrev sourceM : Memref sig .tc .smem S72 .i32 := Memref.whole main_arg4

/-- A table held at half the full share, at the contents `f`; the pipeline keeps the other half. -/
abbrev tablePt (c : Dev nD) {S : Shape} {e : EltTy} (M : Memref sig .tc .smem S e) (f : Buf (Elt F) (M.view.loc (c : Thread nD τ))) : sProp 𝕄 :=
  M.view.loc (c : Thread nD τ) ↦{fullShare.right} f

/-- A scalar read of the table of valid row tiles is its word at the read's offset. -/
theorem valid_read (c : Dev nD) (tv : S72.Idx → BitVec 32) {off : Fin 1 → ℕ} (h : ∀ a, off a + S1.size a ≤ S72.size a) {n : ℕ} (hn : off 0 = n)
    (x : S1.Idx) : View.readAt (Elt F) validM.view (Rect.unit (s := S72) off S1.size h).toLoadRect tv x = word tv n := by
  have hl : n < 72 := by have := h 0; simp [S1, S72] at this; omega
  unfold word; rw [dif_pos hl]
  show tv _ = tv _
  refine congrArg tv (funext fun a => ?_)
  obtain rfl : a = (0 : Fin 1) := Subsingleton.elim (α := Fin 1) _ _
  have hx : (x 0).val = 0 := by have := (x 0).isLt; simp [S1] at this; omega
  apply Fin.ext
  show off 0 + 1 * (x 0).val = n
  omega

/-- An index map's read of a table is the table's word at the read's offset. -/
theorem at_read (t : S72.Idx → BitVec 32) {off : Fin 1 → ℕ} (h : ∀ a, off a + S1.size a ≤ S72.size a) {n : ℕ} (hn : off 0 = n) :
   t (Rect.point (Rect.unit (s := S72) off S1.size h) numel1_S1) = word t n := by
  have hl : n < 72 := by have := h 0; simp [S1, S72] at this; omega
  refine Eq.trans ?_ (show word t n = t (ix1 ⟨n, hl⟩) from dif_pos hl).symm
  refine congrArg t (funext fun a => ?_)
  obtain rfl : a = (0 : Fin 1) := Subsingleton.elim (α := Fin 1) _ _
  apply Fin.ext
  show off 0 + 1 * 0 = n
  omega

/-- A product's 512 rows of 1024 columns laid out as 4096 rows of 128: eight rows of the tile to each row of the product. -/
def lay (v : Vec F S512x1024 .f32) : Vec F S1x4096x128 .f32 := fun i =>
  v (ix2 (⟨(i 1).val / 8, by have : (i 1).val < 4096 := (i 1).isLt; omega⟩ : Fin 512)
    (⟨(i 1).val % 8 * 128 + (i 2).val, by have : (i 2).val < 128 := (i 2).isLt; omega⟩ : Fin 1024))

/-- The rows of the output tile whose number is `k` modulo eight. -/
abbrev stripe (k : ℕ) (hi : ∀ a, S1x512x128.size a = 0 ∨ (![0, k, 0] : Fin 3 → Nat) a + (![1, 8, 1] : Fin 3 → Nat) a * (S1x512x128.size a - 1) < S1x4096x128.size a) : Rect S1x4096x128 :=
  ⟨⟨![0, k, 0], S1x512x128.size, ![1, 8, 1], hi⟩, spos_1_8_1⟩

/-- A column slice of the product, stored to a stripe, is the laid-out product there. -/
theorem stripe_eq (v : Vec F S512x1024 .f32) (k o : ℕ) (ho : o = k * 128) (hk : k < 8) (hs : S512x1024.Slices ![0, o] S512x128) (hi)
    (x : S1x512x128.Idx) : shapeCast S1x512x128 (extractStridedSlice S512x128 ![0, o] v hs) shapeCasts_S512x128_S1x512x128 x = lay v ((stripe k hi).emb x) := by
  have h1 : (x 1).val < 512 := (x 1).isLt
  have h2 : (x 2).val < 128 := (x 2).isLt
  refine (shapeCast_addUnit_apply ![512, 128] _ _ x).trans ?_
  refine extractStridedSlice_apply _ _ _ _ _ fun a => ?_
  match a with
  | ⟨0, _⟩ =>
    show (k + 8 * (x 1).val) / 8 = 0 + (x 1).val
    omega
  | ⟨1, _⟩ =>
    show (k + 8 * (x 1).val) % 8 * 128 + (0 + 1 * (x 2).val) = o + (x 2).val
    omega

/-- Every place of the output tile lies in the stripe of its row's number modulo eight. -/
theorem stripe_mem (k : ℕ) (hi) (y : S1x4096x128.Idx) (h : (y 1).val % 8 = k) : y ∈ (stripe k hi).set := by
  have h1 : (y 1).val < 4096 := (y 1).isLt
  refine (stripe k hi).toLoadRect.mem_set.2 fun a => ?_
  match a with
  | ⟨0, _⟩ => exact ⟨0, by show 0 < 1; decide, by have : (y 0).val < 1 := (y 0).isLt; show (y 0).val = 0 + 1 * 0; omega⟩
  | ⟨1, _⟩ => exact ⟨(y 1).val / 8, by show (y 1).val / 8 < 512; omega, by show (y 1).val = k + 8 * ((y 1).val / 8); omega⟩
  | ⟨2, _⟩ => exact ⟨(y 2).val, (y 2).isLt, by show (y 2).val = 0 + 1 * (y 2).val; omega⟩

/-- What the output tile holds after a grid point: the product laid out where the row tile is valid, zero where it is not. -/
def tile (tv : S72.Idx → BitVec 32) (k : ℕ) (x0 : Vec F S512x7168 .bf16) (x1 : Vec F S1x7168x1024 .bf16) : Vec F S1x4096x128 .f32 :=
  if word tv k = 1#32 then lay (k0_pay4 x0 x1) else k0_pay3

set_option maxHeartbeats 2000000 in
/-- One grid point of the kernel: from the input blocks `x0`, `x1` it leaves the inputs and the output tile at `tile` of them. -/
theorem run (c : Dev nD) (i : grid0.Coords) (arg5 : Memref sig .tc .vmem S512x7168 .bf16) (harg5 : arg5.IsWhole) (arg6 : Memref sig .tc .vmem S1x7168x1024 .bf16) (harg6 : arg6.IsWhole) (arg7 : Memref sig .tc .vmem S1x4096x128 .f32) (harg7 : arg7.IsWhole)
    (x0 : Vec F S512x7168 .bf16) (x1 : Vec F S1x7168x1024 .bf16)
    (te tv ts : S72.Idx → BitVec 32) (hv : word tv (i 1).val = 0#32 ∨ word tv (i 1).val = 1#32)
    (E : Set ℕ) (K : PUnit → sProp 𝕄) :
    iprop(owns (c : Thread nD τ) arg5 fullShare x0 ∗ owns (c : Thread nD τ) arg6 fullShare x1 ∗ (∃ d, owns (c : Thread nD τ) arg7 fullShare d) ∗ tablePt c expertM te ∗ tablePt c validM tv ∗ tablePt c sourceM ts
            ∗ (iprop(owns (c : Thread nD τ) arg5 fullShare x0 ∗ owns (c : Thread nD τ) arg6 fullShare x1 ∗ owns (c : Thread nD τ) arg7 fullShare (tile tv (i 1).val x0 x1) ∗ tablePt c expertM te ∗ tablePt c validM tv ∗ tablePt c sourceM ts) -∗ K ⟨⟩))
          ⊢ wp frame (wpE (defs₀ (F := F)) Variants.none c none) E (cc0_moe_w2 i expertM (Memref.isWhole_whole _) validM (Memref.isWhole_whole _) sourceM (Memref.isWhole_whole _) arg5 harg5 arg6 harg6 arg7 harg7) K := by
    have o1 : k0_off1 i 0 = (i 1).val := congrFun (k0_off1_eq i) 0
    have o2 : k0_off2 i 0 = (i 1).val := congrFun (k0_off2_eq i) 0
    simp only [cc0_moe_w2_eq_skeleton]; unfold cc0_moe_w2_skel
    simp only [k0_part1_eq_skeleton]; unfold k0_part1_skel
    unfold owns
    iintro ⟨⟨%f0, %hf0, H0⟩, ⟨%f1, %hf1, H1⟩, ⟨%d3, %f3, -, H3⟩, HT0, HT1, HT2, Hk⟩
    obtain rfl := harg5.eq_unread hf0; obtain rfl := harg6.eq_unread hf1
    sl_exec
    sl_step
    iapply Hk
    isplitl [H0]
    · iexists _; isplitr; · ipureintro; exact harg5.read_unread _
      iexact H0
    isplitl [H1]
    · iexists _; isplitr; · ipureintro; exact harg6.read_unread _
      iexact H1
    isplitl [H3]
    · iexists _; isplitr
      swap
      · iexact H3
      ipureintro
      unfold run.sl.r run.sl.r_1
      rw [valid_read c tv _ o1, valid_read c tv _ o2]
      unfold tile
      rcases hv with hv | hv <;> rw [hv]
      · rw [dif_pos (show k0_cond2 0#32 = 1#1 by decide), if_neg (by decide)]
        exact View.read_writes_full _ _ _ _ _
      · rw [dif_neg (show ¬ k0_cond2 1#32 = 1#1 by decide), dif_pos (show k0_cond1 1#32 = 1#1 by decide), if_pos rfl,
          View.readAt_full, View.readAt_full, harg5.read_unread, harg6.read_unread]
        refine funext fun y => View.read_writes_apply_of_pieces _ _ (lay (k0_pay4 x0 x1)) _ ?_ y ?_
        · simp only [List.forall_mem_cons, List.not_mem_nil, false_implies, implies_true, and_true]
          exact ⟨stripe_eq _ 7 896 rfl (by decide) _ _, stripe_eq _ 6 768 rfl (by decide) slices_S512x1024_o0_768_S512x128 _, stripe_eq _ 5 640 rfl (by decide) _ _, stripe_eq _ 4 512 rfl (by decide) _ _,
            stripe_eq _ 3 384 rfl (by decide) _ _, stripe_eq _ 2 256 rfl (by decide) _ _, stripe_eq _ 1 128 rfl (by decide) _ _, stripe_eq _ 0 0 rfl (by decide) _ _⟩
        · have hy : (y 1).val % 8 < 8 := Nat.mod_lt _ (by decide)
          generalize hg : (y 1).val % 8 = g at hy
          interval_cases g
          · exact ⟨_, List.mem_of_getElem? (i := 7) rfl, stripe_mem 0 _ y hg⟩
          · exact ⟨_, List.mem_of_getElem? (i := 6) rfl, stripe_mem 1 _ y hg⟩
          · exact ⟨_, List.mem_of_getElem? (i := 5) rfl, stripe_mem 2 _ y hg⟩
          · exact ⟨_, List.mem_of_getElem? (i := 4) rfl, stripe_mem 3 _ y hg⟩
          · exact ⟨_, List.mem_of_getElem? (i := 3) rfl, stripe_mem 4 _ y hg⟩
          · exact ⟨_, List.mem_of_getElem? (i := 2) rfl, stripe_mem 5 _ y hg⟩
          · exact ⟨_, List.mem_of_getElem? (i := 1) rfl, stripe_mem 6 _ y hg⟩
          · exact ⟨_, List.mem_of_getElem? (i := 0) rfl, stripe_mem 7 _ y hg⟩
    isplitl [HT0]; · iexact HT0
    isplitl [HT1]; · iexact HT1
    iexact HT2

end Cert.Kernel3Ideal.Down
end
-- ==== Proof.DownFrame.lean ====
module

public import proofs.«01_k».proof.Proof.DownRun
public import Idealize.ShloMosaic.Lib.Pipeline.FrameSuffix
public import Idealize.ShloMosaic.Lib.Claim

@[expose] public section

set_option maxRecDepth 16384

noncomputable section

namespace Cert.Kernel3Ideal.Down

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Experts (word)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Around the pipelined call -/

/-- The unscoped buffers when the pipelined call is entered: after the casts and the reshape before it. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- The program: its host operations, the call, then the operations that put the result in order. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub) (by simp only [List.Forall]; exact hostOps0_fresh) main_chain

/-- The later operations touch no table. -/
theorem later_sub : ∀ ops ∈ ([hostOps1] : List (List (HloOp τ sig (Elt F)))), ∀ op ∈ ops, op.bufs ⊆ Pipeline.tailRefs sig pre0 spec0 := by
  intro ops hops op hop
  simp only [List.mem_cons, List.mem_nil_iff, or_false] at hops
  subst hops
  refine Pipeline.sub_tailRefs pre0 spec0 op ((List.forall_iff_forall_mem.mp hostOps1_sub) op hop) ?_
  simp only [hostOps1, List.mem_cons, List.mem_nil_iff, or_false] at hop
  rcases hop with rfl | rfl | rfl
  all_goals intro j; fin_cases j <;> simp only [StableHlo.unary_bufs, StableHlo.reshape_bufs, Finset.mem_insert, Finset.mem_singleton, not_or] <;> and_intros <;> exact StableHlo.devRef_ne_of_ne (by decide)

theorem later_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- The later operations write no array of the call. -/
theorem later_keeps : ∀ ops ∈ ([hostOps1] : List (List (HloOp τ sig (Elt F)))), ∀ op ∈ ops, ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  rcases hop with rfl | rfl | rfl
  all_goals intro w; fin_cases w <;> simp only [StableHlo.unary_writes, StableHlo.reshape_writes, Finset.mem_singleton] <;> exact StableHlo.devRef_ne_of_ne (by decide)

/-- A buffer the operations before the call do not write is found as launched. -/
theorem V_of_ne (c : Dev nD) (b : Ref sig .tc) (hb : b ≠ main_v0 ∧ b ≠ main_v1 ∧ b ≠ main_v2) : V m c b = m ((c : Thread nD τ).loc b) :=
  StableHlo.after_of_forall_not_mem (b := Proc.devRef .tc b) _ _ (List.forall_iff_forall_mem.mp (by
    simp only [hostOps0, List.flatten_cons, List.flatten_nil, List.append_nil, List.Forall, StableHlo.unary_writes, StableHlo.reshape_writes, Finset.mem_singleton]
    exact ⟨StableHlo.devRef_ne_of_ne hb.1, StableHlo.devRef_ne_of_ne hb.2.1, StableHlo.devRef_ne_of_ne hb.2.2⟩))

/-- The three tables' contents when the call is entered. -/
def tbl : pre0.Contents (Elt F) := fun j => V m (0 : Dev nD) (pre0.ref j)

theorem V_pre (c : Dev nD) (j : Fin 3) : V m c (pre0.ref j) = tbl m j := by
  obtain rfl : c = 0 := Subsingleton.elim _ _; rfl

/-- The experts' table, the table of valid row tiles and the table of the row tiles' sources. -/
abbrev te : S72.Idx → BitVec 32 := tbl m 0
abbrev tv : S72.Idx → BitVec 32 := tbl m 1
abbrev ts : S72.Idx → BitVec 32 := tbl m 2

/-- What the run needs of the tables: every block inside its array, every row tile valid or not. -/
structure Fine : Prop where
  ok : ok0 (F := F) (tbl m)
  valid : ∀ k, k < 72 → word (tv m) k = 0#32 ∨ word (tv m) k = 1#32

variable {m}

abbrev adm (hO : Fine m) : (pcfg0 (F := F)).Adm := ⟨tbl m, hO.ok⟩
abbrev cfgM (hO : Fine m) : Pipeline.Cfg sig Λ₀ := cfg0 (adm hO)

/-- The tables' halves the call hands the body, table by table. -/
theorem PhiT_eq (c : Dev nD) : (Pipeline.ΦT pre0 (tbl m) c : sProp 𝕄) = iprop(tablePt c expertM (tbl m 0) ∗ tablePt c validM (tbl m 1) ∗ tablePt c sourceM (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at grid point `t`, read off its array. -/
def iblk (hO : Fine m) (c : Dev nD) (w : Fin (cfgM hO).W) (t : Fin (cfgM hO).N) : (((cfgM hO).win w).xblock ((cfgM hO).grid.coords t)).Idx → Elt F ((cfgM hO).win w).elt :=
  (((cfgM hO).win w).blk t).view.read (Elt F) (V m c (Pipeline.arrRef spec0 w))

/-- The row tile and the column tile of a grid point. -/
abbrev rowOf (hO : Fine m) (t : Fin (cfgM hO).N) : ℕ := (grid0.coords t 1).val
abbrev colOf (hO : Fine m) (t : Fin (cfgM hO).N) : ℕ := (grid0.coords t 0).val

theorem row_eq (hO : Fine m) (t : Fin (cfgM hO).N) : rowOf hO t = t.val % 72 := by
  have h : (grid0.coords t 1).val = t.val / 1 % 72 := Pipeline.Grid.coords_val (G := grid0) t 1 (by decide) rfl
  rw [rowOf, h, Nat.div_one]

theorem col_eq (hO : Fine m) (t : Fin (cfgM hO).N) : colOf hO t = t.val / 72 := by
  have ht : t.val < 144 := Nat.lt_of_lt_of_eq t.isLt N_0
  have h : (grid0.coords t 0).val = t.val / 72 % 2 := Pipeline.Grid.coords_val (G := grid0) t 0 (by decide) rfl
  rw [colOf, h]; omega

theorem row_lt (hO : Fine m) (t : Fin (cfgM hO).N) : rowOf hO t < 72 := (grid0.coords t 1).isLt

/-- Where the block of activations lies, in blocks: the row tile's source. -/
theorem map0 (pf : pre0.Contents (Elt F)) (i : grid0.Coords) : cc0_transform_0 k0_off1_inb numel1_S1 pf i = ![(word (pf 2) (i 1).val).toNat, 0] := by
  have e : pf.at 2 (Rect.unit (s := S72) (k0_off1 i) S1.size (k0_off1_inb i)) numel1_S1 = word (pf 2) (i 1).val :=
    at_read (pf 2) (k0_off1_inb i) (congrFun (k0_off1_eq i) 0)
  show ![(pf.at 2 (Rect.unit (s := S72) (k0_off1 i) S1.size (k0_off1_inb i)) numel1_S1 : BitVec 32).toNat, (0#32 : BitVec 32).toNat] = _
  rw [e]; rfl

/-- Where the block of weights lies: the row tile's expert and the column tile. -/
theorem map1 (pf : pre0.Contents (Elt F)) (i : grid0.Coords) : cc0_transform_1 k0_off1_inb numel1_S1 pf i = ![(word (pf 0) (i 1).val).toNat, 0, (i 0).val] := by
  have h0 : (i 0).val < 2 := (i 0).isLt
  have e : pf.at 0 (Rect.unit (s := S72) (k0_off1 i) S1.size (k0_off1_inb i)) numel1_S1 = word (pf 0) (i 1).val :=
    at_read (pf 0) (k0_off1_inb i) (congrFun (k0_off1_eq i) 0)
  have e0 : (BitVec.ofNat 32 (i 0).val).toNat = (i 0).val := by simp; omega
  show ![(pf.at 0 (Rect.unit (s := S72) (k0_off1 i) S1.size (k0_off1_inb i)) numel1_S1 : BitVec 32).toNat, (0#32 : BitVec 32).toNat, (BitVec.ofNat 32 (i 0).val).toNat] = _
  rw [e, e0]; rfl

/-- Where the output tile lies: the column tile and the row tile. -/
theorem map2 (i : grid0.Coords) : cc0_transform_2 i = ![(i 0).val, (i 1).val, 0] := by
  have h0 : (i 0).val < 2 := (i 0).isLt
  have h1 : (i 1).val < 72 := (i 1).isLt
  have e0 : (BitVec.ofNat 32 (i 0).val).toNat = (i 0).val := by simp; omega
  have e1 : (BitVec.ofNat 32 (i 1).val).toNat = (i 1).val := by simp; omega
  show ![(BitVec.ofNat 32 (i 0).val).toNat, (BitVec.ofNat 32 (i 1).val).toNat, (0#32 : BitVec 32).toNat] = _
  rw [e0, e1]; rfl

/-- The block of activations at an entry. -/
theorem iblk0_at (hO : Fine m) (c : Dev nD) (t : Fin (cfgM hO).N) (r : Fin 512) (k : Fin 7168) (R : Fin 36864)
    (hR : (R : ℕ) = (word (ts m) (rowOf hO t)).toNat * 512 + r) :
    (iblk hO c 0 t : Vec F S512x7168 .bf16) (ix2 r k) = (V m c main_v0 : Vec F S36864x7168 .bf16) (ix2 R k) := by
  refine congrArg (V m c main_v0 : Vec F S36864x7168 .bf16) (funext fun a => ?_)
  have e' : ∀ a, cc0_transform_0 k0_off1_inb numel1_S1 (tbl m) (grid0.coords t) a = ![(word (ts m) (rowOf hO t)).toNat, 0] a := congrFun (map0 (tbl m) (grid0.coords t))
  fin_cases a
  · apply Fin.ext; show cc0_transform_0 k0_off1_inb numel1_S1 (tbl m) (grid0.coords t) 0 * 512 + 1 * (r : ℕ) = R; rw [e', hR]; simp
  · apply Fin.ext; show cc0_transform_0 k0_off1_inb numel1_S1 (tbl m) (grid0.coords t) 1 * 7168 + 1 * (k : ℕ) = k; rw [e']; simp

/-- The block of weights at an entry. -/
theorem iblk1_at (hO : Fine m) (c : Dev nD) (t : Fin (cfgM hO).N) (k : Fin 7168) (n : Fin 1024) (E : Fin 8) (N : Fin 2048)
    (hE : (E : ℕ) = (word (te m) (rowOf hO t)).toNat) (hN : (N : ℕ) = colOf hO t * 1024 + n) :
    (iblk hO c 1 t : Vec F S1x7168x1024 .bf16) (ix3 (0 : Fin 1) k n) = (V m c main_v2 : Vec F S8x7168x2048 .bf16) (ix3 E k N) := by
  refine congrArg (V m c main_v2 : Vec F S8x7168x2048 .bf16) (funext fun a => ?_)
  have e' : ∀ a, cc0_transform_1 k0_off1_inb numel1_S1 (tbl m) (grid0.coords t) a = ![(word (te m) (rowOf hO t)).toNat, 0, colOf hO t] a := congrFun (map1 (tbl m) (grid0.coords t))
  fin_cases a
  · apply Fin.ext; show cc0_transform_1 k0_off1_inb numel1_S1 (tbl m) (grid0.coords t) 0 * 1 + 1 * 0 = E; rw [e', hE]; simp
  · apply Fin.ext; show cc0_transform_1 k0_off1_inb numel1_S1 (tbl m) (grid0.coords t) 1 * 7168 + 1 * (k : ℕ) = k; rw [e']; simp
  · apply Fin.ext; show cc0_transform_1 k0_off1_inb numel1_S1 (tbl m) (grid0.coords t) 2 * 1024 + 1 * (n : ℕ) = N; rw [e', hN]; simp

/-! ## What every grid point leaves -/

/-- The output tile after grid point `t`: the product of the activations and the row tile's expert laid out, or zero. -/
def outTile (hO : Fine m) (c : Dev nD) (t : Fin (cfgM hO).N) : Vec F S1x4096x128 .f32 :=
  tile (tv m) (rowOf hO t) (iblk hO c 0 t) (iblk hO c 1 t)

/-- The pipeline's proof data: every input block stays, every output tile is `outTile`. -/
def dats (hO : Fine m) (_ : Fin 1) (c : Dev nD) : Dat τ (Elt F) Unit ℕ (UR sig nD τ) ℕ (cfgM hO) c where
  A w := V m c (Pipeline.arrRef spec0 w)
  after w t := match w with
    | ⟨0, _⟩ => iblk hO c 0 t
    | ⟨1, _⟩ => iblk hO c 1 t
    | ⟨2, _⟩ => outTile hO c t
  Φ _ := iprop(Pipeline.ΦA spec0 c ∗ Pipeline.ΦT pre0 (tbl m) c)
  q _ := fullShare
  owed _ := 0

theorem A_eq (hO : Fine m) (c : Dev nD) (w : Fin (cfgM hO).W) : (dats hO 0 c).A w = V m c (Pipeline.arrRef spec0 w) := by
  dsimp only [dats]

theorem after_0 (hO : Fine m) (c : Dev nD) (t : Fin (cfgM hO).N) : (dats hO 0 c).after 0 t = iblk hO c 0 t := by dsimp only [dats]; try rfl
theorem after_1 (hO : Fine m) (c : Dev nD) (t : Fin (cfgM hO).N) : (dats hO 0 c).after 1 t = iblk hO c 1 t := by dsimp only [dats]; try rfl
theorem after_2 (hO : Fine m) (c : Dev nD) (t : Fin (cfgM hO).N) : (dats hO 0 c).after 2 t = outTile hO c t := by dsimp only [dats]; try rfl

/-- An input's staging buffer holds its block at every point, fetched there or not. -/
theorem before_0 (hO : Fine m) (c : Dev nD) (t : Fin (cfgM hO).N) (d) : (dats hO 0 c).before 0 t d = iblk hO c 0 t :=
  ((dats hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (hO : Fine m) (c : Dev nD) (t : Fin (cfgM hO).N) (d) : (dats hO 0 c).before 1 t d = iblk hO c 1 t :=
  ((dats hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-! ## The body at every grid point -/

abbrev st0 (hO : Fine m) (t : Fin (cfgM hO).N) : Memref sig .tc .vmem S512x7168 .bf16 := spec0_0.stage ((cfgM hO).slots t 0)
abbrev st1 (hO : Fine m) (t : Fin (cfgM hO).N) : Memref sig .tc .vmem S1x7168x1024 .bf16 := spec0_1.stage ((cfgM hO).slots t 1)
abbrev st2 (hO : Fine m) (t : Fin (cfgM hO).N) : Memref sig .tc .vmem S1x4096x128 .f32 := spec0_2.stage ((cfgM hO).slots t 2)

/-- The kernel's body at grid point `t`, as the pipeline calls it. -/
abbrev bodyAt (hO : Fine m) (t : Fin (cfgM hO).N) : Prog (TpuEff nD τ sig (Elt F) Λ₀ .tc) PUnit :=
  cc0_moe_w2 (grid0.coords t) expertM (Memref.isWhole_whole _) validM (Memref.isWhole_whole _) sourceM (Memref.isWhole_whole _) (st0 hO t) (hstage0_0 (((cfgM hO).slots t 0).cast nbuf0_0)) (st1 hO t) (hstage0_1 (((cfgM hO).slots t 1).cast nbuf0_1)) (st2 hO t) (hstage0_2 (((cfgM hO).slots t 2).cast nbuf0_2))

def bodyPre (hO : Fine m) (c : Dev nD) (t : Fin (cfgM hO).N) : sProp 𝕄 :=
  iprop((dats hO 0 c).Φ t.castSucc ∗ (dats hO 0 c).owesAt () t.castSucc
    ∗ (∃ d, owns (c : Thread nD τ) (st0 hO t) fullShare ((dats hO 0 c).before 0 t d))
    ∗ (∃ d, owns (c : Thread nD τ) (st1 hO t) fullShare ((dats hO 0 c).before 1 t d))
    ∗ (∃ d, owns (c : Thread nD τ) (st2 hO t) fullShare ((dats hO 0 c).before 2 t d)))

def bodyPost (hO : Fine m) (c : Dev nD) (t : Fin (cfgM hO).N) : sProp 𝕄 :=
  iprop((dats hO 0 c).Φ t.succ ∗ (dats hO 0 c).owesAt () t.succ
    ∗ owns (c : Thread nD τ) (st0 hO t) fullShare ((dats hO 0 c).after 0 t)
    ∗ owns (c : Thread nD τ) (st1 hO t) fullShare ((dats hO 0 c).after 1 t)
    ∗ owns (c : Thread nD τ) (st2 hO t) fullShare ((dats hO 0 c).after 2 t))

set_option maxHeartbeats 1600000 in
/-- The body at any point: from the inputs' blocks and the tables it leaves the output tile. -/
theorem sound_body (hO : Fine m) (c : Dev nD) (t : Fin (cfgM hO).N) :
    bodyPre hO c t ⊢ wp frame (wpE (defs₀ (F := F)) Variants.none c none) Set.univ (bodyAt hO t) (fun _ => bodyPost hO c t) := by
  unfold bodyPre bodyPost bodyAt
  simp only [before_0, before_1]
  rw [show (dats hO 0 c).owesAt () t.succ = (dats hO 0 c).owesAt () t.castSucc from rfl, after_0, after_1, after_2]
  rw [show (dats hO 0 c).Φ t.succ = iprop(Pipeline.ΦA spec0 c ∗ Pipeline.ΦT pre0 (tbl m) c) from rfl,
    show (dats hO 0 c).Φ t.castSucc = iprop(Pipeline.ΦA spec0 c ∗ Pipeline.ΦT pre0 (tbl m) c) from rfl, PhiT_eq]
  have hv := hO.valid (rowOf hO t) (row_lt hO t)
  iintro ⟨⟨Hg, ⟨HT0, HT1, HT2⟩⟩, Ho, ⟨%d0, H0⟩, ⟨%d1, H1⟩, ⟨%d2, H2⟩⟩
  iapply (run c (grid0.coords t) _ _ _ _ _ _ (iblk hO c 0 t) (iblk hO c 1 t) (tbl m 0) (tbl m 1) (tbl m 2) hv Set.univ _)
  isplitl [H0]; · iexact H0
  isplitl [H1]; · iexact H1
  isplitl [H2]; · iexists _; iexact H2
  isplitl [HT0]; · iexact HT0
  isplitl [HT1]; · iexact HT1
  isplitl [HT2]; · iexact HT2
  iintro ⟨H0, H1, H2, HT0, HT1, HT2⟩
  isplitl [Hg HT0 HT1 HT2]
  · isplitl [Hg]; · iexact Hg
    isplitl [HT0]; · iexact HT0
    isplitl [HT1]; · iexact HT1
    iexact HT2
  isplitl [Ho]; · iexact Ho
  isplitl [H0]; · iexact H0
  isplitl [H1]; · iexact H1
  iexact H2

/-- The body table's row at point `t` is the body. -/
theorem defs₀_row (hO : Fine m) (t : Fin (cfgM hO).N) :
    defs₀ (F := F) .tc (cfgM hO).body ((cfgM hO).bodyArgs t ((cfgM hO).slots t)) = bodyAt hO t := by
  unfold defs₀; rw [Defs.onTc_tc]

/-- The output window is written back at every point. -/
theorem flush_2 (hO : Fine m) (t : Fin (cfgM hO).N) : ((cfgM hO).win 2).flush t = true :=
  (by decide +kernel : ∀ t : Fin grid0.N, Pipeline.Window.flushOf grid0 true cc0_transform_2 t = true) t

/-- A window written back at a point holds what the body leaves there, idle or not. -/
theorem settle (b f : Bool) (X Y : sProp 𝕄) : f = true → Idealize.SL.BI.Entails X (match b with | true => (match f with | false => Y | true => X) | false => X) := by
  rintro rfl; cases b <;> exact Idealize.SL.BI.Entails.refl _

/-- The body's obligation at every point. -/
theorem body_obligation (hO : Fine m) (c : Dev nD) : BodyObligation (dats (F := F) hO 0 c) (defs₀ (F := F)) Variants.none () Set.univ := fun t => by
  rw [bigSep_W0, bigSep_W0, defs₀_row hO]
  refine triple_restated (sound_body hO c t) rfl .rfl fun _ => ?_
  unfold bodyPost
  have e := settle ((cfgM hO).idle 2 ((cfgM hO).grid.coords t)) (((cfgM hO).win 2).flush t)
    (owns (c : Thread nD τ) (((cfgM hO).win 2).stage ((cfgM hO).slots t 2)) fullShare ((dats hO 0 c).after 2 t))
    iprop(∃ d, owns (c : Thread nD τ) (((cfgM hO).win 2).stage ((cfgM hO).slots t 2)) fullShare ((dats hO 0 c).before 2 t d)) (flush_2 hO t)
  exact Idealize.SL.BI.sep_mono (Idealize.SL.BI.Entails.refl _) (Idealize.SL.BI.sep_mono (Idealize.SL.BI.Entails.refl _)
    (Idealize.SL.BI.sep_mono (Idealize.SL.BI.Entails.refl _) (Idealize.SL.BI.sep_mono (Idealize.SL.BI.Entails.refl _) e)))

/-! ## The run -/

/-- The unscoped buffers at the program's end. -/
abbrev VE (hO : Fine m) (c : Dev nD) (b : Ref sig .tc) : Buf (Elt F) ((c : Thread nD τ).loc b) :=
  Pipeline.afterTail pcfgs (fun _ => adm hO) (dats hO) 0 (V0 m) [hostOps1] c b

theorem share_full (hO : Fine m) (c : Dev nD) (w : Fin (cfgM hO).W) : (dats hO 0 c).share w = fullShare := by
  unfold Dat.share; split <;> rfl

-- the launch theorem's implicit arguments are found by unifying its conclusion with this one
set_option backward.isDefEq.respectTransparency.types false in
/-- The run: every execution ends, with every array of the call at what the proof data computes, every other unscoped
    buffer as the later operations leave it, and every semaphore counter at zero. -/
theorem run_main (hO : Fine m) : θ_run defs (onTc (τ := τ) (main (F := F))) (s₀ m ρ) (fun r => (Pipeline.FramePost (Pipeline.pin pcfgs fun _ => adm hO) (dats hO) 0 (VE hO)) r ∧ r.2.sem = fun _ => 0) :=
  Pipeline.θ_run_frameP_around (Q' := _) pcfgs (fun _ => adm hO) (dats hO) (0 : Fin 1) launch0 defs₀ Variants.none m ρ main
    (hbody := fun c => (body_obligation hO c).loose) (hshare := share_full hO)
    (howed := fun _ _ => rfl) (V₀ := V0 m) (opss := [hostOps1]) (hsub := later_sub) (hfresh := later_fresh) (hkeep := later_keeps)
    (hmain := hmain m Variants.none) (hA := A_eq hO) (hpf := V_pre m) (hΦ := fun _ _ => rfl)

/-- A buffer neither the host operations nor the call writes ends as launched. -/
theorem VE_of_ne (hO : Fine m) (c : Dev nD) (b : Ref sig .tc) (hb : b ≠ main_v0 ∧ b ≠ main_v1 ∧ b ≠ main_v2) (hb' : b ≠ main_v4 ∧ b ≠ main_v5 ∧ b ≠ main_v6)
    (ha : ∀ w, Pipeline.arrRef spec0 w ≠ b) : VE hO c b = m ((c : Thread nD τ).loc b) := by
  unfold VE Pipeline.afterTail
  rw [StableHlo.after_of_forall_not_mem (b := Proc.devRef .tc b) _ _ (List.forall_iff_forall_mem.mp (by
      simp only [hostOps1, List.flatten_cons, List.flatten_nil, List.append_nil, List.Forall, StableHlo.unary_writes, StableHlo.reshape_writes, Finset.mem_singleton]
      exact ⟨StableHlo.devRef_ne_of_ne hb'.1, StableHlo.devRef_ne_of_ne hb'.2.1, StableHlo.devRef_ne_of_ne hb'.2.2⟩)),
    Pipeline.withArrays_of_ne _ c (V0 m c) _ b (by exact ha)]
  exact V_of_ne m c b hb

/-- The two halves of columns of the call's output side by side. -/
def order (y : Vec F S2x294912x128 .f32) : Vec F S36864x2048 .f32 :=
  shapeCast S36864x2048 (transpose S36864x2x1024 [1, 0, 2] (shapeCast S2x36864x1024 y shapeCasts_S2x294912x128_S2x36864x1024)
    transposes_S2x36864x1024_S36864x2x1024_1_0_2) shapeCasts_S36864x2x1024_S36864x2048

/-- What the later operations leave in the result array, of what they find in the call's output array. -/
theorem later_result (U : Valuation τ sig (Elt F)) :
    StableHlo.after ([hostOps1] : List (List (HloOp τ sig (Elt F)))).flatten U (Proc.devRef .tc main_v6) = order (U (Proc.devRef .tc main_v3)) := by
  simp only [hostOps1, List.flatten_cons, List.flatten_nil, List.append_nil]
  after_results
  rfl

/-- The result array at the program's end. -/
theorem VE_result (hO : Fine m) (c : Dev nD) : VE hO c main_v6 = order ((dats hO 0 c).arrAt 2 (cfgM hO).N) :=
  (later_result _).trans (congrArg order (Pipeline.withArrays_arr (cfgM hO).spec winFacts0.arr_inj c (V0 m c) (fun w => (dats hO 0 c).arrAt w (cfgM hO).N) 2))

/-- The run leaves the argument arrays as launched, the result array at `VE`, and every counter at zero. -/
theorem run_result (hO : Fine m) : θ_run defs (onTc (τ := τ) (main (F := F))) ⟨m, fun _ => 0, ρ⟩ (fun r => (∀ c : Dev nD,
      r.2.mem ((c.tc : Thread nD τ).loc main_v6) = VE hO c main_v6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).2 main_v6 (by decide : main_v6 ∈ Pipeline.restRefs sig spec0),
      ((h.1 c).2 main_arg0 (by decide : main_arg0 ∈ Pipeline.restRefs sig spec0)).trans (VE_of_ne hO c main_arg0 (by decide) (by decide) (by decide)),
      ((h.1 c).2 main_arg1 (by decide : main_arg1 ∈ Pipeline.restRefs sig spec0)).trans (VE_of_ne hO c main_arg1 (by decide) (by decide) (by decide)),
      ((h.1 c).2 main_arg2 (by decide : main_arg2 ∈ Pipeline.restRefs sig spec0)).trans (VE_of_ne hO c main_arg2 (by decide) (by decide) (by decide)),
      ((h.1 c).2 main_arg3 (by decide : main_arg3 ∈ Pipeline.restRefs sig spec0)).trans (VE_of_ne hO c main_arg3 (by decide) (by decide) (by decide)),
      ((h.1 c).2 main_arg4 (by decide : main_arg4 ∈ Pipeline.restRefs sig spec0)).trans (VE_of_ne hO c main_arg4 (by decide) (by decide) (by decide))⟩, h.2⟩) (run_main ρ hO)

/-- The frame: the argument arrays end as launched and every counter at zero. -/
theorem frame (hO : Fine m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run_result ρ hO)

end Cert.Kernel3Ideal.Down
end
-- ==== Proof.DownTables.lean ====
module

public import proofs.«01_k».proof.Proof.DownFrame
public import proofs.«01_k».proof.Proof.ExpertsTables
public import proofs.«01_k».proof.Pre_tables3
public import Idealize.ShloMosaic.Lib.ReduceAll
public import Idealize.ShloMosaic.Lib.Pointwise
public import Idealize.ShloMosaic.Lib.Affine
public import Idealize.ShloMosaic.Lib.StableHlo.Predicate

/-! What the precondition says of the three tables: every expert's number is below eight, every row tile is valid or not,
    every source is a row tile, and a valid row tile is its own source. From that the run has what it needs of them. -/

@[expose] public section

set_option maxRecDepth 16384

noncomputable section

namespace Cert.Pre_tables3

open Idealize.ShloMosaic

variable {F : FTy → Type} [FloatOps F] [Facts]

omit [Facts] in
/-- A word from zero up to seventy-two, as signed numbers go, is below seventy-two. -/
theorem below (x : BitVec 32) (h : IntOp.cmpi .sge x 0#32 = 1#1) (h' : IntOp.cmpi .slt x 72#32 = 1#1) : x.toNat < 72 := by
  simp only [IntOp.cmpi, StableHlo.Predicate.ofBool_eq_one_iff, BitVec.sle, BitVec.slt, decide_eq_true_eq, BitVec.toInt_eq_toNat_cond] at h h'
  have := x.isLt
  simp at h h'
  split at h <;> split at h' <;> omega

/-- The precondition, entry by entry. -/
theorem entries (a : FVec F S36864x7168 .f32) (W : FVec F S1x8x7168x2048 .f32) (te tv ts : IVec S72 32)
    (h : fn a W te tv ts = fun _ => 1#1) (k : S72.Idx) :
    ((te k).toNat < 8 ∧ (tv k = 0#32 ∨ tv k = 1#32)) ∧ (ts k).toNat < 72 ∧ (tv k = 0#32 ∨ ts k = BitVec.ofNat 32 (k 0).val) := by
  have h0 := congrFun h ix0
  dsimp only [fn, fn_part1] at h0
  obtain ⟨h1, s3⟩ := IntOp.andi_eq_one.1 h0
  obtain ⟨h2, s2⟩ := IntOp.andi_eq_one.1 h1
  obtain ⟨h3, s1⟩ := IntOp.andi_eq_one.1 h2
  obtain ⟨h4, v2⟩ := IntOp.andi_eq_one.1 h3
  obtain ⟨h5, v1⟩ := IntOp.andi_eq_one.1 h4
  obtain ⟨e1, e2⟩ := IntOp.andi_eq_one.1 h5
  haveI : Subsingleton S_.Idx := ⟨fun a b => funext fun i => i.elim0⟩
  refine ⟨⟨Cert.Pre_tables.below _ (Host.reduce_andi_all _ _ _ _ _ e1 k) (Host.reduce_andi_all _ _ _ _ _ e2 k),
    Cert.Pre_tables.bit _ (Host.reduce_andi_all _ _ _ _ _ v1 k) (Host.reduce_andi_all _ _ _ _ _ v2 k)⟩,
    below _ (Host.reduce_andi_all _ _ _ _ _ s1 k) (Host.reduce_andi_all _ _ _ _ _ s2 k), ?_⟩
  have := Host.reduce_andi_all _ _ _ _ _ s3 k
  exact (IntOp.ori_eq_one.1 this).imp (fun q => StableHlo.Predicate.cmpi_eq_iff.1 q) (fun q => StableHlo.Predicate.cmpi_eq_iff.1 q)

end Cert.Pre_tables3

namespace Cert.Kernel3Ideal.Down

open Cert.Kernel3Ideal Cert.Kernel3Ideal.Gen
open Idealize.ShloMosaic Idealize.ShloMosaic.TcCoe Idealize.SL.Sem
open Cert.Kernel2Ideal.Experts (word)

variable {F : FTy → Type} [FloatOps F] (m : (ℓ : Loc nD τ sig) → Buf (Elt F) ℓ)

theorem te_eq : te m = m ((0 : Dev nD), main_arg2) := V_of_ne m 0 main_arg2 (by decide)
theorem tv_eq : tv m = m ((0 : Dev nD), main_arg3) := V_of_ne m 0 main_arg3 (by decide)
theorem ts_eq : ts m = m ((0 : Dev nD), main_arg4) := V_of_ne m 0 main_arg4 (by decide)

/-- A bound on every entry of a table bounds every word read of it. -/
theorem word_lt (t : S72.Idx → BitVec 32) (b : ℕ) (hb : 0 < b) (h : ∀ k, (t k).toNat < b) (n : ℕ) : (word t n).toNat < b := by
  unfold word
  by_cases hn : n < 72
  · rw [dif_pos hn]; exact h _
  · rw [dif_neg hn]; simpa using hb

/-- Tables of experts below eight, of zeros and ones and of row tiles are what the run needs. -/
theorem fine_of (h : ∀ k : S72.Idx, ((te m k).toNat < 8 ∧ (tv m k = 0#32 ∨ tv m k = 1#32)) ∧ (ts m k).toNat < 72
    ∧ (tv m k = 0#32 ∨ ts m k = BitVec.ofNat 32 (k 0).val)) : Fine m := by
  refine ⟨⟨fun i => ⟨fun a => ?_, .inr (Affine.block_words_dvd (of_decide_eq_true rfl) (by decide))⟩,
    fun i => ⟨fun a => ?_, .inr (Affine.block_words_dvd (of_decide_eq_true rfl) (by decide))⟩⟩, fun n hn => ?_⟩
  · have h1 := word_lt (ts m) 72 (by decide) (fun k => (h k).2.1) (i 1).val
    rw [map0]
    match a with
    | ⟨0, _⟩ => show ((word (ts m) (i 1).val).toNat + 1) * 512 ≤ 36864; omega
    | ⟨1, _⟩ => show (0 + 1) * 7168 ≤ 7168; omega
  · have h0 : (i 0).val < 2 := (i 0).isLt
    have h1 := word_lt (te m) 8 (by decide) (fun k => (h k).1.1) (i 1).val
    rw [map1]
    match a with
    | ⟨0, _⟩ => show ((word (te m) (i 1).val).toNat + 1) * 1 ≤ 8; omega
    | ⟨1, _⟩ => show (0 + 1) * 7168 ≤ 7168; omega
    | ⟨2, _⟩ => show ((i 0).val + 1) * 1024 ≤ 2048; omega
  · unfold word
    rw [dif_pos hn]
    exact (h _).1.2

/-- A valid row tile is its own source. -/
theorem source_of (h : ∀ k : S72.Idx, tv m k = 0#32 ∨ ts m k = BitVec.ofNat 32 (k 0).val) (n : ℕ) (hn : n < 72)
    (hv : word (tv m) n = 1#32) : (word (ts m) n).toNat = n := by
  unfold word at hv ⊢
  rw [dif_pos hn] at hv ⊢
  rcases h (ix1 (⟨n, hn⟩ : Fin 72)) with h | h
  · exact absurd (hv.symm.trans h) (by decide)
  · refine (congrArg BitVec.toNat h).trans ?_
    show (BitVec.ofNat 32 n).toNat = n
    simp; omega

end Cert.Kernel3Ideal.Down

end
-- ==== Proof.DownReference.lean ====
module

public import proofs.«01_k».proof.Proof.Gen.Reference3Ideal.Run
public import Idealize.ShloMosaic.Lib.Pointwise
public import Idealize.ShloMosaic.Lib.StableHlo.Predicate

/-! The reference of the experts' way back, read at a row and a column at the ideal instance: a row ends with its product
    with its own expert's matrix, or with zero where it is none's. -/

@[expose] public section

set_option maxRecDepth 16384

noncomputable section

namespace Cert.Reference3Ideal.Out

open Cert.Reference3Ideal Cert.Reference3Ideal.Gen Idealize.ShloMosaic Idealize.ShloMosaic.TcCoe Idealize.SL.Sem

/-- A number per tile of 512 rows, repeated for each of its rows. -/
def rows (t : S72.Idx → BitVec 32) : S36864x1.Idx → BitVec 32 :=
  shapeCast S36864x1 (broadcastInDim S72x512 ![0, 1] bcast_S72x1_S72x512_0_1 (broadcastInDim S72x1 ![0] bcast_S72_S72x1_0 t))
    shapeCasts_S72x512_S36864x1

/-- Whether a row's number is `x`. -/
def rowIs (x : BitVec 32) (e : S36864x1.Idx → BitVec 32) : S36864x1.Idx → BitVec 1 :=
  cmpi .eq e (broadcastInDim S36864x1 ![] bcast_S_S36864x1 (constantI S_ 32 x))

/-- The rows' products with an expert's matrix. -/
def prod (a : FVec Ideal S36864x7168 .f32) (w : FVec Ideal S7168x2048 .f32) : FVec Ideal S36864x2048 .f32 :=
  Host.dotGeneral dot_S36864x7168_S7168x2048_S36864x2048_1_0_0_1_n_n none a w

/-- The marked rows replaced. -/
def pick (k : S36864x1.Idx → BitVec 1) (x y : FVec Ideal S36864x2048 .f32) : FVec Ideal S36864x2048 .f32 :=
  select (broadcastInDim S36864x2048 ![0, 1] bcast_S36864x1_S36864x2048_0_1 k) x y

/-- An expert's turn: the valid rows of its own get its product. -/
def turn (a : FVec Ideal S36864x7168 .f32) (te tv : S72.Idx → BitVec 32) (x : BitVec 32) (w : FVec Ideal S7168x2048 .f32)
    (y : FVec Ideal S36864x2048 .f32) : FVec Ideal S36864x2048 .f32 :=
  pick (andi (rowIs x (rows te)) (rowIs 1#32 (rows tv))) (prod a w) y

/-- An expert's matrix, cut out of all the experts'. -/
def wt (o : Fin 4 → ℕ) (W : FVec Ideal S1x8x7168x2048 .f32) (h : S1x8x7168x2048.Slices o S1x1x7168x2048) :
    FVec Ideal S7168x2048 .f32 :=
  shapeCast S7168x2048 (extractStridedSlice S1x1x7168x2048 o W h) shapeCasts_S1x1x7168x2048_S7168x2048

/-- The zero rows the turns start from. -/
def zero : FVec Ideal S36864x2048 .f32 :=
  broadcastInDim S36864x2048 ![] bcast_S_S36864x2048 (constant S_ .f32 0x00000000#32)

/-- The reference's result, of its arguments. -/
def out (a : FVec Ideal S36864x7168 .f32) (W : FVec Ideal S1x8x7168x2048 .f32) (te tv : S72.Idx → BitVec 32) :
    FVec Ideal S36864x2048 .f32 :=
  turn a te tv 7#32 (wt ![0, 7, 0, 0] W slices_S1x8x7168x2048_S1x1x7168x2048_0_7_0_0)
  (turn a te tv 6#32 (wt ![0, 6, 0, 0] W slices_S1x8x7168x2048_S1x1x7168x2048_0_6_0_0)
  (turn a te tv 5#32 (wt ![0, 5, 0, 0] W slices_S1x8x7168x2048_S1x1x7168x2048_0_5_0_0)
  (turn a te tv 4#32 (wt ![0, 4, 0, 0] W slices_S1x8x7168x2048_S1x1x7168x2048_0_4_0_0)
  (turn a te tv 3#32 (wt ![0, 3, 0, 0] W slices_S1x8x7168x2048_S1x1x7168x2048_0_3_0_0)
  (turn a te tv 2#32 (wt ![0, 2, 0, 0] W slices_S1x8x7168x2048_S1x1x7168x2048_0_2_0_0)
  (turn a te tv 1#32 (wt ![0, 1, 0, 0] W slices_S1x8x7168x2048_S1x1x7168x2048_0_1_0_0)
  (turn a te tv 0#32 (wt ![0, 0, 0, 0] W slices_S1x8x7168x2048_S1x1x7168x2048_0_0_0_0)
    zero)))))))

/-- A row's number is its tile's. -/
theorem rows_at (t : S72.Idx → BitVec 32) (r : Fin 36864) (z : Fin 1) :
    rows t (ix2 r z) = t (ix1 (⟨r / 512, by omega⟩ : Fin 72)) := by
  pointwise [rows]

theorem prod_at (a : FVec Ideal S36864x7168 .f32) (w : FVec Ideal S7168x2048 .f32) (r : Fin 36864) (n : Fin 2048) :
    prod a w (ix2 r n) = ∑ d : Fin 7168, a (ix2 r d) * w (ix2 d n) := by
  pointwise [prod]

theorem pick_at (k : S36864x1.Idx → BitVec 1) (x y : FVec Ideal S36864x2048 .f32) (r : Fin 36864) (n : Fin 2048) :
    pick k x y (ix2 r n) = if k (ix2 r (0 : Fin 1)) = 1#1 then x (ix2 r n) else y (ix2 r n) := by
  pointwise [pick]
  rfl

theorem rowIs_at (x : BitVec 32) (t : S72.Idx → BitVec 32) (r : Fin 36864) (z : Fin 1) :
    rowIs x (rows t) (ix2 r z) = 1#1 ↔ t (ix1 (⟨r / 512, by omega⟩ : Fin 72)) = x := by
  rw [← rows_at t r z]
  exact StableHlo.Predicate.cmpi_eq_iff

/-- The product of row `r` and column `n` with expert `E`. -/
def down (a : FVec Ideal S36864x7168 .f32) (W : FVec Ideal S1x8x7168x2048 .f32) (E : Fin 8) (r : Fin 36864) (n : Fin 2048) : EReal :=
  ∑ d : Fin 7168, a (ix2 r d) * W (ix4 (0 : Fin 1) E d n)

/-- An expert's turn at a row and a column. -/
theorem turn_at (a : FVec Ideal S36864x7168 .f32) (te tv : S72.Idx → BitVec 32) (x : BitVec 32) (w : FVec Ideal S7168x2048 .f32)
    (y : FVec Ideal S36864x2048 .f32) (W : FVec Ideal S1x8x7168x2048 .f32) (E : Fin 8)
    (hw : ∀ (d : Fin 7168) (n : Fin 2048), w (ix2 d n) = W (ix4 (0 : Fin 1) E d n)) (r : Fin 36864) (n : Fin 2048) :
    turn a te tv x w y (ix2 r n)
      = if te (ix1 (⟨r / 512, by omega⟩ : Fin 72)) = x ∧ tv (ix1 (⟨r / 512, by omega⟩ : Fin 72)) = 1#32 then down a W E r n else y (ix2 r n) := by
  refine (pick_at _ _ _ r n).trans ?_
  have e : prod a w (ix2 r n) = down a W E r n := by
    rw [prod_at]
    simp only [hw]
    rfl
  rw [e]
  refine if_congr ?_ rfl rfl
  refine Iff.trans (IntOp.andi_eq_one (c := rowIs x (rows te) (ix2 r (0 : Fin 1))) (d := rowIs 1#32 (rows tv) (ix2 r (0 : Fin 1)))) ?_
  rw [rowIs_at, rowIs_at]

theorem wt_at0 (W : FVec Ideal S1x8x7168x2048 .f32) (h) (d : Fin 7168) (n : Fin 2048) :
    wt ![0, 0, 0, 0] W h (ix2 d n) = W (ix4 (0 : Fin 1) (0 : Fin 8) d n) := by
  pointwise [wt]

theorem wt_at1 (W : FVec Ideal S1x8x7168x2048 .f32) (h) (d : Fin 7168) (n : Fin 2048) :
    wt ![0, 1, 0, 0] W h (ix2 d n) = W (ix4 (0 : Fin 1) (1 : Fin 8) d n) := by
  pointwise [wt]

theorem wt_at2 (W : FVec Ideal S1x8x7168x2048 .f32) (h) (d : Fin 7168) (n : Fin 2048) :
    wt ![0, 2, 0, 0] W h (ix2 d n) = W (ix4 (0 : Fin 1) (2 : Fin 8) d n) := by
  pointwise [wt]

theorem wt_at3 (W : FVec Ideal S1x8x7168x2048 .f32) (h) (d : Fin 7168) (n : Fin 2048) :
    wt ![0, 3, 0, 0] W h (ix2 d n) = W (ix4 (0 : Fin 1) (3 : Fin 8) d n) := by
  pointwise [wt]

theorem wt_at4 (W : FVec Ideal S1x8x7168x2048 .f32) (h) (d : Fin 7168) (n : Fin 2048) :
    wt ![0, 4, 0, 0] W h (ix2 d n) = W (ix4 (0 : Fin 1) (4 : Fin 8) d n) := by
  pointwise [wt]

theorem wt_at5 (W : FVec Ideal S1x8x7168x2048 .f32) (h) (d : Fin 7168) (n : Fin 2048) :
    wt ![0, 5, 0, 0] W h (ix2 d n) = W (ix4 (0 : Fin 1) (5 : Fin 8) d n) := by
  pointwise [wt]

theorem wt_at6 (W : FVec Ideal S1x8x7168x2048 .f32) (h) (d : Fin 7168) (n : Fin 2048) :
    wt ![0, 6, 0, 0] W h (ix2 d n) = W (ix4 (0 : Fin 1) (6 : Fin 8) d n) := by
  pointwise [wt]

theorem wt_at7 (W : FVec Ideal S1x8x7168x2048 .f32) (h) (d : Fin 7168) (n : Fin 2048) :
    wt ![0, 7, 0, 0] W h (ix2 d n) = W (ix4 (0 : Fin 1) (7 : Fin 8) d n) := by
  pointwise [wt]

/-- The reference at a row and a column: the product with the row's own expert where its tile is valid, zero elsewhere. -/
theorem out_at (a : FVec Ideal S36864x7168 .f32) (W : FVec Ideal S1x8x7168x2048 .f32) (te tv : S72.Idx → BitVec 32)
    (r : Fin 36864) (n : Fin 2048) (E : Fin 8) (hE : te (ix1 (⟨r / 512, by omega⟩ : Fin 72)) = BitVec.ofNat 32 E.val) :
    out a W te tv (ix2 r n) = if tv (ix1 (⟨r / 512, by omega⟩ : Fin 72)) = 1#32 then down a W E r n else 0 := by
  have hz : zero (ix2 r n) = (0 : EReal) := by
    show Ideal.ofBits .f32 0x00000000#32 = _
    simp [Ideal.ofBits, Ideal.ieee]
  unfold out
  rw [turn_at _ _ _ _ _ _ W 7 (wt_at7 W _), turn_at _ _ _ _ _ _ W 6 (wt_at6 W _), turn_at _ _ _ _ _ _ W 5 (wt_at5 W _),
    turn_at _ _ _ _ _ _ W 4 (wt_at4 W _), turn_at _ _ _ _ _ _ W 3 (wt_at3 W _), turn_at _ _ _ _ _ _ W 2 (wt_at2 W _),
    turn_at _ _ _ _ _ _ W 1 (wt_at1 W _), turn_at _ _ _ _ _ _ W 0 (wt_at0 W _), hz, hE]
  by_cases hv : tv (ix1 (⟨r / 512, by omega⟩ : Fin 72)) = 1#32
  · rw [if_pos hv]
    simp only [hv, and_true]
    fin_cases E <;> simp
  · rw [if_neg hv]
    simp only [hv, and_false, if_false]

end Cert.Reference3Ideal.Out

end
-- ==== Proof.Down.lean ====
module

public import proofs.«01_k».proof.Proof.DownTables
public import proofs.«01_k».proof.Proof.DownReference
public import proofs.«01_k».proof.Proof.Gen.Pre_tables3
public import proofs.«01_k».proof.Proof.Gen.Kernel3
public import proofs.«01_k».proof.Defs
public import Idealize.ShloMosaic.Lib.Pointwise
public import Idealize.ShloMosaic.Lib.StableHlo.ReadAt
public import Idealize.ShloMosaic.Lib.Quiescent

/-! The experts' way back at the ideal instance: what a tile holds at an entry, the array the tiles make up, the result
    array the later operations make of it, and that it is the reference's. -/

@[expose] public section

set_option maxRecDepth 16384

noncomputable section

namespace Cert.Kernel3Ideal.Down

open Cert.Kernel3Ideal Cert.Kernel3Ideal.Gen Idealize.ShloMosaic Idealize.ShloMosaic.TcCoe Idealize.SL.Sem
open Idealize.ShloMosaic.Pipeline (Dat)
open Cert.Kernel2Ideal.Experts (word)
open Cert.Reference3Ideal.Out (out down)

/-- The product of a tile's row and column. -/
theorem pay4_at (x : Vec Ideal S512x7168 .bf16) (w : Vec Ideal S1x7168x1024 .bf16) (r : Fin 512) (n : Fin 1024) :
    k0_pay4 x w (ix2 r n) = ∑ d : Fin 7168, (x (ix2 r d) : EReal) * w (ix3 (0 : Fin 1) d n) := by
  pointwise [k0_pay4]

theorem pay3_at (i : S1x4096x128.Idx) : (k0_pay3 (F := Ideal)) i = (0 : EReal) := by
  show Ideal.ofBits .f32 0x00000000#32 = _
  simp [Ideal.ofBits, Ideal.ieee]

variable {m : (ℓ : Loc nD τ sig) → Buf (Elt Ideal) ℓ}

/-- The arguments: the rows, the weights. -/
abbrev argA (m : (ℓ : Loc nD τ sig) → Buf (Elt Ideal) ℓ) (c : Dev nD) : FVec Ideal S36864x7168 .f32 := m ((c : Thread nD τ).loc main_arg0)
abbrev argW (m : (ℓ : Loc nD τ sig) → Buf (Elt Ideal) ℓ) (c : Dev nD) : FVec Ideal S1x8x7168x2048 .f32 := m ((c : Thread nD τ).loc main_arg1)

theorem v0_at (c : Dev nD) (i : S36864x7168.Idx) : (V m c main_v0 : FVec Ideal S36864x7168 .bf16) i = argA m c i := by
  unfold V V0
  simp only [hostOps0, List.flatten_cons, List.flatten_nil, List.append_nil]
  after_reads_at

theorem v2_at (c : Dev nD) (E : Fin 8) (d : Fin 7168) (n : Fin 2048) :
    (V m c main_v2 : FVec Ideal S8x7168x2048 .bf16) (ix3 E d n) = argW m c (ix4 (0 : Fin 1) E d n) := by
  unfold V V0
  simp only [hostOps0, List.flatten_cons, List.flatten_nil, List.append_nil]
  after_reads_at

/-- A tile at an entry: the product with the row tile's expert, or zero. -/
theorem tile_at (hO : Fine m) (c : Dev nD) (t : Fin (cfgM hO).N) (q : Fin 4096) (l : Fin 128) (R : Fin 36864) (N : Fin 2048)
    (hs : word (tv m) (rowOf hO t) = 1#32 → (word (ts m) (rowOf hO t)).toNat = rowOf hO t)
    (hR : (R : ℕ) = rowOf hO t * 512 + q / 8) (hN : (N : ℕ) = colOf hO t * 1024 + (q % 8 * 128 + l))
    (E : Fin 8) (hE : (E : ℕ) = (word (te m) (rowOf hO t)).toNat) :
    outTile hO c t (ix3 (0 : Fin 1) q l) = if word (tv m) (rowOf hO t) = 1#32 then down (argA m c) (argW m c) E R N else 0 := by
  unfold outTile tile
  by_cases hv : word (tv m) (rowOf hO t) = 1#32
  · rw [if_pos hv, if_pos hv]
    refine (pay4_at _ _ (⟨q / 8, by omega⟩ : Fin 512) (⟨q % 8 * 128 + l, by omega⟩ : Fin 1024)).trans ?_
    have e0 : ∀ d : Fin 7168, ((iblk hO c 0 t : Vec Ideal S512x7168 .bf16) (ix2 (⟨q / 8, by omega⟩ : Fin 512) d) : EReal) = argA m c (ix2 R d) := fun d =>
      (iblk0_at hO c t _ d R (by rw [hs hv]; exact hR)).trans (v0_at c _)
    have e1 : ∀ d : Fin 7168, ((iblk hO c 1 t : Vec Ideal S1x7168x1024 .bf16) (ix3 (0 : Fin 1) d (⟨q % 8 * 128 + l, by omega⟩ : Fin 1024)) : EReal) = argW m c (ix4 (0 : Fin 1) E d N) := fun d =>
      (iblk1_at hO c t d _ E N hE hN).trans (v2_at c E d N)
    exact Finset.sum_congr rfl fun d _ => congrArg₂ (fun a b : EReal => a * b) (e0 d) (e1 d)
  · rw [if_neg hv, if_neg hv]
    exact pay3_at _

/-- The call's output array, of the result: the two halves of columns one after the other, each row cut into eight. -/
def laid (y : FVec Ideal S36864x2048 .f32) : FVec Ideal S2x294912x128 .f32 := fun i =>
  y (ix2 (⟨((i 1 : Fin 294912) : ℕ) / 8, by have h : ((i 1 : Fin 294912) : ℕ) < 294912 := Fin.isLt _; omega⟩ : Fin 36864)
    (⟨((i 0 : Fin 2) : ℕ) * 1024 + (((i 1 : Fin 294912) : ℕ) % 8 * 128 + ((i 2 : Fin 128) : ℕ)), by
      have h : ((i 0 : Fin 2) : ℕ) < 2 := Fin.isLt _
      have h' : ((i 2 : Fin 128) : ℕ) < 128 := Fin.isLt _
      omega⟩ : Fin 2048))

theorem laid_at (y : FVec Ideal S36864x2048 .f32) (i : S2x294912x128.Idx) (R : Fin 36864) (N : Fin 2048)
    (hR : (R : ℕ) = ((i 1 : Fin 294912) : ℕ) / 8) (hN : (N : ℕ) = ((i 0 : Fin 2) : ℕ) * 1024 + (((i 1 : Fin 294912) : ℕ) % 8 * 128 + ((i 2 : Fin 128) : ℕ))) :
    laid y i = y (ix2 R N) :=
  congrArg₂ (fun a b => y (ix2 a b)) (Fin.ext hR.symm) (Fin.ext hN.symm)

/-- The later operations undo the layout. -/
theorem order_laid (y : FVec Ideal S36864x2048 .f32) : order (F := Ideal) (laid y) = y := by
  funext i
  obtain ⟨r, n, rfl⟩ : ∃ (r : Fin 36864) (n : Fin 2048), i = ix2 r n := ⟨i 0, i 1, by funext a; fin_cases a <;> rfl⟩
  pointwise [order]
  refine laid_at y _ r n ?_ ?_
  · show (r : ℕ) = ((r : ℕ) * 8 + (n : ℕ) % 1024 / 128) / 8
    omega
  · show (n : ℕ) = (n : ℕ) / 1024 * 1024 + (((r : ℕ) * 8 + (n : ℕ) % 1024 / 128) % 8 * 128 + (n : ℕ) % 1024 % 128)
    omega

/-- The result's block lies inside its array. -/
theorem inb2 (i : grid0.Coords) (a : Fin 3) : cc0_transform_2 i a * S1x4096x128.size a + S1x4096x128.size a ≤ S2x294912x128.size a := by
  have h := hinb0_2 i a
  rwa [Nat.add_mul, Nat.one_mul] at h

/-- An index of the output array lies in the block of the grid point whose column tile and row tile it names. -/
theorem mem_blk (hO : Fine m) (t : Fin (cfgM hO).N) (i : S2x294912x128.Idx) :
    i ∈ (((cfgM hO).win 2).blk t).view.set ↔
      ((i 0 : Fin 2) : ℕ) = colOf hO t
      ∧ (rowOf hO t * 4096 ≤ ((i 1 : Fin 294912) : ℕ) ∧ ((i 1 : Fin 294912) : ℕ) < rowOf hO t * 4096 + 4096) := by
  show i ∈ ((View.whole main_v3).slice (Rect.unit (s := S2x294912x128) (fun a => cc0_transform_2 (grid0.coords t) a * S1x4096x128.size a) S1x4096x128.size (inb2 (grid0.coords t)))).set ↔ _
  rw [View.set_slice_whole, Rect.mem_set_unit]
  have e' : ∀ a, cc0_transform_2 (grid0.coords t) a = ![colOf hO t, rowOf hO t, 0] a := congrFun (map2 (grid0.coords t))
  have e0 : cc0_transform_2 (grid0.coords t) 0 = colOf hO t := e' 0
  have e1 : cc0_transform_2 (grid0.coords t) 1 = rowOf hO t := e' 1
  have e2 : cc0_transform_2 (grid0.coords t) 2 = 0 := e' 2
  refine ⟨fun h => ?_, fun h a => ?_⟩
  · have h0 : cc0_transform_2 (grid0.coords t) 0 * 1 ≤ ((i 0 : Fin 2) : ℕ) ∧ ((i 0 : Fin 2) : ℕ) < cc0_transform_2 (grid0.coords t) 0 * 1 + 1 := h 0
    have h1 : cc0_transform_2 (grid0.coords t) 1 * 4096 ≤ ((i 1 : Fin 294912) : ℕ) ∧ ((i 1 : Fin 294912) : ℕ) < cc0_transform_2 (grid0.coords t) 1 * 4096 + 4096 := h 1
    rw [e0] at h0
    rw [e1] at h1
    exact ⟨by omega, h1⟩
  · match a with
    | ⟨0, _⟩ => show cc0_transform_2 (grid0.coords t) 0 * 1 ≤ ((i 0 : Fin 2) : ℕ) ∧ ((i 0 : Fin 2) : ℕ) < cc0_transform_2 (grid0.coords t) 0 * 1 + 1
                rw [e0]; have := h.1; omega
    | ⟨1, _⟩ => show cc0_transform_2 (grid0.coords t) 1 * 4096 ≤ ((i 1 : Fin 294912) : ℕ) ∧ ((i 1 : Fin 294912) : ℕ) < cc0_transform_2 (grid0.coords t) 1 * 4096 + 4096
                rw [e1]; exact h.2
    | ⟨2, _⟩ => show cc0_transform_2 (grid0.coords t) 2 * 128 ≤ ((i 2 : Fin 128) : ℕ) ∧ ((i 2 : Fin 128) : ℕ) < cc0_transform_2 (grid0.coords t) 2 * 128 + 128
                have hh : ((i 2 : Fin 128) : ℕ) < 128 := Fin.isLt _
                rw [e2]; constructor
                · omega
                · omega

/-- The output's blocks tile its array. -/
theorem cover (hO : Fine m) (i : S2x294912x128.Idx) :
    ∃ t : Fin (cfgM hO).N, ((cfgM hO).win 2).flush t = true ∧ i ∈ (((cfgM hO).win 2).blk t).view.set := by
  have h0 : ((i 0 : Fin 2) : ℕ) < 2 := Fin.isLt _
  have h1 : ((i 1 : Fin 294912) : ℕ) < 294912 := Fin.isLt _
  have hN : (cfgM hO).N = 144 := N_0
  refine ⟨⟨((i 0 : Fin 2) : ℕ) * 72 + ((i 1 : Fin 294912) : ℕ) / 4096, by omega⟩, flush_2 hO _, ?_⟩
  rw [mem_blk, row_eq, col_eq]
  dsimp only
  omega

/-- The array the tiles make up is the reference's result laid out. -/
theorem final (hO : Fine m) (hte : ∀ k : S72.Idx, (te m k).toNat < 8)
    (hs : ∀ n, n < 72 → word (tv m) n = 1#32 → (word (ts m) n).toNat = n) (c : Dev nD) :
    (dats hO 0 c).arrAt 2 (cfgM hO).N = laid (out (argA m c) (argW m c) (te m) (tv m)) := by
  refine (dats hO 0 c).arrAt_eq_of_cover 2 (laid (out (argA m c) (argW m c) (te m) (tv m))) (fun t _ => ?_) (cover hO)
  refine Eq.trans (show (dats hO 0 c).flushed 2 t = outTile hO c t from after_2 hO c t) ?_
  funext y
  obtain ⟨q, l, hy⟩ : ∃ (q : Fin 4096) (l : Fin 128), y = ix3 (0 : Fin 1) q l := ⟨y 1, y 2, by funext a; fin_cases a <;> first | rfl | exact Subsingleton.elim (α := Fin 1) _ _⟩
  subst hy
  have hr := row_lt hO t
  have hc : colOf hO t < 2 := (grid0.coords t 0).isLt
  have hE := word_lt (te m) 8 (by decide) hte (rowOf hO t)
  have hq := q.isLt
  have hl := l.isLt
  have e0 : rowOf hO t * 512 + (q : ℕ) / 8 < 36864 := by omega
  have e1 : colOf hO t * 1024 + ((q : ℕ) % 8 * 128 + l) < 2048 := by omega
  have ht : (rowOf hO t * 512 + (q : ℕ) / 8) / 512 = rowOf hO t := by omega
  have hw : ∀ s : S72.Idx → BitVec 32, s (ix1 (⟨(rowOf hO t * 512 + (q : ℕ) / 8) / 512, by omega⟩ : Fin 72)) = word s (rowOf hO t) := fun s => by
    unfold word; rw [dif_pos hr]; exact congrArg (fun k => s (ix1 k)) (Fin.ext ht)
  have e' : ∀ a, cc0_transform_2 (grid0.coords t) a = ![colOf hO t, rowOf hO t, 0] a := congrFun (map2 (grid0.coords t))
  have f0 : cc0_transform_2 (grid0.coords t) 0 = colOf hO t := e' 0
  have f1 : cc0_transform_2 (grid0.coords t) 1 = rowOf hO t := e' 1
  have f2 : cc0_transform_2 (grid0.coords t) 2 = 0 := e' 2
  refine (tile_at hO c t q l ⟨_, e0⟩ ⟨_, e1⟩ (hs _ hr) rfl rfl ⟨_, hE⟩ rfl).trans (Eq.trans ?_ (laid_at (out (argA m c) (argW m c) (te m) (tv m)) _ ⟨_, e0⟩ ⟨_, e1⟩ ?_ ?_).symm)
  · refine ((Cert.Reference3Ideal.Out.out_at (argA m c) (argW m c) (te m) (tv m) ⟨_, e0⟩ ⟨_, e1⟩ ⟨_, hE⟩ ((hw (te m)).trans ?_)).trans ?_).symm
    · simp
    · exact if_congr (Iff.of_eq (congrArg (· = 1#32) (hw (tv m)))) rfl rfl
  · show rowOf hO t * 512 + (q : ℕ) / 8 = (cc0_transform_2 (grid0.coords t) 1 * 4096 + 1 * (q : ℕ)) / 8
    rw [f1]; omega
  · show colOf hO t * 1024 + ((q : ℕ) % 8 * 128 + l) = (cc0_transform_2 (grid0.coords t) 0 * 1 + 1 * 0) * 1024
      + ((cc0_transform_2 (grid0.coords t) 1 * 4096 + 1 * (q : ℕ)) % 8 * 128 + (cc0_transform_2 (grid0.coords t) 2 * 128 + 1 * (l : ℕ)))
    rw [f0, f1, f2]; omega

/-- What the precondition says of the tables, where it holds. -/
theorem tables_ideal (hm : Cert.Pre_Kernel3Ideal m) (k : S72.Idx) : ((te m k).toNat < 8 ∧ (tv m k = 0#32 ∨ tv m k = 1#32)) ∧ (ts m k).toNat < 72
    ∧ (tv m k = 0#32 ∨ ts m k = BitVec.ofNat 32 (k 0).val) := by
  rw [te_eq, tv_eq, ts_eq]
  exact Cert.Pre_tables3.entries _ _ _ _ _ (hm 0) k

/-- Where the precondition holds, the run has what it needs of the tables. -/
theorem fine_ideal (hm : Cert.Pre_Kernel3Ideal m) : Fine m := fine_of m (tables_ideal hm)

end Cert.Kernel3Ideal.Down

namespace Cert.Proof.DownClaims

open Cert.Kernel3Ideal Idealize.ShloMosaic Idealize.ShloMosaic.TcCoe Idealize.SL.Sem
open Cert.Kernel3Ideal.Down

/-- The kernel's body and its ideal form's are the same text. -/
theorem body_same : Cert.Kernel3.defs₀ (F := Bits) = defs₀ (F := Bits) := by
  unfold Cert.Kernel3.defs₀ defs₀
  refine congrArg Defs.onTc (funext fun l => ?_)
  match l with
  | ⟨0, _⟩ => exact funext fun args => rfl

/-- So are their body tables with the pipeline. -/
theorem defs_same : Cert.Kernel3.defs (F := Bits) = defs (F := Bits) := congrArg (Pipeline.defs pcfgs) body_same

set_option maxHeartbeats 1600000 in
/-- With tables that name experts, mark row tiles and give each its source, the kernel returns with its arguments unchanged
    and its counters at zero. -/
theorem frame_kernel : Cert.quiescent_Kernel3 := fun m ρ hm => by
  have hO : Fine (F := Bits) m := fine_of (F := Bits) m fun k => by
    rw [te_eq, tv_eq, ts_eq]
    exact Cert.Pre_tables3.entries _ _ _ _ _ (hm 0) k
  rw [defs_same]
  exact frame (F := Bits) ρ hO

/-- So does its ideal form. -/
theorem frame_ideal : Cert.quiescent_Kernel3Ideal := fun m ρ hm => frame (F := Ideal) ρ (fine_ideal hm)

/-- From arguments that agree, with such tables, the kernel and the reference end with the same array. -/
theorem algebraic : Cert.algebraic_Kernel3Ideal_Reference3Ideal := by
  intro m ρ m' ρ' hm ha
  have hO := fine_ideal hm
  refine ⟨fun c => VE hO c main_v6, (θ_run defs _ _).mono (fun _ h => h.1) (run_result ρ hO), ?_⟩
  refine (θ_run Cert.Reference3Ideal.defs _ _).mono (fun _ h c => ⟨(h c).1.trans ?_, (h c).2⟩) (Cert.Reference3Ideal.Value.run (F := Ideal) m' ρ')
  obtain ⟨h0, h1, h2, h3, h4⟩ := ha c
  obtain rfl : c = 0 := Subsingleton.elim _ _
  refine Eq.trans ?_ (VE_result hO 0).symm
  rw [final hO (fun k => (tables_ideal hm k).1.1) (source_of m fun k => (tables_ideal hm k).2.2) 0, order_laid, te_eq, tv_eq]
  unfold Cert.Reference3Ideal.Value.res_main_v64
  rw [h0, h1, h2, h3]
  rfl

end Cert.Proof.DownClaims

end
-- ==== Proof.Gates.lean ====
module

public import proofs.«01_k».proof.Proof.ExpertsReference
public import proofs.«01_k».proof.Proof.Gen.Kernel4
public import proofs.«01_k».proof.Proof.Gen.Kernel4Ideal.Value
public import proofs.«01_k».proof.Proof.Gen.Reference4Ideal.Run
public import proofs.«01_k».proof.Defs
public import Idealize.ShloMosaic.Lib.VecWindow
public import Idealize.ShloMosaic.Lib.Pointwise
public import Idealize.ShloMosaic.Lib.StableHlo.ReadAt
public import Idealize.ShloMosaic.Lib.Quiescent

/-! The branch gates' kernel at the ideal instance: the scratch keeps the weights of the current column tile while the row
    tiles go by, each tile is the logistic function of its rows' products with those weights, and the array the tiles make
    up is the reference's. -/

@[expose] public section

set_option maxRecDepth 16384

noncomputable section

namespace Cert.Reference4Ideal.Out

open Cert.Reference4Ideal Cert.Reference4Ideal.Gen Idealize.ShloMosaic Idealize.ShloMosaic.TcCoe Idealize.SL.Sem
open Cert.Reference2Ideal.Out (one)

/-- The logistic function. -/
def logi (x : EReal) : EReal := Ideal.div 1 (1 + Ideal.exp (-x))

/-- The product's gate columns. -/
def cols (a : FVec Ideal S17408x2048 .f32) (w : FVec Ideal S2048x9536 .f32) : FVec Ideal S17408x6144 .f32 :=
  extractStridedSlice S17408x6144 ![0, 3392] (Host.dotGeneral dot_S17408x2048_S2048x9536_S17408x9536_1_0_0_1_n_n none a w)
    slices_S17408x9536_S17408x6144_0_3392

/-- The reference's result, of its two arguments. -/
def out (a : FVec Ideal S17408x2048 .f32) (w : FVec Ideal S2048x9536 .f32) : FVec Ideal S17408x6144 .bf16 :=
  truncf .bf16 (Host.divf (broadcastInDim S17408x6144 ![] bcast_S_S17408x6144 (constant S_ .f32 0x3F800000#32))
    (addf (broadcastInDim S17408x6144 ![] bcast_S_S17408x6144 (constant S_ .f32 0x3F800000#32)) (Host.exp (Host.negf (cols a w))))) bitsLt_bf16_f32

theorem cols_at (a : FVec Ideal S17408x2048 .f32) (w : FVec Ideal S2048x9536 .f32) (r : Fin 17408) (n : Fin 6144) :
    cols a w (ix2 r n) = ∑ d : Fin 2048, (a (ix2 r d) : EReal) * w (ix2 d (⟨3392 + n, by omega⟩ : Fin 9536)) := by
  pointwise [cols]

/-- The reference at a row and a column: the logistic function of the row's product with the gate's column. -/
theorem out_at (a : FVec Ideal S17408x2048 .f32) (w : FVec Ideal S2048x9536 .f32) (r : Fin 17408) (n : Fin 6144) :
    out a w (ix2 r n) = logi (∑ d : Fin 2048, (a (ix2 r d) : EReal) * w (ix2 d (⟨3392 + n, by omega⟩ : Fin 9536))) := by
  have e1 : broadcastInDim S17408x6144 ![] bcast_S_S17408x6144 (constant (F := Ideal) S_ .f32 0x3F800000#32) (ix2 r n) = (1 : EReal) := one
  show Ideal.div (broadcastInDim S17408x6144 ![] bcast_S_S17408x6144 (constant (F := Ideal) S_ .f32 0x3F800000#32) (ix2 r n))
    (broadcastInDim S17408x6144 ![] bcast_S_S17408x6144 (constant (F := Ideal) S_ .f32 0x3F800000#32) (ix2 r n) + Ideal.exp (-cols a w (ix2 r n))) = _
  rw [e1, cols_at]
  rfl

end Cert.Reference4Ideal.Out

namespace Cert.Kernel4Ideal.Gates

open Cert.Kernel4Ideal Cert.Kernel4Ideal.Gen Idealize.ShloMosaic Idealize.ShloMosaic.TcCoe Idealize.SL.Sem
open Idealize.ShloMosaic.Pipeline (Dat)
open Cert.Reference2Ideal.Out (one)
open Cert.Reference4Ideal.Out (logi)

section Tile

variable {c : Dev nD} {i : grid0.Coords} {arg2 : Memref sig .tc .vmem S1024x2048 .bf16} {harg2 : arg2.IsWhole}
  {arg3 : Memref sig .tc .vmem S2048x1024 .f32} {harg3 : arg3.IsWhole}
  {arg4 : Memref sig .tc .vmem S1024x1024 .bf16} {harg4 : arg4.IsWhole}
  {arg5 : Memref sig .tc .vmem S2048x1024 .bf16} {harg5 : arg5.IsWhole}
  {x0 : Vec Ideal S1024x2048 .bf16} {x1 : Vec Ideal S2048x1024 .f32} {xs : Vec Ideal S2048x1024 .bf16}

/-- At the first row tile the body computes the tile with the weights it has just read. -/
theorem out_first {h : cond0_0 i} :
    out0_A_2 c i arg2 harg2 arg3 harg3 arg4 harg4 arg5 harg5 h x0 x1 = k0_pay2 x0 (k0_pay1 x1) := by
  unfold out0_A_2 kernelRun0_A
  dsimp only
  unfold kernelRun0_A.sl.v5
  refine (View.read_writes_full ..).trans ?_
  refine congrArg₂ k0_pay2 ((View.readAt_full ..).trans (harg2.read_unread x0)) ?_
  refine (View.readCov_full ..).trans (congrArg k0_pay1 ?_)
  exact (View.readAt_full ..).trans (harg3.read_unread x1)

/-- And keeps those weights, rounded, in the scratch. -/
theorem kept_first {h : cond0_0 i} :
    sout0_A_0 c i arg2 harg2 arg3 harg3 arg4 harg4 arg5 harg5 h x0 x1 = k0_pay1 x1 := by
  unfold sout0_A_0 kernelRun0_A
  dsimp only
  refine (View.read_writes_full ..).trans (congrArg k0_pay1 ?_)
  exact (View.readAt_full ..).trans (harg3.read_unread x1)

/-- At a later row tile it computes the tile with the weights the scratch holds. -/
theorem out_later {h : ¬cond0_0 i} :
    out0_B_2 c i arg2 harg2 arg3 harg3 arg4 harg4 arg5 harg5 h x0 x1 xs = k0_pay2 x0 xs := by
  unfold out0_B_2 kernelRun0_B
  dsimp only
  refine (View.read_writes_full ..).trans ?_
  exact congrArg₂ k0_pay2 ((View.readAt_full ..).trans (harg2.read_unread x0)) ((View.readAt_full ..).trans (harg5.read_unread xs))

end Tile

/-- A tile at a row and a column: the logistic function of the row's product with the column. -/
theorem pay2_at (x : Vec Ideal S1024x2048 .bf16) (w : Vec Ideal S2048x1024 .bf16) (r : Fin 1024) (n : Fin 1024) :
    k0_pay2 x w (ix2 r n) = logi (∑ d : Fin 2048, (x (ix2 r d) : EReal) * w (ix2 d n)) := by
  pointwise [k0_pay2]
  rw [zero_sub]
  rfl

theorem pay1_at (w : Vec Ideal S2048x1024 .f32) (d : Fin 2048) (n : Fin 1024) :
    k0_pay1 w (ix2 d n) = (w (ix2 d n) : EReal) := by
  pointwise [k0_pay1]

/-- The blocks a grid point takes: its rows', its columns', and the result's. -/
theorem index_at : ∀ t : Fin grid0.N, win0_0.index t = ![t.val % 17, 0] ∧ win0_1.index t = ![0, t.val / 17] ∧ win0_2.index t = ![t.val % 17, t.val / 17] := by
  decide +kernel

variable (m : (ℓ : Loc nD τ sig) → Buf (Elt Ideal) ℓ)

/-- The arguments: the rows, the weights. -/
abbrev argA (c : Dev nD) : FVec Ideal S17408x2048 .f32 := m ((c : Thread nD τ).loc main_arg0)
abbrev argW (c : Dev nD) : FVec Ideal S2048x9536 .f32 := m ((c : Thread nD τ).loc main_arg1)

theorem v0_at (c : Dev nD) (i : S17408x2048.Idx) : (V m c main_v0 : FVec Ideal S17408x2048 .bf16) i = argA m c i := by
  unfold V
  after_reads_at

theorem v1_at (c : Dev nD) (d : Fin 2048) (n : Fin 6144) :
    (V m c main_v1 : FVec Ideal S2048x6144 .f32) (ix2 d n) = argW m c (ix2 d (⟨3392 + n, by omega⟩ : Fin 9536)) := by
  unfold V
  after_reads_at

theorem iblk0_at (c : Dev nD) (t : Fin cfg0.N) (r : Fin 1024) (d : Fin 2048) (R : Fin 17408) (hR : (R : ℕ) = t.val % 17 * 1024 + r) :
    (iblk m c 0 t : Vec Ideal S1024x2048 .bf16) (ix2 r d) = argA m c (ix2 R d) := by
  refine Eq.trans (congrArg (V m c main_v0 : Vec Ideal S17408x2048 .bf16) (funext fun a => ?_)) (v0_at m c (ix2 R d))
  have e' : ∀ a, win0_0.index t a = ![t.val % 17, 0] a := congrFun (index_at t).1
  fin_cases a
  · apply Fin.ext; show win0_0.index t 0 * 1024 + 1 * (r : ℕ) = R; rw [e', hR]; simp
  · apply Fin.ext; show win0_0.index t 1 * 2048 + 1 * (d : ℕ) = d; rw [e']; simp

theorem iblk1_at (c : Dev nD) (t : Fin cfg0.N) (d : Fin 2048) (n : Fin 1024) (N : Fin 6144) (hN : (N : ℕ) = t.val / 17 * 1024 + n) :
    (iblk m c 1 t : Vec Ideal S2048x1024 .f32) (ix2 d n) = argW m c (ix2 d (⟨3392 + N, by omega⟩ : Fin 9536)) := by
  refine Eq.trans (congrArg (V m c main_v1 : Vec Ideal S2048x6144 .f32) (funext fun a => ?_)) (v1_at m c d N)
  have e' : ∀ a, win0_1.index t a = ![0, t.val / 17] a := congrFun (index_at t).2.1
  fin_cases a
  · apply Fin.ext; show win0_1.index t 0 * 2048 + 1 * (d : ℕ) = d; rw [e']; simp
  · apply Fin.ext; show win0_1.index t 1 * 1024 + 1 * (n : ℕ) = N; rw [e', hN]; simp

/-- The grid point that reads the weights a point works with: the first row tile of its column tile. -/
abbrev first (n : ℕ) (h : n < cfg0.N) : Fin cfg0.N := ⟨17 * (n / 17), by omega⟩

/-- After every point the scratch holds the weights of the point's column tile. -/
theorem kept (c : Dev nD) : ∀ (n : ℕ) (h : n < cfg0.N), (outsAt0 m c n h).2 = k0_pay1 (iblk m c 1 (first n h)) := by
  intro n
  induction n with
  | zero =>
    intro h
    have e : first 0 h = ⟨0, h⟩ := Fin.ext rfl
    rw [e, outsAt0_A m c ⟨0, h⟩ (Nat.zero_mod 17)]
    dsimp only
    exact kept_first
  | succ k ih =>
    intro h
    by_cases h0 : (k + 1) % 17 = 0
    · have e : first (k + 1) h = ⟨k + 1, h⟩ := Fin.ext (by dsimp only; omega)
      rw [e, outsAt0_A m c ⟨k + 1, h⟩ h0]
      dsimp only
      exact kept_first
    · have e : first (k + 1) h = first k (by omega) := Fin.ext (by dsimp only; omega)
      rw [e, outsAt0_B m c ⟨k + 1, h⟩ h0]
      dsimp only
      unfold sout0_B_0
      exact ih (Nat.lt_of_succ_lt h)

/-- After every point the result's buffer holds the tile of the point's rows with those weights. -/
theorem made (c : Dev nD) (t : Fin cfg0.N) :
    (outsAt0 m c t.val t.isLt).1 = k0_pay2 (iblk m c 0 t) (k0_pay1 (iblk m c 1 (first t.val t.isLt))) := by
  by_cases h0 : t.val % 17 = 0
  · have e : first t.val t.isLt = t := Fin.ext (by dsimp only; omega)
    rw [e, outsAt0_A m c t h0]
    dsimp only
    exact out_first
  · have e : first t.val t.isLt = first (t.val - 1) (by omega) := Fin.ext (by dsimp only; omega)
    rw [e, outsAt0_B m c t h0]
    dsimp only
    refine out_later.trans ?_
    exact congrArg (k0_pay2 (iblk m c 0 t)) (kept m c (t.val - 1) (by omega))

/-- A tile of the result at a row and a column. -/
theorem made_at (c : Dev nD) (t : Fin cfg0.N) (r : Fin 1024) (n : Fin 1024) (R : Fin 17408) (N : Fin 6144)
    (hR : (R : ℕ) = t.val % 17 * 1024 + r) (hN : (N : ℕ) = t.val / 17 * 1024 + n) :
    (outsAt0 m c t.val t.isLt).1 (ix2 r n) = Cert.Reference4Ideal.Out.out (argA m c) (argW m c) (ix2 R N) := by
  rw [made, Cert.Reference4Ideal.Out.out_at]
  refine (pay2_at _ _ r n).trans (congrArg logi (Finset.sum_congr rfl fun d _ => ?_))
  refine congrArg₂ (fun a b : EReal => a * b) (iblk0_at m c t r d R hR) ((pay1_at _ d n).trans (iblk1_at m c _ d n N ?_))
  rw [hN]
  dsimp only
  omega

/-- The array the tiles make up is the reference's result. -/
theorem final (c : Dev nD) :
    (dats m 0 c).arrAt 2 cfg0.N = Cert.Reference4Ideal.Out.out (argA m c) (argW m c) := by
  refine (dats m 0 c).arrAt_eq_of_cover 2 (Cert.Reference4Ideal.Out.out (argA m c) (argW m c)) (fun t _ => ?_) (fun i => ?_)
  · rw [Value.flushed2]
    funext y
    obtain ⟨r, n, hy⟩ : ∃ (r : Fin 1024) (n : Fin 1024), y = ix2 r n := ⟨y 0, y 1, by funext a; fin_cases a <;> rfl⟩
    subst hy
    have ht : t.val < 102 := lt_of_lt_of_eq t.isLt N_0
    have hr := r.isLt
    have hn := n.isLt
    have e0 : t.val % 17 * 1024 + (r : ℕ) < 17408 := by omega
    have e1 : t.val / 17 * 1024 + (n : ℕ) < 6144 := by omega
    refine Eq.trans (show _ = (outsAt0 m c t.val t.isLt).1 (ix2 r n) from rfl) ((made_at m c t r n ⟨_, e0⟩ ⟨_, e1⟩ rfl rfl).trans ?_)
    refine congrArg (Cert.Reference4Ideal.Out.out (argA m c) (argW m c)) (?_ : ix2 (⟨_, e0⟩ : Fin 17408) (⟨_, e1⟩ : Fin 6144) = ((cfg0.win 2).blk t).view.emb (ix2 r n))
    have e' : ∀ a, win0_2.index t a = ![t.val % 17, t.val / 17] a := congrFun (index_at t).2.2
    funext a
    fin_cases a
    · apply Fin.ext; show t.val % 17 * 1024 + (r : ℕ) = win0_2.index t 0 * 1024 + 1 * (r : ℕ); rw [e']; simp
    · apply Fin.ext; show t.val / 17 * 1024 + (n : ℕ) = win0_2.index t 1 * 1024 + 1 * (n : ℕ); rw [e']; simp
  · have h0 : ((i 0 : Fin 17408) : ℕ) < 17408 := Fin.isLt _
    have h1 : ((i 1 : Fin 6144) : ℕ) < 6144 := Fin.isLt _
    exact (Value.covered_iff2 i).2 ⟨Nat.zero_le _, h0, Nat.zero_le _, h1⟩

end Cert.Kernel4Ideal.Gates

namespace Cert.Proof.GatesClaims

open Cert.Kernel4Ideal Idealize.ShloMosaic Idealize.ShloMosaic.TcCoe Idealize.SL.Sem
open Cert.Kernel4Ideal.Gates

/-- The kernel's body and its ideal form's are the same text. -/
theorem body_same : Cert.Kernel4.defs₀ (F := Bits) = defs₀ (F := Bits) := by
  unfold Cert.Kernel4.defs₀ defs₀
  refine congrArg Defs.onTc (funext fun l => ?_)
  match l with
  | ⟨0, _⟩ => exact funext fun args => rfl

/-- So are their body tables with the pipeline. -/
theorem defs_same : Cert.Kernel4.defs (F := Bits) = defs (F := Bits) := congrArg (Pipeline.defs pcfgs) body_same

/-- The kernel returns with its arguments unchanged and its counters at zero. -/
theorem frame_kernel : Cert.quiescent_Kernel4 := fun m ρ _ => by
  rw [defs_same]
  exact Cert.Kernel4Ideal.Gen.frame (F := Bits) m ρ

/-- So does its ideal form. -/
theorem frame_ideal : Cert.quiescent_Kernel4Ideal := fun m ρ _ => Cert.Kernel4Ideal.Gen.frame (F := Ideal) m ρ

/-- So does the reference. -/
theorem frame_ref : Cert.quiescent_Reference4Ideal := fun m ρ _ =>
  (θ_run Cert.Reference4Ideal.defs _ _).mono
    (fun r h => ⟨fun c => (h c).2, Idealize.ShloMosaic.sem_eq_zero_of_no_sems (by decide) r.2⟩) (Cert.Reference4Ideal.Value.run (F := Ideal) m ρ)

/-- From arguments that agree, the kernel and the reference end with the same array. -/
theorem algebraic : Cert.algebraic_Kernel4Ideal_Reference4Ideal := by
  intro m ρ m' ρ' _ ha
  refine ⟨fun c => (Cert.Kernel4Ideal.Gen.dats m 0 c).arrAt 2 cfg0.N, Cert.Kernel4Ideal.Value.run_blocks m ρ, ?_⟩
  refine (θ_run Cert.Reference4Ideal.defs _ _).mono (fun _ h c => ⟨(h c).1.trans ?_, (h c).2⟩) (Cert.Reference4Ideal.Value.run (F := Ideal) m' ρ')
  obtain ⟨h0, h1⟩ := ha c
  obtain rfl : c = 0 := Subsingleton.elim _ _
  refine Eq.trans ?_ (final m 0).symm
  rw [h0, h1]
  rfl

end Cert.Proof.GatesClaims

end
-- ==== Proof.Dense.lean ====
module

public import proofs.«01_k».proof.Proof.ExpertsReference
public import proofs.«01_k».proof.Proof.Gen.Kernel5
public import proofs.«01_k».proof.Proof.Gen.Kernel5Ideal.Value
public import proofs.«01_k».proof.Proof.Gen.Reference5Ideal.Run
public import proofs.«01_k».proof.Defs
public import Idealize.ShloMosaic.Lib.VecWindow
public import Idealize.ShloMosaic.Lib.Pointwise
public import Idealize.ShloMosaic.Lib.StableHlo.ReadAt
public import Idealize.ShloMosaic.Lib.Quiescent

/-! The feed-forward network's first kernel at the ideal instance: two scratches keep the weights of the current column
    tile while the row tiles go by, each tile is the gated product of its rows with those weights, and the array the tiles
    make up is the reference's. -/

@[expose] public section

set_option maxRecDepth 16384

noncomputable section

namespace Cert.Reference5Ideal.Out

open Cert.Reference5Ideal Cert.Reference5Ideal.Gen Idealize.ShloMosaic Idealize.ShloMosaic.TcCoe Idealize.SL.Sem
open Cert.Reference2Ideal.Out (one unit)

/-- The rows' products with both matrices, side by side. -/
def prod (a : FVec Ideal S17408x2048 .f32) (w : FVec Ideal S1x2048x11264 .f32) : FVec Ideal S17408x11264 .f32 :=
  Host.dotGeneral dot_S17408x2048_S2048x11264_S17408x11264_1_0_0_1_n_n none a (shapeCast _ w shapeCasts_S1x2048x11264_S2048x11264)

/-- The sigmoid-weighted linear unit. -/
def silu (x : FVec Ideal S17408x5632 .f32) : FVec Ideal S17408x5632 .f32 :=
  mulf x (Host.divf (broadcastInDim S17408x5632 ![] bcast_S_S17408x5632 (constant S_ .f32 0x3F800000#32))
    (addf (broadcastInDim S17408x5632 ![] bcast_S_S17408x5632 (constant S_ .f32 0x3F800000#32)) (Host.exp (Host.negf x))))

/-- The reference's result, of its two arguments. -/
def out (a : FVec Ideal S17408x2048 .f32) (w : FVec Ideal S1x2048x11264 .f32) : FVec Ideal S17408x5632 .bf16 :=
  truncf .bf16 (mulf (silu (extractStridedSlice S17408x5632 ![0, 0] (prod a w) slices_S17408x11264_S17408x5632_0_0))
    (extractStridedSlice S17408x5632 ![0, 5632] (prod a w) slices_S17408x11264_S17408x5632_0_5632)) bitsLt_bf16_f32

theorem prod_at (a : FVec Ideal S17408x2048 .f32) (w : FVec Ideal S1x2048x11264 .f32) (r : Fin 17408) (n : Fin 11264) :
    prod a w (ix2 r n) = ∑ d : Fin 2048, (a (ix2 r d) : EReal) * w (ix3 (0 : Fin 1) d n) := by
  pointwise [prod]

theorem silu_at (x : FVec Ideal S17408x5632 .f32) (r : Fin 17408) (n : Fin 5632) :
    silu x (ix2 r n) = unit (x (ix2 r n)) := by
  have e1 : broadcastInDim S17408x5632 ![] bcast_S_S17408x5632 (constant (F := Ideal) S_ .f32 0x3F800000#32) (ix2 r n) = (1 : EReal) := one
  show x (ix2 r n) * Ideal.div (broadcastInDim S17408x5632 ![] bcast_S_S17408x5632 (constant (F := Ideal) S_ .f32 0x3F800000#32) (ix2 r n))
    (broadcastInDim S17408x5632 ![] bcast_S_S17408x5632 (constant (F := Ideal) S_ .f32 0x3F800000#32) (ix2 r n) + Ideal.exp (-x (ix2 r n))) = _
  rw [e1]
  rfl

/-- The reference at a row and a column: the unit of the first product times the second. -/
theorem out_at (a : FVec Ideal S17408x2048 .f32) (w : FVec Ideal S1x2048x11264 .f32) (r : Fin 17408) (n : Fin 5632) :
    out a w (ix2 r n) = (unit (∑ d : Fin 2048, (a (ix2 r d) : EReal) * w (ix3 (0 : Fin 1) d (⟨n, by omega⟩ : Fin 11264))) : EReal)
      * ∑ d : Fin 2048, (a (ix2 r d) : EReal) * w (ix3 (0 : Fin 1) d (⟨5632 + n, by omega⟩ : Fin 11264)) := by
  have e : ∀ (x y : FVec Ideal S17408x5632 .f32) (i : S17408x5632.Idx) (u v : EReal), x i = u → y i = v → mulf x y i = u * v := by
    rintro x y i u v rfl rfl; rfl
  refine e _ _ _ _ _ ((silu_at _ r n).trans (congrArg unit (Eq.trans ?_ (prod_at a w r _)))) (Eq.trans ?_ (prod_at a w r _))
  · pointwise []
  · pointwise []

end Cert.Reference5Ideal.Out

namespace Cert.Kernel5Ideal.Dense

open Cert.Kernel5Ideal Cert.Kernel5Ideal.Gen Idealize.ShloMosaic Idealize.ShloMosaic.TcCoe Idealize.SL.Sem
open Idealize.ShloMosaic.Pipeline (Dat)
open Cert.Reference2Ideal.Out (one unit)

section Tile

variable {c : Dev nD} {i : grid0.Coords} {arg2 : Memref sig .tc .vmem S1024x2048 .bf16} {harg2 : arg2.IsWhole}
  {arg3 : Memref sig .tc .vmem S1x2048x512 .f32} {harg3 : arg3.IsWhole} {arg4 : Memref sig .tc .vmem S1x2048x512 .f32} {harg4 : arg4.IsWhole}
  {arg5 : Memref sig .tc .vmem S1024x512 .bf16} {harg5 : arg5.IsWhole} {arg6 : Memref sig .tc .vmem S2048x512 .bf16} {harg6 : arg6.IsWhole}
  {arg7 : Memref sig .tc .vmem S2048x512 .bf16} {harg7 : arg7.IsWhole}
  {x0 : Vec Ideal S1024x2048 .bf16} {x1 x2 : Vec Ideal S1x2048x512 .f32} {xs0 xs1 : Vec Ideal S2048x512 .bf16}

/-- At the first row tile the body computes the tile with the weights it has just read. -/
theorem out_first {h : cond0_0 i} :
    out0_A_3 c i arg2 harg2 arg3 harg3 arg4 harg4 arg5 harg5 arg6 harg6 arg7 harg7 h x0 x1 x2 = k0_pay3 x0 (k0_pay1 x1) (k0_pay2 x2) := by
  have e0 : View.readAt (Elt Ideal) arg2.view (Rect.unit (s := S1024x2048) ![0, 0] S1024x2048.size inb_S1024x2048_S1024x2048_0_0).toLoadRect (harg2.unread x0) = x0 :=
    (View.readAt_full ..).trans (harg2.read_unread x0)
  have e1 : kernelRun0_A.sl.v5 (F := Ideal) c arg3 harg3 arg6 x1 = k0_pay1 x1 := by
    unfold kernelRun0_A.sl.v5
    exact (View.readCov_full ..).trans (congrArg k0_pay1 ((View.readAt_full ..).trans (harg3.read_unread x1)))
  have e2 : kernelRun0_A.sl.v7 (F := Ideal) c arg4 harg4 arg7 x2 = k0_pay2 x2 := by
    unfold kernelRun0_A.sl.v7
    exact (View.readCov_full ..).trans (congrArg k0_pay2 ((View.readAt_full ..).trans (harg4.read_unread x2)))
  unfold out0_A_3 kernelRun0_A
  dsimp only
  refine (View.read_writes_full ..).trans ?_
  rw [e1, e2]
  exact congrArg (fun x => k0_pay3 x (k0_pay1 x1) (k0_pay2 x2)) e0

/-- And keeps the gate's weights, rounded, in the first scratch. -/
theorem gate_first {h : cond0_0 i} :
    sout0_A_0 c i arg2 harg2 arg3 harg3 arg4 harg4 arg5 harg5 arg6 harg6 arg7 harg7 h x0 x1 x2 = k0_pay1 x1 := by
  unfold sout0_A_0 kernelRun0_A
  dsimp only
  refine (View.read_writes_full ..).trans (congrArg k0_pay1 ?_)
  exact (View.readAt_full ..).trans (harg3.read_unread x1)

/-- And the other weights, rounded, in the second. -/
theorem up_first {h : cond0_0 i} :
    sout0_A_1 c i arg2 harg2 arg3 harg3 arg4 harg4 arg5 harg5 arg6 harg6 arg7 harg7 h x0 x1 x2 = k0_pay2 x2 := by
  unfold sout0_A_1 kernelRun0_A
  dsimp only
  refine (View.read_writes_full ..).trans (congrArg k0_pay2 ?_)
  exact (View.readAt_full ..).trans (harg4.read_unread x2)

/-- At a later row tile it computes the tile with the weights the scratches hold. -/
theorem out_later {h : ¬cond0_0 i} :
    out0_B_3 c i arg2 harg2 arg3 harg3 arg4 harg4 arg5 harg5 arg6 harg6 arg7 harg7 h x0 x1 x2 xs0 xs1 = k0_pay3 x0 xs0 xs1 := by
  have e : ∀ (a a' : Vec Ideal S1024x2048 .bf16) (b b' d d' : Vec Ideal S2048x512 .bf16), a = a' → b = b' → d = d' → k0_pay3 a b d = k0_pay3 a' b' d' := by
    rintro a _ b _ d _ rfl rfl rfl; rfl
  unfold out0_B_3 kernelRun0_B
  dsimp only
  refine (View.read_writes_full ..).trans ?_
  exact e _ _ _ _ _ _ ((View.readAt_full ..).trans (harg2.read_unread x0)) ((View.readAt_full ..).trans (harg6.read_unread xs0))
    ((View.readAt_full ..).trans (harg7.read_unread xs1))

end Tile

/-- A tile at a row and a column: the unit of the row's product with the gate's column times its product with the other. -/
theorem pay3_at (x : Vec Ideal S1024x2048 .bf16) (w0 w1 : Vec Ideal S2048x512 .bf16) (r : Fin 1024) (n : Fin 512) :
    k0_pay3 x w0 w1 (ix2 r n) = (unit (∑ d : Fin 2048, (x (ix2 r d) : EReal) * w0 (ix2 d n)) : EReal) * ∑ d : Fin 2048, (x (ix2 r d) : EReal) * w1 (ix2 d n) := by
  pointwise [k0_pay3]
  rw [zero_sub]
  rfl

theorem pay1_at (w : Vec Ideal S1x2048x512 .f32) (d : Fin 2048) (n : Fin 512) :
    k0_pay1 w (ix2 d n) = (w (ix3 (0 : Fin 1) d n) : EReal) := by
  pointwise [k0_pay1]

theorem pay2_at (w : Vec Ideal S1x2048x512 .f32) (d : Fin 2048) (n : Fin 512) :
    k0_pay2 w (ix2 d n) = (w (ix3 (0 : Fin 1) d n) : EReal) := by
  pointwise [k0_pay2]

/-- The blocks a grid point takes: its rows', its two matrices' columns', and the result's. -/
theorem index_at : ∀ t : Fin grid0.N, win0_0.index t = ![t.val % 17, 0] ∧ win0_1.index t = ![0, 0, t.val / 17]
    ∧ win0_2.index t = ![0, 0, t.val / 17 + 11] ∧ win0_3.index t = ![t.val % 17, t.val / 17] := by
  decide +kernel

variable (m : (ℓ : Loc nD τ sig) → Buf (Elt Ideal) ℓ)

/-- The arguments: the rows, the weights. -/
abbrev argA (c : Dev nD) : FVec Ideal S17408x2048 .f32 := m ((c : Thread nD τ).loc main_arg0)
abbrev argW (c : Dev nD) : FVec Ideal S1x2048x11264 .f32 := m ((c : Thread nD τ).loc main_arg1)

theorem v0_at (c : Dev nD) (i : S17408x2048.Idx) : (V m c main_v0 : FVec Ideal S17408x2048 .bf16) i = argA m c i := by
  unfold V
  after_reads_at

theorem iblk0_at (c : Dev nD) (t : Fin cfg0.N) (r : Fin 1024) (d : Fin 2048) (R : Fin 17408) (hR : (R : ℕ) = t.val % 17 * 1024 + r) :
    (iblk m c 0 t : Vec Ideal S1024x2048 .bf16) (ix2 r d) = argA m c (ix2 R d) := by
  refine Eq.trans (congrArg (V m c main_v0 : Vec Ideal S17408x2048 .bf16) (funext fun a => ?_)) (v0_at m c (ix2 R d))
  have e' : ∀ a, win0_0.index t a = ![t.val % 17, 0] a := congrFun (index_at t).1
  fin_cases a
  · apply Fin.ext; show win0_0.index t 0 * 1024 + 1 * (r : ℕ) = R; rw [e', hR]; simp
  · apply Fin.ext; show win0_0.index t 1 * 2048 + 1 * (d : ℕ) = d; rw [e']; simp

theorem iblk1_at (c : Dev nD) (t : Fin cfg0.N) (d : Fin 2048) (n : Fin 512) (N : Fin 11264) (hN : (N : ℕ) = t.val / 17 * 512 + n) :
    (iblk m c 1 t : Vec Ideal S1x2048x512 .f32) (ix3 (0 : Fin 1) d n) = argW m c (ix3 (0 : Fin 1) d N) := by
  refine Eq.trans (congrArg (V m c main_arg1 : Vec Ideal S1x2048x11264 .f32) (funext fun a => ?_)) (congrFun (V_main_arg1 m c) (ix3 (0 : Fin 1) d N))
  have e' : ∀ a, win0_1.index t a = ![0, 0, t.val / 17] a := congrFun (index_at t).2.1
  fin_cases a
  · apply Fin.ext; show win0_1.index t 0 * 1 + 1 * 0 = 0; rw [e']; simp
  · apply Fin.ext; show win0_1.index t 1 * 2048 + 1 * (d : ℕ) = d; rw [e']; simp
  · apply Fin.ext; show win0_1.index t 2 * 512 + 1 * (n : ℕ) = N; rw [e', hN]; simp

theorem iblk2_at (c : Dev nD) (t : Fin cfg0.N) (d : Fin 2048) (n : Fin 512) (N : Fin 11264) (hN : (N : ℕ) = (t.val / 17 + 11) * 512 + n) :
    (iblk m c 2 t : Vec Ideal S1x2048x512 .f32) (ix3 (0 : Fin 1) d n) = argW m c (ix3 (0 : Fin 1) d N) := by
  refine Eq.trans (congrArg (V m c main_arg1 : Vec Ideal S1x2048x11264 .f32) (funext fun a => ?_)) (congrFun (V_main_arg1 m c) (ix3 (0 : Fin 1) d N))
  have e' : ∀ a, win0_2.index t a = ![0, 0, t.val / 17 + 11] a := congrFun (index_at t).2.2.1
  fin_cases a
  · apply Fin.ext; show win0_2.index t 0 * 1 + 1 * 0 = 0; rw [e']; simp
  · apply Fin.ext; show win0_2.index t 1 * 2048 + 1 * (d : ℕ) = d; rw [e']; simp
  · apply Fin.ext; show win0_2.index t 2 * 512 + 1 * (n : ℕ) = N; rw [e', hN]; simp

/-- The grid point that reads the weights a point works with: the first row tile of its column tile. -/
abbrev first (n : ℕ) (h : n < cfg0.N) : Fin cfg0.N := ⟨17 * (n / 17), by omega⟩

/-- After every point the scratches hold the weights of the point's column tile. -/
theorem kept (c : Dev nD) : ∀ (n : ℕ) (h : n < cfg0.N),
    (outsAt0 m c n h).2.1 = k0_pay1 (iblk m c 1 (first n h)) ∧ (outsAt0 m c n h).2.2 = k0_pay2 (iblk m c 2 (first n h)) := by
  intro n
  induction n with
  | zero =>
    intro h
    have e : first 0 h = ⟨0, h⟩ := Fin.ext rfl
    rw [e, outsAt0_A m c ⟨0, h⟩ (Nat.zero_mod 17)]
    dsimp only
    exact ⟨gate_first, up_first⟩
  | succ k ih =>
    intro h
    by_cases h0 : (k + 1) % 17 = 0
    · have e : first (k + 1) h = ⟨k + 1, h⟩ := Fin.ext (by dsimp only; omega)
      rw [e, outsAt0_A m c ⟨k + 1, h⟩ h0]
      dsimp only
      exact ⟨gate_first, up_first⟩
    · have e : first (k + 1) h = first k (by omega) := Fin.ext (by dsimp only; omega)
      rw [e, outsAt0_B m c ⟨k + 1, h⟩ h0]
      dsimp only
      unfold sout0_B_0 sout0_B_1
      exact ih (Nat.lt_of_succ_lt h)

/-- After every point the result's buffer holds the tile of the point's rows with those weights. -/
theorem made (c : Dev nD) (t : Fin cfg0.N) :
    (outsAt0 m c t.val t.isLt).1 = k0_pay3 (iblk m c 0 t) (k0_pay1 (iblk m c 1 (first t.val t.isLt))) (k0_pay2 (iblk m c 2 (first t.val t.isLt))) := by
  by_cases h0 : t.val % 17 = 0
  · have e : first t.val t.isLt = t := Fin.ext (by dsimp only; omega)
    rw [e, outsAt0_A m c t h0]
    dsimp only
    exact out_first
  · have e : first t.val t.isLt = first (t.val - 1) (by omega) := Fin.ext (by dsimp only; omega)
    rw [e, outsAt0_B m c t h0]
    dsimp only
    refine out_later.trans ?_
    have hk := kept m c (t.val - 1) (by omega)
    exact congrArg₂ (k0_pay3 (iblk m c 0 t)) hk.1 hk.2

/-- A tile of the result at a row and a column. -/
theorem made_at (c : Dev nD) (t : Fin cfg0.N) (r : Fin 1024) (n : Fin 512) (R : Fin 17408) (N : Fin 5632)
    (hR : (R : ℕ) = t.val % 17 * 1024 + r) (hN : (N : ℕ) = t.val / 17 * 512 + n) :
    (outsAt0 m c t.val t.isLt).1 (ix2 r n) = Cert.Reference5Ideal.Out.out (argA m c) (argW m c) (ix2 R N) := by
  rw [made, Cert.Reference5Ideal.Out.out_at]
  refine (pay3_at _ _ _ r n).trans ?_
  refine congrArg₂ (fun a b : EReal => a * b) (congrArg unit (Finset.sum_congr rfl fun d _ => ?_)) (Finset.sum_congr rfl fun d _ => ?_)
  · refine congrArg₂ (fun a b : EReal => a * b) (iblk0_at m c t r d R hR) ((pay1_at _ d n).trans (iblk1_at m c _ d n _ ?_))
    dsimp only
    omega
  · refine congrArg₂ (fun a b : EReal => a * b) (iblk0_at m c t r d R hR) ((pay2_at _ d n).trans (iblk2_at m c _ d n _ ?_))
    dsimp only
    omega

/-- The array the tiles make up is the reference's result. -/
theorem final (c : Dev nD) :
    (dats m 0 c).arrAt 3 cfg0.N = Cert.Reference5Ideal.Out.out (argA m c) (argW m c) := by
  refine (dats m 0 c).arrAt_eq_of_cover 3 (Cert.Reference5Ideal.Out.out (argA m c) (argW m c)) (fun t _ => ?_) (fun i => ?_)
  · rw [Value.flushed3]
    funext y
    obtain ⟨r, n, hy⟩ : ∃ (r : Fin 1024) (n : Fin 512), y = ix2 r n := ⟨y 0, y 1, by funext a; fin_cases a <;> rfl⟩
    subst hy
    have ht : t.val < 187 := lt_of_lt_of_eq t.isLt N_0
    have hr := r.isLt
    have hn := n.isLt
    have e0 : t.val % 17 * 1024 + (r : ℕ) < 17408 := by omega
    have e1 : t.val / 17 * 512 + (n : ℕ) < 5632 := by omega
    refine Eq.trans (show _ = (outsAt0 m c t.val t.isLt).1 (ix2 r n) from rfl) ((made_at m c t r n ⟨_, e0⟩ ⟨_, e1⟩ rfl rfl).trans ?_)
    refine congrArg (Cert.Reference5Ideal.Out.out (argA m c) (argW m c)) (?_ : ix2 (⟨_, e0⟩ : Fin 17408) (⟨_, e1⟩ : Fin 5632) = ((cfg0.win 3).blk t).view.emb (ix2 r n))
    have e' : ∀ a, win0_3.index t a = ![t.val % 17, t.val / 17] a := congrFun (index_at t).2.2.2
    funext a
    fin_cases a
    · apply Fin.ext; show t.val % 17 * 1024 + (r : ℕ) = win0_3.index t 0 * 1024 + 1 * (r : ℕ); rw [e']; simp
    · apply Fin.ext; show t.val / 17 * 512 + (n : ℕ) = win0_3.index t 1 * 512 + 1 * (n : ℕ); rw [e']; simp
  · have h0 : ((i 0 : Fin 17408) : ℕ) < 17408 := Fin.isLt _
    have h1 : ((i 1 : Fin 5632) : ℕ) < 5632 := Fin.isLt _
    exact (Value.covered_iff3 i).2 ⟨Nat.zero_le _, h0, Nat.zero_le _, h1⟩

end Cert.Kernel5Ideal.Dense

namespace Cert.Proof.DenseClaims

open Cert.Kernel5Ideal Idealize.ShloMosaic Idealize.ShloMosaic.TcCoe Idealize.SL.Sem
open Cert.Kernel5Ideal.Dense

/-- The kernel's body and its ideal form's are the same text. -/
theorem body_same : Cert.Kernel5.defs₀ (F := Bits) = defs₀ (F := Bits) := by
  unfold Cert.Kernel5.defs₀ defs₀
  refine congrArg Defs.onTc (funext fun l => ?_)
  match l with
  | ⟨0, _⟩ => exact funext fun args => rfl

/-- So are their body tables with the pipeline. -/
theorem defs_same : Cert.Kernel5.defs (F := Bits) = defs (F := Bits) := congrArg (Pipeline.defs pcfgs) body_same

/-- The kernel returns with its arguments unchanged and its counters at zero. -/
theorem frame_kernel : Cert.quiescent_Kernel5 := fun m ρ _ => by
  rw [defs_same]
  exact Cert.Kernel5Ideal.Gen.frame (F := Bits) m ρ

/-- So does its ideal form. -/
theorem frame_ideal : Cert.quiescent_Kernel5Ideal := fun m ρ _ => Cert.Kernel5Ideal.Gen.frame (F := Ideal) m ρ

/-- So does the reference. -/
theorem frame_ref : Cert.quiescent_Reference5Ideal := fun m ρ _ =>
  (θ_run Cert.Reference5Ideal.defs _ _).mono
    (fun r h => ⟨fun c => (h c).2, Idealize.ShloMosaic.sem_eq_zero_of_no_sems (by decide) r.2⟩) (Cert.Reference5Ideal.Value.run (F := Ideal) m ρ)

/-- From arguments that agree, the kernel and the reference end with the same array. -/
theorem algebraic : Cert.algebraic_Kernel5Ideal_Reference5Ideal := by
  intro m ρ m' ρ' _ ha
  refine ⟨fun c => (Cert.Kernel5Ideal.Gen.dats m 0 c).arrAt 3 cfg0.N, Cert.Kernel5Ideal.Value.run_blocks m ρ, ?_⟩
  refine (θ_run Cert.Reference5Ideal.defs _ _).mono (fun _ h c => ⟨(h c).1.trans ?_, (h c).2⟩) (Cert.Reference5Ideal.Value.run (F := Ideal) m' ρ')
  obtain ⟨h0, h1⟩ := ha c
  obtain rfl : c = 0 := Subsingleton.elim _ _
  refine Eq.trans ?_ (final m 0).symm
  rw [h0, h1]
  rfl

end Cert.Proof.DenseClaims

end
-- ==== Proof.Inputs.lean ====
module

public import proofs.«01_k».proof.Proof.Gen.Kernel6
public import proofs.«01_k».proof.Proof.Gen.Kernel6Ideal.Value
public import proofs.«01_k».proof.Proof.Gen.Reference6Ideal.Run
public import proofs.«01_k».proof.Defs
public import Idealize.ShloMosaic.Lib.VecWindow
public import Idealize.ShloMosaic.Lib.Pointwise
public import Idealize.ShloMosaic.Lib.StableHlo.ReadAt
public import Idealize.ShloMosaic.Lib.Quiescent

/-! The mixers' projections at the ideal instance: the host lays the projections' columns side by side with columns of zeros
    behind them, the scratch keeps the weights of the current column tile while the row tiles go by, each tile is its rows'
    products with those weights, and the array the tiles make up is the reference's. -/

@[expose] public section

set_option maxRecDepth 16384

noncomputable section

namespace Cert.Reference6Ideal.Out

open Cert.Reference6Ideal Cert.Reference6Ideal.Gen Idealize.ShloMosaic Idealize.ShloMosaic.TcCoe Idealize.SL.Sem

/-- The rows' products with all the columns. -/
def prod (a : FVec Ideal S17408x2048 .f32) (w : FVec Ideal S2048x9536 .f32) : FVec Ideal S17408x9536 .f32 :=
  Host.dotGeneral dot_S17408x2048_S2048x9536_S17408x9536_1_0_0_1_n_n none a w

/-- The projections of a product, side by side in the kept order, with zeros behind them. -/
def lay (p : FVec Ideal S17408x9536 .f32) : FVec Ideal S17408x3584 .f32 :=
  concatenate S17408x3584 1 [⟨S17408x1024, extractStridedSlice S17408x1024 ![0, 0] p slices_S17408x9536_S17408x1024_0_0⟩,
    ⟨S17408x1024, extractStridedSlice S17408x1024 ![0, 2368] p slices_S17408x9536_S17408x1024_0_2368⟩,
    ⟨S17408x512, extractStridedSlice S17408x512 ![0, 1536] p slices_S17408x9536_S17408x512_0_1536⟩,
    ⟨S17408x256, extractStridedSlice S17408x256 ![0, 1024] p slices_S17408x9536_S17408x256_0_1024⟩,
    ⟨S17408x256, extractStridedSlice S17408x256 ![0, 1280] p slices_S17408x9536_S17408x256_0_1280⟩,
    ⟨S17408x256, extractStridedSlice S17408x256 ![0, 2048] p slices_S17408x9536_S17408x256_0_2048⟩,
    ⟨S17408x64, extractStridedSlice S17408x64 ![0, 2304] p slices_S17408x9536_S17408x64_0_2304⟩,
    ⟨S17408x192, broadcastInDim S17408x192 ![] bcast_S_S17408x192 (constant S_ .f32 0x00000000#32)⟩]
    concatenates_S17408x1024_S17408x1024_S17408x512_S17408x256_S17408x256_S17408x256_S17408x64_S17408x192_S17408x3584_d1

/-- The reference's result, of its two arguments. -/
def out (a : FVec Ideal S17408x2048 .f32) (w : FVec Ideal S2048x9536 .f32) : FVec Ideal S17408x3584 .f32 := lay (prod a w)

/-- What stands at a place of the kept order: the column of the projection that owns the place, or zero. -/
def place (f : Fin 9536 → EReal) (n : Fin 3584) : EReal :=
  if h0 : (n : ℕ) < 1024 then f ⟨n, by omega⟩
  else if h1 : (n : ℕ) - 1024 < 1024 then f ⟨2368 + (n - 1024), by omega⟩
  else if h2 : (n : ℕ) - 1024 - 1024 < 512 then f ⟨1536 + (n - 1024 - 1024), by omega⟩
  else if h3 : (n : ℕ) - 1024 - 1024 - 512 < 256 then f ⟨1024 + (n - 1024 - 1024 - 512), by omega⟩
  else if h4 : (n : ℕ) - 1024 - 1024 - 512 - 256 < 256 then f ⟨1280 + (n - 1024 - 1024 - 512 - 256), by omega⟩
  else if h5 : (n : ℕ) - 1024 - 1024 - 512 - 256 - 256 < 256 then f ⟨2048 + (n - 1024 - 1024 - 512 - 256 - 256), by omega⟩
  else if h6 : (n : ℕ) - 1024 - 1024 - 512 - 256 - 256 - 256 < 64 then f ⟨2304 + (n - 1024 - 1024 - 512 - 256 - 256 - 256), by omega⟩
  else 0

theorem prod_at (a : FVec Ideal S17408x2048 .f32) (w : FVec Ideal S2048x9536 .f32) (r : Fin 17408) (n : Fin 9536) :
    prod a w (ix2 r n) = ∑ d : Fin 2048, (a (ix2 r d) : EReal) * w (ix2 d n) := by
  pointwise [prod]

theorem lay_at (p : FVec Ideal S17408x9536 .f32) (r : Fin 17408) (n : Fin 3584) :
    lay p (ix2 r n) = place (fun j => p (ix2 r j)) n := by
  unfold place
  pointwise [lay]

/-- The reference at a row and a column: the row's product with the column that owns the place. -/
theorem out_at (a : FVec Ideal S17408x2048 .f32) (w : FVec Ideal S2048x9536 .f32) (r : Fin 17408) (n : Fin 3584) :
    out a w (ix2 r n) = place (fun j => ∑ d : Fin 2048, (a (ix2 r d) : EReal) * w (ix2 d j)) n :=
  (lay_at _ r n).trans (congrArg (fun f => place f n) (funext fun j => prod_at a w r j))

/-- The product with the weights laid out is the product laid out. -/
theorem place_mul (a : Fin 2048 → EReal) (w : Fin 2048 → Fin 9536 → EReal) (n : Fin 3584) :
    ∑ d : Fin 2048, a d * place (w d) n = place (fun j => ∑ d : Fin 2048, a d * w d j) n := by
  unfold place
  split_ifs
  all_goals first | rfl | (simp only [mul_zero, Finset.sum_const_zero])

end Cert.Reference6Ideal.Out

namespace Cert.Kernel6Ideal.Inputs

open Cert.Kernel6Ideal Cert.Kernel6Ideal.Gen Idealize.ShloMosaic Idealize.ShloMosaic.TcCoe Idealize.SL.Sem
open Idealize.ShloMosaic.Pipeline (Dat)
open Cert.Reference6Ideal.Out (place place_mul)

section Tile

variable {c : Dev nD} {i : grid0.Coords} {arg2 : Memref sig .tc .vmem S512x2048 .bf16} {harg2 : arg2.IsWhole}
  {arg3 : Memref sig .tc .vmem S2048x1792 .f32} {harg3 : arg3.IsWhole}
  {arg4 : Memref sig .tc .vmem S512x1792 .f32} {harg4 : arg4.IsWhole}
  {arg5 : Memref sig .tc .vmem S2048x1792 .bf16} {harg5 : arg5.IsWhole}
  {x0 : Vec Ideal S512x2048 .bf16} {x1 : Vec Ideal S2048x1792 .f32} {xs : Vec Ideal S2048x1792 .bf16}

/-- At the first row tile the body computes the tile with the weights it has just read. -/
theorem out_first {h : cond0_0 i} :
    out0_A_2 c i arg2 harg2 arg3 harg3 arg4 harg4 arg5 harg5 h x0 x1 = k0_pay2 x0 (k0_pay1 x1) := by
  unfold out0_A_2 kernelRun0_A
  dsimp only
  unfold kernelRun0_A.sl.v5
  refine (View.read_writes_full ..).trans ?_
  refine congrArg₂ k0_pay2 ((View.readAt_full ..).trans (harg2.read_unread x0)) ?_
  refine (View.readCov_full ..).trans (congrArg k0_pay1 ?_)
  exact (View.readAt_full ..).trans (harg3.read_unread x1)

/-- And keeps those weights, rounded, in the scratch. -/
theorem kept_first {h : cond0_0 i} :
    sout0_A_0 c i arg2 harg2 arg3 harg3 arg4 harg4 arg5 harg5 h x0 x1 = k0_pay1 x1 := by
  unfold sout0_A_0 kernelRun0_A
  dsimp only
  refine (View.read_writes_full ..).trans (congrArg k0_pay1 ?_)
  exact (View.readAt_full ..).trans (harg3.read_unread x1)

/-- At a later row tile it computes the tile with the weights the scratch holds. -/
theorem out_later {h : ¬cond0_0 i} :
    out0_B_2 c i arg2 harg2 arg3 harg3 arg4 harg4 arg5 harg5 h x0 x1 xs = k0_pay2 x0 xs := by
  unfold out0_B_2 kernelRun0_B
  dsimp only
  refine (View.read_writes_full ..).trans ?_
  exact congrArg₂ k0_pay2 ((View.readAt_full ..).trans (harg2.read_unread x0)) ((View.readAt_full ..).trans (harg5.read_unread xs))

end Tile

/-- A tile at a row and a column: the row's product with the column. -/
theorem pay2_at (x : Vec Ideal S512x2048 .bf16) (w : Vec Ideal S2048x1792 .bf16) (r : Fin 512) (n : Fin 1792) :
    k0_pay2 x w (ix2 r n) = ∑ d : Fin 2048, (x (ix2 r d) : EReal) * w (ix2 d n) := by
  pointwise [k0_pay2]

theorem pay1_at (w : Vec Ideal S2048x1792 .f32) (d : Fin 2048) (n : Fin 1792) :
    k0_pay1 w (ix2 d n) = (w (ix2 d n) : EReal) := by
  pointwise [k0_pay1]

/-- The blocks a grid point takes: its rows', its columns', and the result's. -/
theorem index_at : ∀ t : Fin grid0.N, win0_0.index t = ![t.val % 34, 0] ∧ win0_1.index t = ![0, t.val / 34] ∧ win0_2.index t = ![t.val % 34, t.val / 34] := by
  decide +kernel

variable (m : (ℓ : Loc nD τ sig) → Buf (Elt Ideal) ℓ)

/-- The arguments: the rows, the weights. -/
abbrev argA (c : Dev nD) : FVec Ideal S17408x2048 .f32 := m ((c : Thread nD τ).loc main_arg0)
abbrev argW (c : Dev nD) : FVec Ideal S2048x9536 .f32 := m ((c : Thread nD τ).loc main_arg1)

theorem v9_at (c : Dev nD) (i : S17408x2048.Idx) : (V m c main_v9 : FVec Ideal S17408x2048 .bf16) i = argA m c i := by
  unfold V
  after_reads_at

set_option maxHeartbeats 2000000 in
/-- The weights as the host lays them out: the columns of the projections in the kept order, then columns of zeros. -/
theorem v8_at (c : Dev nD) (d : Fin 2048) (n : Fin 3584) :
    (V m c main_v8 : FVec Ideal S2048x3584 .f32) (ix2 d n) = place (fun j => argW m c (ix2 d j)) n := by
  unfold V place
  after_reads_at
  split_ifs
  all_goals after_reads_at

theorem iblk0_at (c : Dev nD) (t : Fin cfg0.N) (r : Fin 512) (d : Fin 2048) (R : Fin 17408) (hR : (R : ℕ) = t.val % 34 * 512 + r) :
    (iblk m c 0 t : Vec Ideal S512x2048 .bf16) (ix2 r d) = argA m c (ix2 R d) := by
  refine Eq.trans (congrArg (V m c main_v9 : Vec Ideal S17408x2048 .bf16) (funext fun a => ?_)) (v9_at m c (ix2 R d))
  have e' : ∀ a, win0_0.index t a = ![t.val % 34, 0] a := congrFun (index_at t).1
  fin_cases a
  · apply Fin.ext; show win0_0.index t 0 * 512 + 1 * (r : ℕ) = R; rw [e', hR]; simp
  · apply Fin.ext; show win0_0.index t 1 * 2048 + 1 * (d : ℕ) = d; rw [e']; simp

theorem iblk1_at (c : Dev nD) (t : Fin cfg0.N) (d : Fin 2048) (n : Fin 1792) (N : Fin 3584) (hN : (N : ℕ) = t.val / 34 * 1792 + n) :
    (iblk m c 1 t : Vec Ideal S2048x1792 .f32) (ix2 d n) = place (fun j => argW m c (ix2 d j)) N := by
  refine Eq.trans (congrArg (V m c main_v8 : Vec Ideal S2048x3584 .f32) (funext fun a => ?_)) (v8_at m c d N)
  have e' : ∀ a, win0_1.index t a = ![0, t.val / 34] a := congrFun (index_at t).2.1
  fin_cases a
  · apply Fin.ext; show win0_1.index t 0 * 2048 + 1 * (d : ℕ) = d; rw [e']; simp
  · apply Fin.ext; show win0_1.index t 1 * 1792 + 1 * (n : ℕ) = N; rw [e', hN]; simp

/-- The grid point that reads the weights a point works with: the first row tile of its column tile. -/
abbrev first (n : ℕ) (h : n < cfg0.N) : Fin cfg0.N := ⟨34 * (n / 34), by omega⟩

/-- After every point the scratch holds the weights of the point's column tile. -/
theorem kept (c : Dev nD) : ∀ (n : ℕ) (h : n < cfg0.N), (outsAt0 m c n h).2 = k0_pay1 (iblk m c 1 (first n h)) := by
  intro n
  induction n with
  | zero =>
    intro h
    have e : first 0 h = ⟨0, h⟩ := Fin.ext rfl
    rw [e, outsAt0_A m c ⟨0, h⟩ (Nat.zero_mod 34)]
    dsimp only
    exact kept_first
  | succ k ih =>
    intro h
    by_cases h0 : (k + 1) % 34 = 0
    · have e : first (k + 1) h = ⟨k + 1, h⟩ := Fin.ext (by dsimp only; omega)
      rw [e, outsAt0_A m c ⟨k + 1, h⟩ h0]
      dsimp only
      exact kept_first
    · have e : first (k + 1) h = first k (by omega) := Fin.ext (by dsimp only; omega)
      rw [e, outsAt0_B m c ⟨k + 1, h⟩ h0]
      dsimp only
      unfold sout0_B_0
      exact ih (Nat.lt_of_succ_lt h)

/-- After every point the result's buffer holds the tile of the point's rows with those weights. -/
theorem made (c : Dev nD) (t : Fin cfg0.N) :
    (outsAt0 m c t.val t.isLt).1 = k0_pay2 (iblk m c 0 t) (k0_pay1 (iblk m c 1 (first t.val t.isLt))) := by
  by_cases h0 : t.val % 34 = 0
  · have e : first t.val t.isLt = t := Fin.ext (by dsimp only; omega)
    rw [e, outsAt0_A m c t h0]
    dsimp only
    exact out_first
  · have e : first t.val t.isLt = first (t.val - 1) (by omega) := Fin.ext (by dsimp only; omega)
    rw [e, outsAt0_B m c t h0]
    dsimp only
    refine out_later.trans ?_
    exact congrArg (k0_pay2 (iblk m c 0 t)) (kept m c (t.val - 1) (by omega))

/-- A tile of the result at a row and a column. -/
theorem made_at (c : Dev nD) (t : Fin cfg0.N) (r : Fin 512) (n : Fin 1792) (R : Fin 17408) (N : Fin 3584)
    (hR : (R : ℕ) = t.val % 34 * 512 + r) (hN : (N : ℕ) = t.val / 34 * 1792 + n) :
    (outsAt0 m c t.val t.isLt).1 (ix2 r n) = Cert.Reference6Ideal.Out.out (argA m c) (argW m c) (ix2 R N) := by
  rw [made, Cert.Reference6Ideal.Out.out_at]
  refine (pay2_at _ _ r n).trans (Eq.trans (Finset.sum_congr rfl fun d _ => ?_) (place_mul (fun d : Fin 2048 => argA m c (ix2 R d)) (fun d j => argW m c (ix2 d j)) N))
  refine congrArg₂ (fun a b : EReal => a * b) (iblk0_at m c t r d R hR) ((pay1_at _ d n).trans (iblk1_at m c _ d n N ?_))
  rw [hN]
  dsimp only
  omega

/-- The array the tiles make up is the reference's result. -/
theorem final (c : Dev nD) :
    (dats m 0 c).arrAt 2 cfg0.N = Cert.Reference6Ideal.Out.out (argA m c) (argW m c) := by
  refine (dats m 0 c).arrAt_eq_of_cover 2 (Cert.Reference6Ideal.Out.out (argA m c) (argW m c)) (fun t _ => ?_) (fun i => ?_)
  · rw [Value.flushed2]
    funext y
    obtain ⟨r, n, hy⟩ : ∃ (r : Fin 512) (n : Fin 1792), y = ix2 r n := ⟨y 0, y 1, by funext a; fin_cases a <;> rfl⟩
    subst hy
    have ht : t.val < 68 := lt_of_lt_of_eq t.isLt N_0
    have hr := r.isLt
    have hn := n.isLt
    have e0 : t.val % 34 * 512 + (r : ℕ) < 17408 := by omega
    have e1 : t.val / 34 * 1792 + (n : ℕ) < 3584 := by omega
    refine Eq.trans (show _ = (outsAt0 m c t.val t.isLt).1 (ix2 r n) from rfl) ((made_at m c t r n ⟨_, e0⟩ ⟨_, e1⟩ rfl rfl).trans ?_)
    refine congrArg (Cert.Reference6Ideal.Out.out (argA m c) (argW m c)) (?_ : ix2 (⟨_, e0⟩ : Fin 17408) (⟨_, e1⟩ : Fin 3584) = ((cfg0.win 2).blk t).view.emb (ix2 r n))
    have e' : ∀ a, win0_2.index t a = ![t.val % 34, t.val / 34] a := congrFun (index_at t).2.2
    funext a
    fin_cases a
    · apply Fin.ext; show t.val % 34 * 512 + (r : ℕ) = win0_2.index t 0 * 512 + 1 * (r : ℕ); rw [e']; simp
    · apply Fin.ext; show t.val / 34 * 1792 + (n : ℕ) = win0_2.index t 1 * 1792 + 1 * (n : ℕ); rw [e']; simp
  · have h0 : ((i 0 : Fin 17408) : ℕ) < 17408 := Fin.isLt _
    have h1 : ((i 1 : Fin 3584) : ℕ) < 3584 := Fin.isLt _
    exact (Value.covered_iff2 i).2 ⟨Nat.zero_le _, h0, Nat.zero_le _, h1⟩

end Cert.Kernel6Ideal.Inputs

namespace Cert.Proof.InputsClaims

open Cert.Kernel6Ideal Idealize.ShloMosaic Idealize.ShloMosaic.TcCoe Idealize.SL.Sem
open Cert.Kernel6Ideal.Inputs

/-- The kernel's body and its ideal form's are the same text. -/
theorem body_same : Cert.Kernel6.defs₀ (F := Bits) = defs₀ (F := Bits) := by
  unfold Cert.Kernel6.defs₀ defs₀
  refine congrArg Defs.onTc (funext fun l => ?_)
  match l with
  | ⟨0, _⟩ => exact funext fun args => rfl

/-- So are their body tables with the pipeline. -/
theorem defs_same : Cert.Kernel6.defs (F := Bits) = defs (F := Bits) := congrArg (Pipeline.defs pcfgs) body_same

/-- The kernel returns with its arguments unchanged and its counters at zero. -/
theorem frame_kernel : Cert.quiescent_Kernel6 := fun m ρ _ => by
  rw [defs_same]
  exact Cert.Kernel6Ideal.Gen.frame (F := Bits) m ρ

/-- So does its ideal form. -/
theorem frame_ideal : Cert.quiescent_Kernel6Ideal := fun m ρ _ => Cert.Kernel6Ideal.Gen.frame (F := Ideal) m ρ

/-- So does the reference. -/
theorem frame_ref : Cert.quiescent_Reference6Ideal := fun m ρ _ =>
  (θ_run Cert.Reference6Ideal.defs _ _).mono
    (fun r h => ⟨fun c => (h c).2, Idealize.ShloMosaic.sem_eq_zero_of_no_sems (by decide) r.2⟩) (Cert.Reference6Ideal.Value.run (F := Ideal) m ρ)

/-- From arguments that agree, the kernel and the reference end with the same array. -/
theorem algebraic : Cert.algebraic_Kernel6Ideal_Reference6Ideal := by
  intro m ρ m' ρ' _ ha
  refine ⟨fun c => (Cert.Kernel6Ideal.Gen.dats m 0 c).arrAt 2 cfg0.N, Cert.Kernel6Ideal.Value.run_blocks m ρ, ?_⟩
  refine (θ_run Cert.Reference6Ideal.defs _ _).mono (fun _ h c => ⟨(h c).1.trans ?_, (h c).2⟩) (Cert.Reference6Ideal.Value.run (F := Ideal) m' ρ')
  obtain ⟨h0, h1⟩ := ha c
  obtain rfl : c = 0 := Subsingleton.elim _ _
  refine Eq.trans ?_ (final m 0).symm
  rw [h0, h1]
  rfl

end Cert.Proof.InputsClaims

end
-- ==== Proof.Residual.lean ====
module

public import proofs.«01_k».proof.Proof.Gen.Kernel7
public import proofs.«01_k».proof.Proof.Gen.Kernel7Ideal.Frame
public import proofs.«01_k».proof.Proof.Gen.Reference7Ideal.Run
public import proofs.«01_k».proof.Defs
public import Idealize.ShloMosaic.Lib.Pipeline.Value
public import Idealize.ShloMosaic.Lib.VecWindow
public import Idealize.ShloMosaic.Lib.Pointwise
public import Idealize.ShloMosaic.Lib.StableHlo.ReadAt
public import Idealize.ShloMosaic.Lib.Quiescent

/-! The feed-forward network's second kernel at the ideal instance: a scratch gathers the products of a row tile over the eleven
    blocks of the contracted axis, the last of them writes the rows plus the gated sum, and the array the row tiles make up is
    the reference's. -/

@[expose] public section

set_option maxRecDepth 16384

noncomputable section

namespace Cert.Reference7Ideal.Out

open Cert.Reference7Ideal Cert.Reference7Ideal.Gen Idealize.ShloMosaic Idealize.ShloMosaic.TcCoe Idealize.SL.Sem

/-- The rows' products with the weights. -/
def prod (a : FVec Ideal S17408x5632 .f32) (w : FVec Ideal S1x5632x2048 .f32) : FVec Ideal S17408x2048 .f32 :=
  Host.dotGeneral dot_S17408x5632_S5632x2048_S17408x2048_1_0_0_1_n_n none a (shapeCast _ w shapeCasts_S1x5632x2048_S5632x2048)

/-- Every row's gate: the context's rows take the first, each batch's rows its own. -/
def gates (g : FVec Ideal S8x2048 .f32) : FVec Ideal S17408x2048 .f32 :=
  concatenate S17408x2048 0 [⟨S1024x2048, (broadcastInDim S1024x2048 ![0, 1] bcast_S1x2048_S1024x2048_0_1 (extractStridedSlice S1x2048 ![0, 0] g slices_S8x2048_S1x2048_0_0))⟩,
    ⟨S16384x2048, (shapeCast _ (broadcastInDim S4x4096x2048 ![0, 1, 2] bcast_S4x1x2048_S4x4096x2048_0_1_2 (broadcastInDim S4x1x2048 ![0, 2] bcast_S4x2048_S4x1x2048_0_2
      (extractStridedSlice S4x2048 ![1, 0] g slices_S8x2048_S4x2048_1_0))) shapeCasts_S4x4096x2048_S16384x2048)⟩] concatenates_S1024x2048_S16384x2048_S17408x2048_d0

/-- The reference's result, of its four arguments. -/
def out (a : FVec Ideal S17408x5632 .f32) (w : FVec Ideal S1x5632x2048 .f32) (x : FVec Ideal S17408x2048 .f32) (g : FVec Ideal S8x2048 .f32) :
    FVec Ideal S17408x2048 .f32 := addf x (mulf (gates g) (prod a w))

theorem prod_at (a : FVec Ideal S17408x5632 .f32) (w : FVec Ideal S1x5632x2048 .f32) (r : Fin 17408) (n : Fin 2048) :
    prod a w (ix2 r n) = ∑ d : Fin 5632, (a (ix2 r d) : EReal) * w (ix3 (0 : Fin 1) d n) := by
  pointwise [prod]

theorem gates_at (g : FVec Ideal S8x2048 .f32) (r : Fin 17408) (n : Fin 2048) :
    gates g (ix2 r n) = if h : (r : ℕ) < 1024 then g (ix2 (0 : Fin 8) n) else g (ix2 (⟨1 + (r - 1024) / 4096, by omega⟩ : Fin 8) n) := by
  pointwise [gates]

/-- The reference at a row and a column: the row plus its gate times its product with the column. -/
theorem out_at (a : FVec Ideal S17408x5632 .f32) (w : FVec Ideal S1x5632x2048 .f32) (x : FVec Ideal S17408x2048 .f32) (g : FVec Ideal S8x2048 .f32)
    (r : Fin 17408) (n : Fin 2048) :
    out a w x g (ix2 r n) = (x (ix2 r n) : EReal) + gates g (ix2 r n) * ∑ d : Fin 5632, (a (ix2 r d) : EReal) * w (ix3 (0 : Fin 1) d n) :=
  congrArg (fun z : EReal => (x (ix2 r n) : EReal) + gates g (ix2 r n) * z) (prod_at a w r n)

end Cert.Reference7Ideal.Out

namespace Cert.Kernel7Ideal.Residual

open Cert.Kernel7Ideal Cert.Kernel7Ideal.Gen Idealize.ShloMosaic Idealize.ShloMosaic.TcCoe Idealize.SL.Sem
open Idealize.ShloMosaic.Pipeline (Dat)

section Tile

variable {c : Dev nD} {i : grid0.Coords} {arg2 : Memref sig .tc .vmem S1024x512 .bf16} {harg2 : arg2.IsWhole}
  {arg3 : Memref sig .tc .vmem S512x2048 .bf16} {harg3 : arg3.IsWhole} {arg4 : Memref sig .tc .vmem S1024x2048 .f32} {harg4 : arg4.IsWhole}
  {arg5 : Memref sig .tc .vmem S1x1x2048 .f32} {harg5 : arg5.IsWhole} {arg6 : Memref sig .tc .vmem S1024x2048 .f32} {harg6 : arg6.IsWhole}
  {arg7 : Memref sig .tc .vmem S1024x2048 .f32} {harg7 : arg7.IsWhole}
  {x0 : Vec Ideal S1024x512 .bf16} {x1 : Vec Ideal S512x2048 .bf16} {x2 : Vec Ideal S1024x2048 .f32} {x3 : Vec Ideal S1x1x2048 .f32}
  {xs : Vec Ideal S1024x2048 .f32}

theorem pay2_congr {v v' : Vec Ideal S1024x2048 .f32} {a a' : Vec Ideal S1024x512 .bf16} {b b' : Vec Ideal S512x2048 .bf16}
    (hv : v = v') (ha : a = a') (hb : b = b') : k0_pay2 v a b = k0_pay2 v' a' b' := by
  subst hv ha hb; rfl

theorem pay3_congr {v v' : Vec Ideal S1024x2048 .f32} {g g' : Vec Ideal S1x1x2048 .f32} {b b' : Vec Ideal S1024x2048 .f32}
    (hv : v = v') (hg : g = g') (hb : b = b') : k0_pay3 v g b = k0_pay3 v' g' b' := by
  subst hv hg hb; rfl

/-- At the first block the scratch ends at the block's product, added to zero. -/
theorem sum_first {h : cond0_0 i} {h' : ¬cond0_1 i} :
    sout0_A_0 c i arg2 harg2 arg3 harg3 arg4 harg4 arg5 harg5 arg6 harg6 arg7 harg7 h h' x0 x1 x2 x3 = k0_pay2 (k0_pay1 (F := Ideal)) x0 x1 := by
  unfold sout0_A_0 kernelRun0_A
  dsimp only
  refine (View.read_writes_full ..).trans (pay2_congr ?_ ((View.readAt_full ..).trans (harg2.read_unread x0)) ((View.readAt_full ..).trans (harg3.read_unread x1)))
  unfold kernelRun0_A.sl.v3
  exact View.readCov_full ..

/-- At a later block it ends at what it held plus the block's product. -/
theorem sum_later {h : ¬cond0_0 i} {h' : ¬cond0_1 i} :
    sout0_B_0 c i arg2 harg2 arg3 harg3 arg4 harg4 arg5 harg5 arg6 harg6 arg7 harg7 h h' x0 x1 x2 x3 xs = k0_pay2 xs x0 x1 := by
  unfold sout0_B_0 kernelRun0_B
  dsimp only
  exact (View.read_writes_full ..).trans (pay2_congr ((View.readAt_full ..).trans (harg7.read_unread xs)) ((View.readAt_full ..).trans (harg2.read_unread x0))
    ((View.readAt_full ..).trans (harg3.read_unread x1)))

/-- And at the last one too. -/
theorem sum_last {h : ¬cond0_0 i} {h' : cond0_1 i} :
    sout0_C_0 c i arg2 harg2 arg3 harg3 arg4 harg4 arg5 harg5 arg6 harg6 arg7 harg7 h h' x0 x1 x2 x3 xs = k0_pay2 xs x0 x1 := by
  unfold sout0_C_0 kernelRun0_C
  dsimp only
  unfold kernelRun0_C.sl.HS0_1
  exact (View.read_writes_full ..).trans (pay2_congr ((View.readAt_full ..).trans (harg7.read_unread xs)) ((View.readAt_full ..).trans (harg2.read_unread x0))
    ((View.readAt_full ..).trans (harg3.read_unread x1)))

/-- The last block writes the rows plus the gate times that sum. -/
theorem out_last {h : ¬cond0_0 i} {h' : cond0_1 i} :
    out0_C_4 c i arg2 harg2 arg3 harg3 arg4 harg4 arg5 harg5 arg6 harg6 arg7 harg7 h h' x0 x1 x2 x3 xs = k0_pay3 x2 x3 (k0_pay2 xs x0 x1) := by
  unfold out0_C_4 kernelRun0_C
  dsimp only
  refine (View.read_writes_full ..).trans (pay3_congr ((View.readAt_full ..).trans (harg4.read_unread x2)) ((View.readAt_full ..).trans (harg5.read_unread x3)) ?_)
  unfold kernelRun0_C.sl.v19
  exact (View.readCov_full ..).trans (pay2_congr ((View.readAt_full ..).trans (harg7.read_unread xs)) ((View.readAt_full ..).trans (harg2.read_unread x0))
    ((View.readAt_full ..).trans (harg3.read_unread x1)))

end Tile

theorem pay1_at (r : Fin 1024) (n : Fin 2048) : k0_pay1 (F := Ideal) (ix2 r n) = (0 : EReal) := by
  pointwise [k0_pay1]

theorem pay2_at (v : Vec Ideal S1024x2048 .f32) (x : Vec Ideal S1024x512 .bf16) (w : Vec Ideal S512x2048 .bf16) (r : Fin 1024) (n : Fin 2048) :
    k0_pay2 v x w (ix2 r n) = (v (ix2 r n) : EReal) + ∑ d : Fin 512, (x (ix2 r d) : EReal) * w (ix2 d n) := by
  pointwise [k0_pay2]

theorem pay3_at (x : Vec Ideal S1024x2048 .f32) (g : Vec Ideal S1x1x2048 .f32) (s : Vec Ideal S1024x2048 .f32) (r : Fin 1024) (n : Fin 2048) :
    k0_pay3 x g s (ix2 r n) = (x (ix2 r n) : EReal) + g (ix3 (0 : Fin 1) (0 : Fin 1) n) * s (ix2 r n) := by
  pointwise [k0_pay3]

/-- The gate a row tile takes: the context's tile the first, a batch's four tiles its own. -/
abbrev gateOf (i : ℕ) : ℕ := if i = 0 then 0 else 1 + (i - 1) / 4

/-- The blocks a grid point takes: its rows' and its part of the contracted axis, the weights' part, the rows' own, the gate, and the result's. -/
theorem index_at : ∀ t : Fin grid0.N, win0_0.index t = ![t.val / 11, t.val % 11] ∧ win0_1.index t = ![t.val % 11, 0] ∧ win0_2.index t = ![t.val / 11, 0]
    ∧ win0_3.index t = ![gateOf (t.val / 11), 0, 0] ∧ win0_4.index t = ![t.val / 11, 0] := by
  decide +kernel

variable (m : (ℓ : Loc nD τ sig) → Buf (Elt Ideal) ℓ)

/-- The arguments: the activations, the weights, the rows, the gates. -/
abbrev argA (c : Dev nD) : FVec Ideal S17408x5632 .f32 := m ((c : Thread nD τ).loc main_arg0)
abbrev argW (c : Dev nD) : FVec Ideal S1x5632x2048 .f32 := m ((c : Thread nD τ).loc main_arg1)
abbrev argX (c : Dev nD) : FVec Ideal S17408x2048 .f32 := m ((c : Thread nD τ).loc main_arg2)
abbrev argG (c : Dev nD) : FVec Ideal S8x2048 .f32 := m ((c : Thread nD τ).loc main_arg3)

theorem v0_at (c : Dev nD) (i : S17408x5632.Idx) : (V m c main_v0 : FVec Ideal S17408x5632 .bf16) i = argA m c i := by
  unfold V
  after_reads_at

theorem v2_at (c : Dev nD) (d : Fin 5632) (n : Fin 2048) :
    (V m c main_v2 : FVec Ideal S5632x2048 .bf16) (ix2 d n) = argW m c (ix3 (0 : Fin 1) d n) := by
  unfold V
  after_reads_at

theorem v3_at (c : Dev nD) (b : Fin 8) (n : Fin 2048) :
    (V m c main_v3 : FVec Ideal S8x1x2048 .f32) (ix3 b (0 : Fin 1) n) = argG m c (ix2 b n) := by
  unfold V
  after_reads_at

theorem iblk0_at (c : Dev nD) (t : Fin cfg0.N) (r : Fin 1024) (d : Fin 512) (R : Fin 17408) (D : Fin 5632)
    (hR : (R : ℕ) = t.val / 11 * 1024 + r) (hD : (D : ℕ) = t.val % 11 * 512 + d) :
    (iblk m c 0 t : Vec Ideal S1024x512 .bf16) (ix2 r d) = argA m c (ix2 R D) := by
  refine Eq.trans (congrArg (V m c main_v0 : Vec Ideal S17408x5632 .bf16) (funext fun a => ?_)) (v0_at m c (ix2 R D))
  have e' : ∀ a, win0_0.index t a = ![t.val / 11, t.val % 11] a := congrFun (index_at t).1
  fin_cases a
  · apply Fin.ext; show win0_0.index t 0 * 1024 + 1 * (r : ℕ) = R; rw [e', hR]; simp
  · apply Fin.ext; show win0_0.index t 1 * 512 + 1 * (d : ℕ) = D; rw [e', hD]; simp

theorem iblk1_at (c : Dev nD) (t : Fin cfg0.N) (d : Fin 512) (n : Fin 2048) (D : Fin 5632) (hD : (D : ℕ) = t.val % 11 * 512 + d) :
    (iblk m c 1 t : Vec Ideal S512x2048 .bf16) (ix2 d n) = argW m c (ix3 (0 : Fin 1) D n) := by
  refine Eq.trans (congrArg (V m c main_v2 : Vec Ideal S5632x2048 .bf16) (funext fun a => ?_)) (v2_at m c D n)
  have e' : ∀ a, win0_1.index t a = ![t.val % 11, 0] a := congrFun (index_at t).2.1
  fin_cases a
  · apply Fin.ext; show win0_1.index t 0 * 512 + 1 * (d : ℕ) = D; rw [e', hD]; simp
  · apply Fin.ext; show win0_1.index t 1 * 2048 + 1 * (n : ℕ) = n; rw [e']; simp

theorem iblk2_at (c : Dev nD) (t : Fin cfg0.N) (r : Fin 1024) (n : Fin 2048) (R : Fin 17408) (hR : (R : ℕ) = t.val / 11 * 1024 + r) :
    (iblk m c 2 t : Vec Ideal S1024x2048 .f32) (ix2 r n) = argX m c (ix2 R n) := by
  refine Eq.trans (congrArg (V m c main_arg2 : Vec Ideal S17408x2048 .f32) (funext fun a => ?_)) (congrFun (V_main_arg2 m c) (ix2 R n))
  have e' : ∀ a, win0_2.index t a = ![t.val / 11, 0] a := congrFun (index_at t).2.2.1
  fin_cases a
  · apply Fin.ext; show win0_2.index t 0 * 1024 + 1 * (r : ℕ) = R; rw [e', hR]; simp
  · apply Fin.ext; show win0_2.index t 1 * 2048 + 1 * (n : ℕ) = n; rw [e']; simp

theorem iblk3_at (c : Dev nD) (t : Fin cfg0.N) (n : Fin 2048) (b : Fin 8) (hb : (b : ℕ) = gateOf (t.val / 11)) :
    (iblk m c 3 t : Vec Ideal S1x1x2048 .f32) (ix3 (0 : Fin 1) (0 : Fin 1) n) = argG m c (ix2 b n) := by
  refine Eq.trans (congrArg (V m c main_v3 : Vec Ideal S8x1x2048 .f32) (funext fun a => ?_)) (v3_at m c b n)
  have e' : ∀ a, win0_3.index t a = ![gateOf (t.val / 11), 0, 0] a := congrFun (index_at t).2.2.2.1
  fin_cases a
  · apply Fin.ext; show win0_3.index t 0 * 1 + 1 * 0 = b; rw [e', hb]; simp
  · apply Fin.ext; show win0_3.index t 1 * 1 + 1 * 0 = 0; rw [e']; simp
  · apply Fin.ext; show win0_3.index t 2 * 2048 + 1 * (n : ℕ) = n; rw [e']; simp

/-- The term of a row's product with a column at a place of the contracted axis. -/
def term (c : Dev nD) (R : Fin 17408) (n : Fin 2048) (d : ℕ) : EReal :=
  if h : d < 5632 then (argA m c (ix2 R ⟨d, h⟩) : EReal) * argW m c (ix3 (0 : Fin 1) ⟨d, h⟩ n) else 0

/-- The terms of all places sum to the product. -/
theorem term_sum (c : Dev nD) (R : Fin 17408) (n : Fin 2048) :
    ∑ d ∈ Finset.range 5632, term m c R n d = ∑ d : Fin 5632, (argA m c (ix2 R d) : EReal) * argW m c (ix3 (0 : Fin 1) d n) := by
  rw [Finset.sum_range]
  exact Finset.sum_congr rfl fun d _ => dif_pos d.isLt

/-- One block's step: what a scratch held, plus the terms of the block's places. -/
theorem step_at (c : Dev nD) (t : Fin cfg0.N) (v : Vec Ideal S1024x2048 .f32) (r : Fin 1024) (n : Fin 2048) (R : Fin 17408)
    (hR : (R : ℕ) = t.val / 11 * 1024 + r) :
    k0_pay2 v (iblk m c 0 t) (iblk m c 1 t) (ix2 r n) = (v (ix2 r n) : EReal) + ∑ d ∈ Finset.range 512, term m c R n (512 * (t.val % 11) + d) := by
  refine (pay2_at v _ _ r n).trans (congrArg (fun z : EReal => (v (ix2 r n) : EReal) + z) ?_)
  rw [Finset.sum_range]
  refine Finset.sum_congr rfl fun d _ => ?_
  have hd := d.isLt
  have hD : 512 * (t.val % 11) + (d : ℕ) < 5632 := by omega
  have e : 512 * (t.val % 11) + (d : ℕ) = t.val % 11 * 512 + d := by omega
  exact (congrArg₂ (fun a b : EReal => a * b) (iblk0_at m c t r d R ⟨_, hD⟩ hR e) (iblk1_at m c t d n ⟨_, hD⟩ e)).trans (dif_pos hD : term m c R n _ = _).symm

/-- After every point the scratch holds the sum of the terms of its row tile's blocks so far. -/
theorem held (c : Dev nD) : ∀ (k : ℕ) (h : k < cfg0.N) (r : Fin 1024) (n : Fin 2048) (R : Fin 17408), (R : ℕ) = k / 11 * 1024 + r →
    (outsAt0 m c k h).2 (ix2 r n) = ∑ d ∈ Finset.range (512 * (k % 11 + 1)), term m c R n d := by
  have first : ∀ (k : ℕ) (h : k < cfg0.N) (r : Fin 1024) (n : Fin 2048) (R : Fin 17408), (R : ℕ) = k / 11 * 1024 + r → k % 11 = 0 →
      k0_pay2 (k0_pay1 (F := Ideal)) (iblk m c 0 ⟨k, h⟩) (iblk m c 1 ⟨k, h⟩) (ix2 r n) = ∑ d ∈ Finset.range (512 * (k % 11 + 1)), term m c R n d := by
    intro k h r n R hR h0
    refine (step_at m c ⟨k, h⟩ _ r n R hR).trans ?_
    rw [pay1_at, zero_add]
    dsimp only
    rw [h0]
    exact Finset.sum_congr rfl fun d _ => congrArg (term m c R n) (by omega)
  intro k
  induction k with
  | zero =>
    intro h r n R hR
    rw [outsAt0_A m c ⟨0, h⟩ (Nat.zero_mod 11) (by dsimp only; omega)]
    dsimp only
    rw [sum_first]
    exact first 0 h r n R hR rfl
  | succ k ih =>
    intro h r n R hR
    by_cases h0 : (k + 1) % 11 = 0
    · rw [outsAt0_A m c ⟨k + 1, h⟩ h0 (by dsimp only; omega)]
      dsimp only
      rw [sum_first]
      exact first (k + 1) h r n R hR h0
    · have hk := ih (Nat.lt_of_succ_lt h) r n R (by omega)
      have e : 512 * ((k + 1) % 11 + 1) = 512 * (k % 11 + 1) + 512 := by omega
      have e' : (k + 1) % 11 = k % 11 + 1 := by omega
      have go : k0_pay2 (outsAt0 m c k (Nat.lt_of_succ_lt h)).2 (iblk m c 0 ⟨k + 1, h⟩) (iblk m c 1 ⟨k + 1, h⟩) (ix2 r n)
          = ∑ d ∈ Finset.range (512 * ((k + 1) % 11 + 1)), term m c R n d := by
        refine (step_at m c ⟨k + 1, h⟩ _ r n R hR).trans ?_
        rw [hk, e, Finset.sum_range_add]
        dsimp only
        rw [e']
      by_cases h1 : (k + 1) % 11 = 10
      · rw [outsAt0_C m c ⟨k + 1, h⟩ h0 h1]
        dsimp only
        rw [sum_last]
        exact go
      · rw [outsAt0_B m c ⟨k + 1, h⟩ h0 h1]
        dsimp only
        rw [sum_later]
        exact go

/-- A tile of the result at a row and a column, at the row tile's last point. -/
theorem made_at (c : Dev nD) (t : Fin cfg0.N) (h1 : t.val % 11 = 10) (r : Fin 1024) (n : Fin 2048) (R : Fin 17408) (hR : (R : ℕ) = t.val / 11 * 1024 + r) :
    (outsAt0 m c t.val t.isLt).1 (ix2 r n) = Cert.Reference7Ideal.Out.out (argA m c) (argW m c) (argX m c) (argG m c) (ix2 R n) := by
  have ht : t.val < 187 := lt_of_lt_of_eq t.isLt N_0
  have h0 : ¬t.val % 11 = 0 := by omega
  have hs := held m c t.val t.isLt r n R hR
  rw [outsAt0_C m c t h0 h1] at hs ⊢
  dsimp only at hs ⊢
  rw [sum_last] at hs
  rw [out_last, Cert.Reference7Ideal.Out.out_at, Cert.Reference7Ideal.Out.gates_at]
  refine (pay3_at _ _ _ r n).trans ?_
  rw [hs, h1, iblk2_at m c t r n R hR]
  refine congrArg (fun z : EReal => (argX m c (ix2 R n) : EReal) + z) (congrArg₂ (fun a b : EReal => a * b) ?_ (term_sum m c R n))
  have hr := r.isLt
  by_cases hc : (R : ℕ) < 1024
  · rw [dif_pos hc]
    refine iblk3_at m c t n 0 ?_
    rw [gateOf, if_pos (by omega)]
    rfl
  · rw [dif_neg hc]
    refine iblk3_at m c t n _ ?_
    rw [gateOf, if_neg (by omega)]
    dsimp only
    omega

/-- An index is in a point's row tile when each coordinate is in the tile's range. -/
theorem mem_tile (t : Fin cfg0.N) (i : S17408x2048.Idx) : i ∈ ((cfg0.win 4).blk t).view.set
    ↔ ∀ a : Fin 2, win0_4.index t a * S1024x2048.size a ≤ (i a).val ∧ (i a).val < win0_4.index t a * S1024x2048.size a + S1024x2048.size a := by
  refine Eq.to_iff (?_ : (i ∈ ((View.whole main_v4).slice (win0_4.rect t)).set) = _)
  rw [View.set_slice_whole, Rect.mem_set_unit]
  rfl

/-- The array the row tiles make up is the reference's result. -/
theorem final (c : Dev nD) :
    (dats m 0 c).arrAt 4 cfg0.N = Cert.Reference7Ideal.Out.out (argA m c) (argW m c) (argX m c) (argG m c) := by
  refine (dats m 0 c).arrAt_eq_of_cover 4 (Cert.Reference7Ideal.Out.out (argA m c) (argW m c) (argX m c) (argG m c)) (fun t hf => ?_) (fun i => ?_)
  · have h1 : t.val % 11 = 10 := (flush0_4 t).mp hf
    show (cfg0.win 4).cut (grid0.coords t) ((dats m 0 c).after 4 t) = _
    rw [after0_4]
    funext y
    obtain ⟨r, n, hy⟩ : ∃ (r : Fin 1024) (n : Fin 2048), y = ix2 r n := ⟨y 0, y 1, by funext a; fin_cases a <;> rfl⟩
    subst hy
    have ht : t.val < 187 := lt_of_lt_of_eq t.isLt N_0
    have hr := r.isLt
    have e0 : t.val / 11 * 1024 + (r : ℕ) < 17408 := by omega
    refine Eq.trans (show _ = (outsAt0 m c t.val t.isLt).1 (ix2 r n) from rfl) ((made_at m c t h1 r n ⟨_, e0⟩ rfl).trans ?_)
    refine congrArg (Cert.Reference7Ideal.Out.out (argA m c) (argW m c) (argX m c) (argG m c))
      (?_ : ix2 (⟨_, e0⟩ : Fin 17408) n = ((cfg0.win 4).blk t).view.emb (ix2 r n))
    have e' : ∀ a, win0_4.index t a = ![t.val / 11, 0] a := congrFun (index_at t).2.2.2.2
    funext a
    fin_cases a
    · apply Fin.ext; show t.val / 11 * 1024 + (r : ℕ) = win0_4.index t 0 * 1024 + 1 * (r : ℕ); rw [e']; simp
    · apply Fin.ext; show (n : ℕ) = win0_4.index t 1 * 2048 + 1 * (n : ℕ); rw [e']; simp
  · have h0 : ((i 0 : Fin 17408) : ℕ) < 17408 := Fin.isLt _
    have h1 : ((i 1 : Fin 2048) : ℕ) < 2048 := Fin.isLt _
    have hN : 11 * ((i 0).val / 1024) + 10 < cfg0.N := lt_of_lt_of_eq (by omega) N_0.symm
    refine ⟨⟨11 * ((i 0).val / 1024) + 10, hN⟩, (flush0_4 _).mpr (by dsimp only; omega), ?_⟩
    rw [mem_tile]
    have e' : ∀ a, win0_4.index ⟨11 * ((i 0).val / 1024) + 10, hN⟩ a = ![(11 * ((i 0).val / 1024) + 10) / 11, 0] a := congrFun (index_at ⟨_, hN⟩).2.2.2.2
    intro a
    fin_cases a
    · show win0_4.index ⟨11 * ((i 0).val / 1024) + 10, hN⟩ 0 * 1024 ≤ (i 0).val ∧ (i 0).val < win0_4.index ⟨11 * ((i 0).val / 1024) + 10, hN⟩ 0 * 1024 + 1024
      rw [e']
      dsimp only [Matrix.cons_val_zero]
      omega
    · show win0_4.index ⟨11 * ((i 0).val / 1024) + 10, hN⟩ 1 * 2048 ≤ (i 1).val ∧ (i 1).val < win0_4.index ⟨11 * ((i 0).val / 1024) + 10, hN⟩ 1 * 2048 + 2048
      rw [e']
      simp
      exact h1

/-- The kernel ends with that array in its result and with its arguments as they were. -/
theorem run (ρ : Dev nD → PrngReg) : θ_run defs (onTc (τ := τ) (main (F := Ideal))) ⟨m, fun _ => 0, ρ⟩ fun r => ∀ c : Dev nD,
    r.2.mem ((c : Thread nD τ).loc main_v4) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ⟨(h c).1 4, ?_, ?_, ?_, ?_⟩) (run_main m ρ)
  · exact ((h c).2 main_arg0 (Pipeline.mem_restRefs_of main_arg0 (by decide) (by decide))).trans (V_main_arg0 m c)
  · exact ((h c).2 main_arg1 (Pipeline.mem_restRefs_of main_arg1 (by decide) (by decide))).trans (V_main_arg1 m c)
  · exact ((h c).1 2).trans (((dats m 0 c).arrAt_in 2 rfl _).trans ((A_eq m c 2).trans (V_main_arg2 m c)))
  · exact ((h c).2 main_arg3 (Pipeline.mem_restRefs_of main_arg3 (by decide) (by decide))).trans (V_main_arg3 m c)

end Cert.Kernel7Ideal.Residual

namespace Cert.Proof.ResidualClaims

open Cert.Kernel7Ideal Idealize.ShloMosaic Idealize.ShloMosaic.TcCoe Idealize.SL.Sem
open Cert.Kernel7Ideal.Residual

/-- The kernel's body and its ideal form's are the same text. -/
theorem body_same : Cert.Kernel7.defs₀ (F := Bits) = defs₀ (F := Bits) := by
  unfold Cert.Kernel7.defs₀ defs₀
  refine congrArg Defs.onTc (funext fun l => ?_)
  match l with
  | ⟨0, _⟩ => exact funext fun args => rfl

/-- So are their body tables with the pipeline. -/
theorem defs_same : Cert.Kernel7.defs (F := Bits) = defs (F := Bits) := congrArg (Pipeline.defs pcfgs) body_same

/-- The kernel returns with its arguments unchanged and its counters at zero. -/
theorem frame_kernel : Cert.quiescent_Kernel7 := fun m ρ _ => by
  rw [defs_same]
  exact Cert.Kernel7Ideal.Gen.frame (F := Bits) m ρ

/-- So does its ideal form. -/
theorem frame_ideal : Cert.quiescent_Kernel7Ideal := fun m ρ _ => Cert.Kernel7Ideal.Gen.frame (F := Ideal) m ρ

/-- So does the reference. -/
theorem frame_ref : Cert.quiescent_Reference7Ideal := fun m ρ _ =>
  (θ_run Cert.Reference7Ideal.defs _ _).mono
    (fun r h => ⟨fun c => (h c).2, Idealize.ShloMosaic.sem_eq_zero_of_no_sems (by decide) r.2⟩) (Cert.Reference7Ideal.Value.run (F := Ideal) m ρ)

/-- From arguments that agree, the kernel and the reference end with the same array. -/
theorem algebraic : Cert.algebraic_Kernel7Ideal_Reference7Ideal := by
  intro m ρ m' ρ' _ ha
  refine ⟨fun c => (Cert.Kernel7Ideal.Gen.dats m 0 c).arrAt 4 cfg0.N, Cert.Kernel7Ideal.Residual.run m ρ, ?_⟩
  refine (θ_run Cert.Reference7Ideal.defs _ _).mono (fun _ h c => ⟨(h c).1.trans ?_, (h c).2⟩) (Cert.Reference7Ideal.Value.run (F := Ideal) m' ρ')
  obtain ⟨h0, h1, h2, h3⟩ := ha c
  obtain rfl : c = 0 := Subsingleton.elim _ _
  refine Eq.trans ?_ (final m 0).symm
  rw [h0, h1, h2, h3]
  rfl

end Cert.Proof.ResidualClaims

end
-- ==== Proof.Merge.lean ====
module

public import proofs.«01_k».proof.Proof.Gen.Kernel8
public import proofs.«01_k».proof.Proof.Gen.Kernel8Ideal.Value
public import proofs.«01_k».proof.Proof.Gen.Reference8Ideal.Run
public import proofs.«01_k».proof.Defs
public import Idealize.ShloMosaic.Lib.VecWindow
public import Idealize.ShloMosaic.Lib.Pointwise
public import Idealize.ShloMosaic.Lib.StableHlo.ReadAt
public import Idealize.ShloMosaic.Lib.Quiescent

/-! The merge of the branches at the ideal instance: three scratches keep the branches' weights of the current column tile
    while the row tiles go by, each tile is the gated sum of its rows' products with them, and the array the tiles make up is
    the reference's. -/

@[expose] public section

set_option maxRecDepth 16384

noncomputable section

namespace Cert.Reference8Ideal.Out

open Cert.Reference8Ideal Cert.Reference8Ideal.Gen Idealize.ShloMosaic Idealize.ShloMosaic.TcCoe Idealize.SL.Sem

/-- The branches' rows, one beside the other. -/
def rows (ya yb : FVec Ideal S16384x1024 .f32) (yc : FVec Ideal S17408x1024 .f32) : FVec Ideal S16384x3x1024 .f32 :=
  concatenate S16384x3x1024 1 [⟨S16384x1x1024, (broadcastInDim S16384x1x1024 ![0, 2] bcast_S16384x1024_S16384x1x1024_0_2 ya)⟩,
    ⟨S16384x1x1024, (broadcastInDim S16384x1x1024 ![0, 2] bcast_S16384x1024_S16384x1x1024_0_2 yb)⟩,
    ⟨S16384x1x1024, (broadcastInDim S16384x1x1024 ![0, 2] bcast_S16384x1024_S16384x1x1024_0_2
      (extractStridedSlice S16384x1024 ![1024, 0] yc slices_S17408x1024_S16384x1024_1024_0))⟩] concatenates_S16384x1x1024_S16384x1x1024_S16384x1x1024_S16384x3x1024_d1

/-- Their products with the last layer's weights. -/
def prod (y : FVec Ideal S16384x3x1024 .f32) (w : FVec Ideal S2x3x1024x2048 .f32) : FVec Ideal S3x2048x16384 .f32 :=
  Host.dotGeneral dot_S3x1024x2048_S16384x3x1024_S3x2048x16384_1_2_2_0_0_1 none
    (shapeCast _ (extractStridedSlice S1x3x1024x2048 ![1, 0, 0, 0] w slices_S2x3x1024x2048_S1x3x1024x2048_1_0_0_0) shapeCasts_S1x3x1024x2048_S3x1024x2048) y

/-- The gated products, summed over the branches. -/
def gated (g : FVec Ideal S17408x6144 .f32) (p : FVec Ideal S3x2048x16384 .f32) : FVec Ideal S16384x2048 .bf16 :=
  truncf .bf16 (Host.reduceAdd (mulf (shapeCast _ (extractStridedSlice S16384x6144 ![1024, 0] g slices_S17408x6144_S16384x6144_1024_0)
    shapeCasts_S16384x6144_S16384x3x2048) (transpose S16384x3x2048 [2, 0, 1] p transposes_S3x2048x16384_S16384x3x2048_2_0_1))
    (constant S_ .f32 0x00000000#32) reducesTo_S16384x3x2048_S16384x2048_d1 h_S_) bitsLt_bf16_f32

/-- The reference's result, of its five arguments. -/
def out (ya yb : FVec Ideal S16384x1024 .f32) (yc : FVec Ideal S17408x1024 .f32) (g : FVec Ideal S17408x6144 .f32)
    (w : FVec Ideal S2x3x1024x2048 .f32) : FVec Ideal S16384x2048 .bf16 := gated g (prod (rows ya yb yc) w)

theorem rows_at0 (ya yb : FVec Ideal S16384x1024 .f32) (yc : FVec Ideal S17408x1024 .f32) (r : Fin 16384) (d : Fin 1024) :
    rows ya yb yc (ix3 r (0 : Fin 3) d) = ya (ix2 r d) := by
  pointwise [rows]

theorem rows_at1 (ya yb : FVec Ideal S16384x1024 .f32) (yc : FVec Ideal S17408x1024 .f32) (r : Fin 16384) (d : Fin 1024) :
    rows ya yb yc (ix3 r (1 : Fin 3) d) = yb (ix2 r d) := by
  pointwise [rows]

theorem rows_at2 (ya yb : FVec Ideal S16384x1024 .f32) (yc : FVec Ideal S17408x1024 .f32) (r : Fin 16384) (d : Fin 1024) :
    rows ya yb yc (ix3 r (2 : Fin 3) d) = yc (ix2 (⟨1024 + r, by omega⟩ : Fin 17408) d) := by
  pointwise [rows]

theorem prod_at (y : FVec Ideal S16384x3x1024 .f32) (w : FVec Ideal S2x3x1024x2048 .f32) (k : Fin 3) (n : Fin 2048) (r : Fin 16384) :
    prod y w (ix3 k n r) = ∑ d : Fin 1024, (w (ix4 (1 : Fin 2) k d n) : EReal) * y (ix3 r k d) := by
  pointwise [prod]

theorem gated_at (g : FVec Ideal S17408x6144 .f32) (p : FVec Ideal S3x2048x16384 .f32) (r : Fin 16384) (n : Fin 2048) :
    gated g p (ix2 r n) = ∑ k : Fin 3, (g (ix2 (⟨1024 + r, by omega⟩ : Fin 17408) (⟨k * 2048 + n, by omega⟩ : Fin 6144)) : EReal) * p (ix3 k n r) := by
  pointwise [gated]

/-- One branch's part of the reference's result at a row and a column: the gate times the row's product with the column. -/
def part (y : Fin 1024 → EReal) (g : FVec Ideal S17408x6144 .f32) (w : FVec Ideal S2x3x1024x2048 .f32) (k : Fin 3) (r : Fin 16384) (n : Fin 2048) : EReal :=
  (g (ix2 (⟨1024 + r, by omega⟩ : Fin 17408) (⟨k * 2048 + n, by omega⟩ : Fin 6144)) : EReal) * ∑ d : Fin 1024, y d * w (ix4 (1 : Fin 2) k d n)

/-- The reference at a row and a column: the sum of the three branches' parts. -/
theorem out_at (ya yb : FVec Ideal S16384x1024 .f32) (yc : FVec Ideal S17408x1024 .f32) (g : FVec Ideal S17408x6144 .f32)
    (w : FVec Ideal S2x3x1024x2048 .f32) (r : Fin 16384) (n : Fin 2048) :
    out ya yb yc g w (ix2 r n) = part (fun d => ya (ix2 r d)) g w 0 r n + part (fun d => yb (ix2 r d)) g w 1 r n
      + part (fun d => yc (ix2 (⟨1024 + r, by omega⟩ : Fin 17408) d)) g w 2 r n := by
  refine (gated_at _ _ r n).trans ((Fin.sum_univ_three _).trans ?_)
  refine congrArg₂ (fun a b : EReal => a + b) (congrArg₂ (fun a b : EReal => a + b) ?_ ?_) ?_
  · exact congrArg (fun z : EReal => _ * z) ((prod_at _ w 0 n r).trans (Finset.sum_congr rfl fun d _ => (mul_comm _ _).trans (congrArg (fun z : EReal => z * _) (rows_at0 ya yb yc r d))))
  · exact congrArg (fun z : EReal => _ * z) ((prod_at _ w 1 n r).trans (Finset.sum_congr rfl fun d _ => (mul_comm _ _).trans (congrArg (fun z : EReal => z * _) (rows_at1 ya yb yc r d))))
  · exact congrArg (fun z : EReal => _ * z) ((prod_at _ w 2 n r).trans (Finset.sum_congr rfl fun d _ => (mul_comm _ _).trans (congrArg (fun z : EReal => z * _) (rows_at2 ya yb yc r d))))

end Cert.Reference8Ideal.Out

namespace Cert.Kernel8Ideal.Merge

open Cert.Kernel8Ideal Cert.Kernel8Ideal.Gen Idealize.ShloMosaic Idealize.ShloMosaic.TcCoe Idealize.SL.Sem
open Idealize.ShloMosaic.Pipeline (Dat)
open Cert.Reference8Ideal.Out (part)

section Tile

variable {c : Dev nD} {i : grid0.Coords}
  {arg2 : Memref sig .tc .vmem S512x1024 .bf16} {harg2 : arg2.IsWhole} {arg3 : Memref sig .tc .vmem S512x1024 .bf16} {harg3 : arg3.IsWhole}
  {arg4 : Memref sig .tc .vmem S512x1024 .bf16} {harg4 : arg4.IsWhole} {arg5 : Memref sig .tc .vmem S512x1024 .bf16} {harg5 : arg5.IsWhole}
  {arg6 : Memref sig .tc .vmem S512x1024 .bf16} {harg6 : arg6.IsWhole} {arg7 : Memref sig .tc .vmem S512x1024 .bf16} {harg7 : arg7.IsWhole}
  {arg8 : Memref sig .tc .vmem S1x1x1024x1024 .f32} {harg8 : arg8.IsWhole} {arg9 : Memref sig .tc .vmem S1x1x1024x1024 .f32} {harg9 : arg9.IsWhole}
  {arg10 : Memref sig .tc .vmem S1x1x1024x1024 .f32} {harg10 : arg10.IsWhole} {arg11 : Memref sig .tc .vmem S512x1024 .bf16} {harg11 : arg11.IsWhole}
  {arg12 : Memref sig .tc .vmem S1024x1024 .bf16} {harg12 : arg12.IsWhole} {arg13 : Memref sig .tc .vmem S1024x1024 .bf16} {harg13 : arg13.IsWhole}
  {arg14 : Memref sig .tc .vmem S1024x1024 .bf16} {harg14 : arg14.IsWhole}
  {x0 x1 x2 x3 x4 x5 : Vec Ideal S512x1024 .bf16} {x6 x7 x8 : Vec Ideal S1x1x1024x1024 .f32} {xs0 xs1 xs2 : Vec Ideal S1024x1024 .bf16}

theorem tile_congr {a a' b b' e e' p p' q q' u u' : Vec Ideal S512x1024 .bf16} {f f' g g' h h' : Vec Ideal S1024x1024 .bf16} (ha : a = a') (hb : b = b')
    (hp : p = p') (hf : f = f') (hq : q = q') (hg : g = g') (hu : u = u') (he : e = e') (hh : h = h') :
    k0_pay4 a b p f q g u e h = k0_pay4 a' b' p' f' q' g' u' e' h' := by
  subst ha hb hp hf hq hg hu he hh; rfl

/-- At the first row tile the body computes the tile with the weights it has just read. -/
theorem out_first {h : cond0_0 i} :
    out0_A_9 c i arg2 harg2 arg3 harg3 arg4 harg4 arg5 harg5 arg6 harg6 arg7 harg7 arg8 harg8 arg9 harg9 arg10 harg10 arg11 harg11 arg12 harg12 arg13 harg13 arg14 harg14 h x0 x1 x2 x3 x4 x5 x6 x7 x8 = k0_pay4 x0 x1 x3 (k0_pay1 x6) x4 (k0_pay2 x7) x5 x2 (k0_pay3 x8) := by
  have e0 : kernelRun0_A.sl.v10 (F := Ideal) c arg8 harg8 arg12 x6 = k0_pay1 x6 := by
    unfold kernelRun0_A.sl.v10
    exact (View.readCov_full ..).trans (congrArg k0_pay1 ((View.readAt_full ..).trans (harg8.read_unread x6)))
  have e1 : kernelRun0_A.sl.v16 (F := Ideal) c arg9 harg9 arg13 x7 = k0_pay2 x7 := by
    unfold kernelRun0_A.sl.v16
    exact (View.readCov_full ..).trans (congrArg k0_pay2 ((View.readAt_full ..).trans (harg9.read_unread x7)))
  have e2 : kernelRun0_A.sl.v25 (F := Ideal) c arg10 harg10 arg14 x8 = k0_pay3 x8 := by
    unfold kernelRun0_A.sl.v25
    exact (View.readCov_full ..).trans (congrArg k0_pay3 ((View.readAt_full ..).trans (harg10.read_unread x8)))
  unfold out0_A_9 kernelRun0_A
  dsimp only
  exact (View.read_writes_full ..).trans (tile_congr ((View.readAt_full ..).trans (harg2.read_unread x0)) ((View.readAt_full ..).trans (harg3.read_unread x1))
    ((View.readAt_full ..).trans (harg5.read_unread x3)) e0 ((View.readAt_full ..).trans (harg6.read_unread x4)) e1
    ((View.readAt_full ..).trans (harg7.read_unread x5)) ((View.readAt_full ..).trans (harg4.read_unread x2)) e2)

/-- And keeps the first branch's weights, rounded, in its scratch. -/
theorem kept_first {h : cond0_0 i} :
    sout0_A_0 c i arg2 harg2 arg3 harg3 arg4 harg4 arg5 harg5 arg6 harg6 arg7 harg7 arg8 harg8 arg9 harg9 arg10 harg10 arg11 harg11 arg12 harg12 arg13 harg13 arg14 harg14 h x0 x1 x2 x3 x4 x5 x6 x7 x8 = k0_pay1 x6 := by
  unfold sout0_A_0 kernelRun0_A
  dsimp only
  exact (View.read_writes_full ..).trans (congrArg k0_pay1 ((View.readAt_full ..).trans (harg8.read_unread x6)))

/-- And keeps the second branch's weights, rounded, in its scratch. -/
theorem kept_second {h : cond0_0 i} :
    sout0_A_1 c i arg2 harg2 arg3 harg3 arg4 harg4 arg5 harg5 arg6 harg6 arg7 harg7 arg8 harg8 arg9 harg9 arg10 harg10 arg11 harg11 arg12 harg12 arg13 harg13 arg14 harg14 h x0 x1 x2 x3 x4 x5 x6 x7 x8 = k0_pay2 x7 := by
  unfold sout0_A_1 kernelRun0_A
  dsimp only
  exact (View.read_writes_full ..).trans (congrArg k0_pay2 ((View.readAt_full ..).trans (harg9.read_unread x7)))

/-- And keeps the third branch's weights, rounded, in its scratch. -/
theorem kept_third {h : cond0_0 i} :
    sout0_A_2 c i arg2 harg2 arg3 harg3 arg4 harg4 arg5 harg5 arg6 harg6 arg7 harg7 arg8 harg8 arg9 harg9 arg10 harg10 arg11 harg11 arg12 harg12 arg13 harg13 arg14 harg14 h x0 x1 x2 x3 x4 x5 x6 x7 x8 = k0_pay3 x8 := by
  unfold sout0_A_2 kernelRun0_A
  dsimp only
  exact (View.read_writes_full ..).trans (congrArg k0_pay3 ((View.readAt_full ..).trans (harg10.read_unread x8)))

/-- At a later row tile it computes the tile with the weights the scratches hold. -/
theorem out_later {h : ¬cond0_0 i} :
    out0_B_9 c i arg2 harg2 arg3 harg3 arg4 harg4 arg5 harg5 arg6 harg6 arg7 harg7 arg8 harg8 arg9 harg9 arg10 harg10 arg11 harg11 arg12 harg12 arg13 harg13 arg14 harg14 h x0 x1 x2 x3 x4 x5 x6 x7 x8 xs0 xs1 xs2 = k0_pay4 x0 x1 x3 xs0 x4 xs1 x5 x2 xs2 := by
  unfold out0_B_9 kernelRun0_B
  dsimp only
  exact (View.read_writes_full ..).trans (tile_congr ((View.readAt_full ..).trans (harg2.read_unread x0)) ((View.readAt_full ..).trans (harg3.read_unread x1))
    ((View.readAt_full ..).trans (harg5.read_unread x3)) ((View.readAt_full ..).trans (harg12.read_unread xs0)) ((View.readAt_full ..).trans (harg6.read_unread x4))
    ((View.readAt_full ..).trans (harg13.read_unread xs1)) ((View.readAt_full ..).trans (harg7.read_unread x5)) ((View.readAt_full ..).trans (harg4.read_unread x2))
    ((View.readAt_full ..).trans (harg14.read_unread xs2)))

end Tile

/-- A tile at a row and a column: the sum of the gates times the rows' products with the columns. -/
theorem tile_at (a b e p q u : Vec Ideal S512x1024 .bf16) (f g h : Vec Ideal S1024x1024 .bf16) (r : Fin 512) (n : Fin 1024) :
    k0_pay4 a b p f q g u e h (ix2 r n) = (p (ix2 r n) : EReal) * (∑ d : Fin 1024, (a (ix2 r d) : EReal) * f (ix2 d n))
      + (q (ix2 r n) : EReal) * (∑ d : Fin 1024, (b (ix2 r d) : EReal) * g (ix2 d n)) + (u (ix2 r n) : EReal) * ∑ d : Fin 1024, (e (ix2 r d) : EReal) * h (ix2 d n) := by
  pointwise [k0_pay4]

theorem pay1_at (w : Vec Ideal S1x1x1024x1024 .f32) (d : Fin 1024) (n : Fin 1024) :
    k0_pay1 w (ix2 d n) = (w (ix4 (0 : Fin 1) (0 : Fin 1) d n) : EReal) := by
  pointwise [k0_pay1]

theorem pay2_at (w : Vec Ideal S1x1x1024x1024 .f32) (d : Fin 1024) (n : Fin 1024) :
    k0_pay2 w (ix2 d n) = (w (ix4 (0 : Fin 1) (0 : Fin 1) d n) : EReal) := by
  pointwise [k0_pay2]

theorem pay3_at (w : Vec Ideal S1x1x1024x1024 .f32) (d : Fin 1024) (n : Fin 1024) :
    k0_pay3 w (ix2 d n) = (w (ix4 (0 : Fin 1) (0 : Fin 1) d n) : EReal) := by
  pointwise [k0_pay3]

/-- The blocks a grid point takes: its rows' of the three branches, their gates', their columns', and the result's. -/
theorem index_at : ∀ t : Fin grid0.N, win0_0.index t = ![t.val % 32, 0]
    ∧ win0_1.index t = ![t.val % 32, 0]
    ∧ win0_2.index t = ![t.val % 32 + 2, 0]
    ∧ win0_3.index t = ![t.val % 32 + 2, t.val / 32]
    ∧ win0_4.index t = ![t.val % 32 + 2, 2 + t.val / 32]
    ∧ win0_5.index t = ![t.val % 32 + 2, 4 + t.val / 32]
    ∧ win0_6.index t = ![1, 0, 0, t.val / 32]
    ∧ win0_7.index t = ![1, 1, 0, t.val / 32]
    ∧ win0_8.index t = ![1, 2, 0, t.val / 32]
    ∧ win0_9.index t = ![t.val % 32, t.val / 32] := by
  decide +kernel

variable (m : (ℓ : Loc nD τ sig) → Buf (Elt Ideal) ℓ)

/-- The arguments: the three branches' rows, the gates, the weights. -/
abbrev argA (c : Dev nD) : FVec Ideal S16384x1024 .f32 := m ((c : Thread nD τ).loc main_arg0)
abbrev argB (c : Dev nD) : FVec Ideal S16384x1024 .f32 := m ((c : Thread nD τ).loc main_arg1)
abbrev argC (c : Dev nD) : FVec Ideal S17408x1024 .f32 := m ((c : Thread nD τ).loc main_arg2)
abbrev argG (c : Dev nD) : FVec Ideal S17408x6144 .f32 := m ((c : Thread nD τ).loc main_arg3)
abbrev argW (c : Dev nD) : FVec Ideal S2x3x1024x2048 .f32 := m ((c : Thread nD τ).loc main_arg4)

theorem v0_at (c : Dev nD) (i : S16384x1024.Idx) : (V m c main_v0 : FVec Ideal S16384x1024 .bf16) i = argA m c i := by
  unfold V
  after_reads_at

theorem v1_at (c : Dev nD) (i : S16384x1024.Idx) : (V m c main_v1 : FVec Ideal S16384x1024 .bf16) i = argB m c i := by
  unfold V
  after_reads_at

theorem v2_at (c : Dev nD) (i : S17408x1024.Idx) : (V m c main_v2 : FVec Ideal S17408x1024 .bf16) i = argC m c i := by
  unfold V
  after_reads_at

theorem v3_at (c : Dev nD) (i : S17408x6144.Idx) : (V m c main_v3 : FVec Ideal S17408x6144 .bf16) i = argG m c i := by
  unfold V
  after_reads_at

theorem iblk0_at (c : Dev nD) (t : Fin cfg0.N) (r : Fin 512) (d : Fin 1024) (R : Fin 16384) (hR : (R : ℕ) = t.val % 32 * 512 + r) :
    (iblk m c 0 t : Vec Ideal S512x1024 .bf16) (ix2 r d) = argA m c (ix2 R d) := by
  refine Eq.trans (congrArg (V m c main_v0 : Vec Ideal S16384x1024 .bf16) (funext fun a => ?_)) (v0_at m c (ix2 R d))
  have e' : ∀ a, win0_0.index t a = ![t.val % 32, 0] a := congrFun (index_at t).1
  fin_cases a
  · apply Fin.ext; show win0_0.index t 0 * 512 + 1 * (r : ℕ) = R; rw [e', hR]; simp
  · apply Fin.ext; show win0_0.index t 1 * 1024 + 1 * (d : ℕ) = d; rw [e']; simp

theorem iblk1_at (c : Dev nD) (t : Fin cfg0.N) (r : Fin 512) (d : Fin 1024) (R : Fin 16384) (hR : (R : ℕ) = t.val % 32 * 512 + r) :
    (iblk m c 1 t : Vec Ideal S512x1024 .bf16) (ix2 r d) = argB m c (ix2 R d) := by
  refine Eq.trans (congrArg (V m c main_v1 : Vec Ideal S16384x1024 .bf16) (funext fun a => ?_)) (v1_at m c (ix2 R d))
  have e' : ∀ a, win0_1.index t a = ![t.val % 32, 0] a := congrFun (index_at t).2.1
  fin_cases a
  · apply Fin.ext; show win0_1.index t 0 * 512 + 1 * (r : ℕ) = R; rw [e', hR]; simp
  · apply Fin.ext; show win0_1.index t 1 * 1024 + 1 * (d : ℕ) = d; rw [e']; simp

theorem iblk2_at (c : Dev nD) (t : Fin cfg0.N) (r : Fin 512) (d : Fin 1024) (R : Fin 17408) (hR : (R : ℕ) = (t.val % 32 + 2) * 512 + r) :
    (iblk m c 2 t : Vec Ideal S512x1024 .bf16) (ix2 r d) = argC m c (ix2 R d) := by
  refine Eq.trans (congrArg (V m c main_v2 : Vec Ideal S17408x1024 .bf16) (funext fun a => ?_)) (v2_at m c (ix2 R d))
  have e' : ∀ a, win0_2.index t a = ![t.val % 32 + 2, 0] a := congrFun (index_at t).2.2.1
  fin_cases a
  · apply Fin.ext; show win0_2.index t 0 * 512 + 1 * (r : ℕ) = R; rw [e', hR]; simp
  · apply Fin.ext; show win0_2.index t 1 * 1024 + 1 * (d : ℕ) = d; rw [e']; simp

theorem iblk3_at (c : Dev nD) (t : Fin cfg0.N) (r : Fin 512) (n : Fin 1024) (R : Fin 17408) (N : Fin 6144) (hR : (R : ℕ) = (t.val % 32 + 2) * 512 + r)
    (hN : (N : ℕ) = t.val / 32 * 1024 + n) :
    (iblk m c 3 t : Vec Ideal S512x1024 .bf16) (ix2 r n) = argG m c (ix2 R N) := by
  refine Eq.trans (congrArg (V m c main_v3 : Vec Ideal S17408x6144 .bf16) (funext fun a => ?_)) (v3_at m c (ix2 R N))
  have e' : ∀ a, win0_3.index t a = ![t.val % 32 + 2, t.val / 32] a := congrFun (index_at t).2.2.2.1
  fin_cases a
  · apply Fin.ext; show win0_3.index t 0 * 512 + 1 * (r : ℕ) = R; rw [e', hR]; simp
  · apply Fin.ext; show win0_3.index t 1 * 1024 + 1 * (n : ℕ) = N; rw [e', hN]; simp

theorem iblk4_at (c : Dev nD) (t : Fin cfg0.N) (r : Fin 512) (n : Fin 1024) (R : Fin 17408) (N : Fin 6144) (hR : (R : ℕ) = (t.val % 32 + 2) * 512 + r)
    (hN : (N : ℕ) = (2 + t.val / 32) * 1024 + n) :
    (iblk m c 4 t : Vec Ideal S512x1024 .bf16) (ix2 r n) = argG m c (ix2 R N) := by
  refine Eq.trans (congrArg (V m c main_v3 : Vec Ideal S17408x6144 .bf16) (funext fun a => ?_)) (v3_at m c (ix2 R N))
  have e' : ∀ a, win0_4.index t a = ![t.val % 32 + 2, 2 + t.val / 32] a := congrFun (index_at t).2.2.2.2.1
  fin_cases a
  · apply Fin.ext; show win0_4.index t 0 * 512 + 1 * (r : ℕ) = R; rw [e', hR]; simp
  · apply Fin.ext; show win0_4.index t 1 * 1024 + 1 * (n : ℕ) = N; rw [e', hN]; simp

theorem iblk5_at (c : Dev nD) (t : Fin cfg0.N) (r : Fin 512) (n : Fin 1024) (R : Fin 17408) (N : Fin 6144) (hR : (R : ℕ) = (t.val % 32 + 2) * 512 + r)
    (hN : (N : ℕ) = (4 + t.val / 32) * 1024 + n) :
    (iblk m c 5 t : Vec Ideal S512x1024 .bf16) (ix2 r n) = argG m c (ix2 R N) := by
  refine Eq.trans (congrArg (V m c main_v3 : Vec Ideal S17408x6144 .bf16) (funext fun a => ?_)) (v3_at m c (ix2 R N))
  have e' : ∀ a, win0_5.index t a = ![t.val % 32 + 2, 4 + t.val / 32] a := congrFun (index_at t).2.2.2.2.2.1
  fin_cases a
  · apply Fin.ext; show win0_5.index t 0 * 512 + 1 * (r : ℕ) = R; rw [e', hR]; simp
  · apply Fin.ext; show win0_5.index t 1 * 1024 + 1 * (n : ℕ) = N; rw [e', hN]; simp

theorem iblk6_at (c : Dev nD) (t : Fin cfg0.N) (d : Fin 1024) (n : Fin 1024) (N : Fin 2048) (hN : (N : ℕ) = t.val / 32 * 1024 + n) :
    (iblk m c 6 t : Vec Ideal S1x1x1024x1024 .f32) (ix4 (0 : Fin 1) (0 : Fin 1) d n) = argW m c (ix4 (1 : Fin 2) (0 : Fin 3) d N) := by
  refine Eq.trans (congrArg (V m c main_arg4 : Vec Ideal S2x3x1024x2048 .f32) (funext fun a => ?_)) (congrFun (V_main_arg4 m c) (ix4 (1 : Fin 2) (0 : Fin 3) d N))
  have e' : ∀ a, win0_6.index t a = ![1, 0, 0, t.val / 32] a := congrFun (index_at t).2.2.2.2.2.2.1
  fin_cases a
  · apply Fin.ext; show win0_6.index t 0 * 1 + 1 * 0 = 1; rw [e']; simp
  · apply Fin.ext; show win0_6.index t 1 * 1 + 1 * 0 = 0; rw [e']; simp
  · apply Fin.ext; show win0_6.index t 2 * 1024 + 1 * (d : ℕ) = d; rw [e']; simp
  · apply Fin.ext; show win0_6.index t 3 * 1024 + 1 * (n : ℕ) = N; rw [e', hN]; simp

theorem iblk7_at (c : Dev nD) (t : Fin cfg0.N) (d : Fin 1024) (n : Fin 1024) (N : Fin 2048) (hN : (N : ℕ) = t.val / 32 * 1024 + n) :
    (iblk m c 7 t : Vec Ideal S1x1x1024x1024 .f32) (ix4 (0 : Fin 1) (0 : Fin 1) d n) = argW m c (ix4 (1 : Fin 2) (1 : Fin 3) d N) := by
  refine Eq.trans (congrArg (V m c main_arg4 : Vec Ideal S2x3x1024x2048 .f32) (funext fun a => ?_)) (congrFun (V_main_arg4 m c) (ix4 (1 : Fin 2) (1 : Fin 3) d N))
  have e' : ∀ a, win0_7.index t a = ![1, 1, 0, t.val / 32] a := congrFun (index_at t).2.2.2.2.2.2.2.1
  fin_cases a
  · apply Fin.ext; show win0_7.index t 0 * 1 + 1 * 0 = 1; rw [e']; simp
  · apply Fin.ext; show win0_7.index t 1 * 1 + 1 * 0 = 1; rw [e']; simp
  · apply Fin.ext; show win0_7.index t 2 * 1024 + 1 * (d : ℕ) = d; rw [e']; simp
  · apply Fin.ext; show win0_7.index t 3 * 1024 + 1 * (n : ℕ) = N; rw [e', hN]; simp

theorem iblk8_at (c : Dev nD) (t : Fin cfg0.N) (d : Fin 1024) (n : Fin 1024) (N : Fin 2048) (hN : (N : ℕ) = t.val / 32 * 1024 + n) :
    (iblk m c 8 t : Vec Ideal S1x1x1024x1024 .f32) (ix4 (0 : Fin 1) (0 : Fin 1) d n) = argW m c (ix4 (1 : Fin 2) (2 : Fin 3) d N) := by
  refine Eq.trans (congrArg (V m c main_arg4 : Vec Ideal S2x3x1024x2048 .f32) (funext fun a => ?_)) (congrFun (V_main_arg4 m c) (ix4 (1 : Fin 2) (2 : Fin 3) d N))
  have e' : ∀ a, win0_8.index t a = ![1, 2, 0, t.val / 32] a := congrFun (index_at t).2.2.2.2.2.2.2.2.1
  fin_cases a
  · apply Fin.ext; show win0_8.index t 0 * 1 + 1 * 0 = 1; rw [e']; simp
  · apply Fin.ext; show win0_8.index t 1 * 1 + 1 * 0 = 2; rw [e']; simp
  · apply Fin.ext; show win0_8.index t 2 * 1024 + 1 * (d : ℕ) = d; rw [e']; simp
  · apply Fin.ext; show win0_8.index t 3 * 1024 + 1 * (n : ℕ) = N; rw [e', hN]; simp

/-- The grid point that reads the weights a point works with: the first row tile of its column tile. -/
abbrev first (n : ℕ) (h : n < cfg0.N) : Fin cfg0.N := ⟨32 * (n / 32), by omega⟩

/-- After every point the scratches hold the weights of the point's column tile. -/
theorem kept (c : Dev nD) : ∀ (n : ℕ) (h : n < cfg0.N),
    (outsAt0 m c n h).2.1 = k0_pay1 (iblk m c 6 (first n h)) ∧ (outsAt0 m c n h).2.2.1 = k0_pay2 (iblk m c 7 (first n h))
      ∧ (outsAt0 m c n h).2.2.2 = k0_pay3 (iblk m c 8 (first n h)) := by
  intro n
  induction n with
  | zero =>
    intro h
    have e : first 0 h = ⟨0, h⟩ := Fin.ext rfl
    rw [e, outsAt0_A m c ⟨0, h⟩ (Nat.zero_mod 32)]
    dsimp only
    exact ⟨kept_first, kept_second, kept_third⟩
  | succ k ih =>
    intro h
    by_cases h0 : (k + 1) % 32 = 0
    · have e : first (k + 1) h = ⟨k + 1, h⟩ := Fin.ext (by dsimp only; omega)
      rw [e, outsAt0_A m c ⟨k + 1, h⟩ h0]
      dsimp only
      exact ⟨kept_first, kept_second, kept_third⟩
    · have e : first (k + 1) h = first k (by omega) := Fin.ext (by dsimp only; omega)
      rw [e, outsAt0_B m c ⟨k + 1, h⟩ h0]
      dsimp only
      unfold sout0_B_0 sout0_B_1 sout0_B_2
      exact ih (Nat.lt_of_succ_lt h)

/-- After every point the result's buffer holds the tile of the point's rows with those weights. -/
theorem made (c : Dev nD) (t : Fin cfg0.N) :
    (outsAt0 m c t.val t.isLt).1 = k0_pay4 (iblk m c 0 t) (iblk m c 1 t) (iblk m c 3 t) (k0_pay1 (iblk m c 6 (first t.val t.isLt))) (iblk m c 4 t)
      (k0_pay2 (iblk m c 7 (first t.val t.isLt))) (iblk m c 5 t) (iblk m c 2 t) (k0_pay3 (iblk m c 8 (first t.val t.isLt))) := by
  by_cases h0 : t.val % 32 = 0
  · have e : first t.val t.isLt = t := Fin.ext (by dsimp only; omega)
    rw [e, outsAt0_A m c t h0]
    dsimp only
    exact out_first
  · have e : first t.val t.isLt = first (t.val - 1) (by omega) := Fin.ext (by dsimp only; omega)
    rw [e, outsAt0_B m c t h0]
    dsimp only
    refine out_later.trans ?_
    have hk := kept m c (t.val - 1) (by omega)
    exact tile_congr rfl rfl rfl hk.1 rfl hk.2.1 rfl rfl hk.2.2

/-- The reference's result of the arguments. -/
abbrev want (c : Dev nD) : FVec Ideal S16384x2048 .bf16 := Cert.Reference8Ideal.Out.out (argA m c) (argB m c) (argC m c) (argG m c) (argW m c)

/-- A tile of the result at a row and a column. -/
theorem made_at (c : Dev nD) (t : Fin cfg0.N) (r : Fin 512) (n : Fin 1024) (R : Fin 16384) (N : Fin 2048)
    (hR : (R : ℕ) = t.val % 32 * 512 + r) (hN : (N : ℕ) = t.val / 32 * 1024 + n) :
    (outsAt0 m c t.val t.isLt).1 (ix2 r n) = want m c (ix2 R N) := by
  have hr := r.isLt
  have hN' : (N : ℕ) = (first t.val t.isLt).val / 32 * 1024 + n := by
    rw [hN]
    dsimp only
    omega
  rw [made, want, Cert.Reference8Ideal.Out.out_at]
  refine (tile_at _ _ _ _ _ _ _ _ _ r n).trans ?_
  unfold part
  refine congrArg₂ (fun a b : EReal => a + b) (congrArg₂ (fun a b : EReal => a + b) ?_ ?_) ?_
  · refine congrArg₂ (fun a b : EReal => a * b) (iblk3_at m c t r n _ _ (by dsimp only; omega) (by simp; omega)) (Finset.sum_congr rfl fun d _ => ?_)
    exact congrArg₂ (fun a b : EReal => a * b) (iblk0_at m c t r d R hR) ((pay1_at _ d n).trans (iblk6_at m c _ d n N hN'))
  · refine congrArg₂ (fun a b : EReal => a * b) (iblk4_at m c t r n _ _ (by dsimp only; omega) (by simp; omega)) (Finset.sum_congr rfl fun d _ => ?_)
    exact congrArg₂ (fun a b : EReal => a * b) (iblk1_at m c t r d R hR) ((pay2_at _ d n).trans (iblk7_at m c _ d n N hN'))
  · refine congrArg₂ (fun a b : EReal => a * b) (iblk5_at m c t r n _ _ (by dsimp only; omega) (by simp; omega)) (Finset.sum_congr rfl fun d _ => ?_)
    exact congrArg₂ (fun a b : EReal => a * b) (iblk2_at m c t r d _ (by dsimp only; omega)) ((pay3_at _ d n).trans (iblk8_at m c _ d n N hN'))

/-- The array the tiles make up is the reference's result. -/
theorem final (c : Dev nD) : (dats m 0 c).arrAt 9 cfg0.N = want m c := by
  refine (dats m 0 c).arrAt_eq_of_cover 9 (want m c) (fun t _ => ?_) (fun i => ?_)
  · rw [Value.flushed9]
    funext y
    obtain ⟨r, n, hy⟩ : ∃ (r : Fin 512) (n : Fin 1024), y = ix2 r n := ⟨y 0, y 1, by funext a; fin_cases a <;> rfl⟩
    subst hy
    have ht : t.val < 64 := lt_of_lt_of_eq t.isLt N_0
    have hr := r.isLt
    have hn := n.isLt
    have e0 : t.val % 32 * 512 + (r : ℕ) < 16384 := by omega
    have e1 : t.val / 32 * 1024 + (n : ℕ) < 2048 := by omega
    refine Eq.trans (show _ = (outsAt0 m c t.val t.isLt).1 (ix2 r n) from rfl) ((made_at m c t r n ⟨_, e0⟩ ⟨_, e1⟩ rfl rfl).trans ?_)
    refine congrArg (want m c) (?_ : ix2 (⟨_, e0⟩ : Fin 16384) (⟨_, e1⟩ : Fin 2048) = ((cfg0.win 9).blk t).view.emb (ix2 r n))
    have e' : ∀ a, win0_9.index t a = ![t.val % 32, t.val / 32] a := congrFun (index_at t).2.2.2.2.2.2.2.2.2
    funext a
    fin_cases a
    · apply Fin.ext; show t.val % 32 * 512 + (r : ℕ) = win0_9.index t 0 * 512 + 1 * (r : ℕ); rw [e']; simp
    · apply Fin.ext; show t.val / 32 * 1024 + (n : ℕ) = win0_9.index t 1 * 1024 + 1 * (n : ℕ); rw [e']; simp
  · have h0 : ((i 0 : Fin 16384) : ℕ) < 16384 := Fin.isLt _
    have h1 : ((i 1 : Fin 2048) : ℕ) < 2048 := Fin.isLt _
    exact (Value.covered_iff9 i).2 ⟨Nat.zero_le _, h0, Nat.zero_le _, h1⟩

end Cert.Kernel8Ideal.Merge

namespace Cert.Proof.MergeClaims

open Cert.Kernel8Ideal Idealize.ShloMosaic Idealize.ShloMosaic.TcCoe Idealize.SL.Sem
open Cert.Kernel8Ideal.Merge

/-- The kernel's body and its ideal form's are the same text. -/
theorem body_same : Cert.Kernel8.defs₀ (F := Bits) = defs₀ (F := Bits) := by
  unfold Cert.Kernel8.defs₀ defs₀
  refine congrArg Defs.onTc (funext fun l => ?_)
  match l with
  | ⟨0, _⟩ => exact funext fun args => rfl

/-- So are their body tables with the pipeline. -/
theorem defs_same : Cert.Kernel8.defs (F := Bits) = defs (F := Bits) := congrArg (Pipeline.defs pcfgs) body_same

/-- The kernel returns with its arguments unchanged and its counters at zero. -/
theorem frame_kernel : Cert.quiescent_Kernel8 := fun m ρ _ => by
  rw [defs_same]
  exact Cert.Kernel8Ideal.Gen.frame (F := Bits) m ρ

/-- So does its ideal form. -/
theorem frame_ideal : Cert.quiescent_Kernel8Ideal := fun m ρ _ => Cert.Kernel8Ideal.Gen.frame (F := Ideal) m ρ

/-- So does the reference. -/
theorem frame_ref : Cert.quiescent_Reference8Ideal := fun m ρ _ =>
  (θ_run Cert.Reference8Ideal.defs _ _).mono
    (fun r h => ⟨fun c => (h c).2, Idealize.ShloMosaic.sem_eq_zero_of_no_sems (by decide) r.2⟩) (Cert.Reference8Ideal.Value.run (F := Ideal) m ρ)

/-- From arguments that agree, the kernel and the reference end with the same array. -/
theorem algebraic : Cert.algebraic_Kernel8Ideal_Reference8Ideal := by
  intro m ρ m' ρ' _ ha
  refine ⟨fun c => (Cert.Kernel8Ideal.Gen.dats m 0 c).arrAt 9 cfg0.N, Cert.Kernel8Ideal.Value.run_blocks m ρ, ?_⟩
  refine (θ_run Cert.Reference8Ideal.defs _ _).mono (fun _ h c => ⟨(h c).1.trans ?_, (h c).2⟩) (Cert.Reference8Ideal.Value.run (F := Ideal) m' ρ')
  obtain ⟨h0, h1, h2, h3, h4⟩ := ha c
  obtain rfl : c = 0 := Subsingleton.elim _ _
  refine Eq.trans ?_ (final m 0).symm
  rw [h0, h1, h2, h3, h4]
  rfl

end Cert.Proof.MergeClaims

end
-- ==== Proof.Output.lean ====
module

public import proofs.«01_k».proof.Proof.Gen.Kernel9
public import proofs.«01_k».proof.Proof.Gen.Kernel9Ideal.Value
public import proofs.«01_k».proof.Proof.Gen.Reference9Ideal.Run
public import proofs.«01_k».proof.Defs
public import Idealize.ShloMosaic.Lib.VecWindow
public import Idealize.ShloMosaic.Lib.Pointwise
public import Idealize.ShloMosaic.Lib.StableHlo.ReadAt
public import Idealize.ShloMosaic.Lib.Quiescent

/-! The output projection at the ideal instance: the scratch keeps the weights of the current column tile while the row tiles
    go by, the first row tile adds to the context's rows and the others to the latent rows, each by its own gate, and the array
    the tiles make up is the reference's. -/

@[expose] public section

set_option maxRecDepth 16384

noncomputable section

namespace Cert.Reference9Ideal.Out

open Cert.Reference9Ideal Cert.Reference9Ideal.Gen Idealize.ShloMosaic Idealize.ShloMosaic.TcCoe Idealize.SL.Sem

/-- The rows' products with the first layer's weights. -/
def prod (a : FVec Ideal S17408x2048 .f32) (w : FVec Ideal S2x2048x2048 .f32) : FVec Ideal S17408x2048 .f32 :=
  Host.dotGeneral dot_S17408x2048_S2048x2048_S17408x2048_1_0_0_1_n_n none a
    (shapeCast _ (extractStridedSlice S1x2048x2048 ![0, 0, 0] w slices_S2x2048x2048_S1x2048x2048_0_0_0) shapeCasts_S1x2048x2048_S2048x2048)

/-- The context's rows plus the first gate times their products. -/
def outC (p : FVec Ideal S17408x2048 .f32) (xc : FVec Ideal S4x256x2048 .f32) (g : FVec Ideal S8x2048 .f32) : FVec Ideal S4x256x2048 .f32 :=
  addf xc (mulf (broadcastInDim S4x256x2048 ![0, 1, 2] bcast_S1x1x2048_S4x256x2048_0_1_2 (broadcastInDim S1x1x2048 ![2] bcast_S2048_S1x1x2048_2
    (shapeCast _ (extractStridedSlice S1x2048 ![0, 0] g slices_S8x2048_S1x2048_0_0) shapeCasts_S1x2048_S2048)))
    (shapeCast _ (extractStridedSlice S1024x2048 ![0, 0] p slices_S17408x2048_S1024x2048_0_0) shapeCasts_S1024x2048_S4x256x2048))

/-- The latent rows plus their batch's gate times their products. -/
def outL (p : FVec Ideal S17408x2048 .f32) (xl : FVec Ideal S4x4096x2048 .f32) (g : FVec Ideal S8x2048 .f32) : FVec Ideal S4x4096x2048 .f32 :=
  addf xl (mulf (broadcastInDim S4x4096x2048 ![0, 1, 2] bcast_S4x1x2048_S4x4096x2048_0_1_2 (broadcastInDim S4x1x2048 ![0, 2] bcast_S4x2048_S4x1x2048_0_2
    (extractStridedSlice S4x2048 ![1, 0] g slices_S8x2048_S4x2048_1_0)))
    (shapeCast _ (extractStridedSlice S16384x2048 ![1024, 0] p slices_S17408x2048_S16384x2048_1024_0) shapeCasts_S16384x2048_S4x4096x2048))

/-- The two, one after the other. -/
def both (yc : FVec Ideal S4x256x2048 .f32) (yl : FVec Ideal S4x4096x2048 .f32) : FVec Ideal S17408x2048 .f32 :=
  concatenate S17408x2048 0 [⟨S1024x2048, (shapeCast _ yc shapeCasts_S4x256x2048_S1024x2048)⟩,
    ⟨S16384x2048, (shapeCast _ yl shapeCasts_S4x4096x2048_S16384x2048)⟩] concatenates_S1024x2048_S16384x2048_S17408x2048_d0

/-- The reference's result, of its five arguments. -/
def out (a : FVec Ideal S17408x2048 .f32) (w : FVec Ideal S2x2048x2048 .f32) (xc : FVec Ideal S4x256x2048 .f32) (xl : FVec Ideal S4x4096x2048 .f32)
    (g : FVec Ideal S8x2048 .f32) : FVec Ideal S17408x2048 .f32 := both (outC (prod a w) xc g) (outL (prod a w) xl g)

theorem prod_at (a : FVec Ideal S17408x2048 .f32) (w : FVec Ideal S2x2048x2048 .f32) (r : Fin 17408) (n : Fin 2048) :
    prod a w (ix2 r n) = ∑ d : Fin 2048, (a (ix2 r d) : EReal) * w (ix3 (0 : Fin 2) d n) := by
  pointwise [prod]

theorem outC_at (p : FVec Ideal S17408x2048 .f32) (xc : FVec Ideal S4x256x2048 .f32) (g : FVec Ideal S8x2048 .f32) (b : Fin 4) (s : Fin 256) (n : Fin 2048) :
    outC p xc g (ix3 b s n) = (xc (ix3 b s n) : EReal) + g (ix2 (0 : Fin 8) n) * p (ix2 (⟨b * 256 + s, by omega⟩ : Fin 17408) n) := by
  pointwise [outC]

theorem outL_at (p : FVec Ideal S17408x2048 .f32) (xl : FVec Ideal S4x4096x2048 .f32) (g : FVec Ideal S8x2048 .f32) (b : Fin 4) (s : Fin 4096) (n : Fin 2048) :
    outL p xl g (ix3 b s n) = (xl (ix3 b s n) : EReal) + g (ix2 (⟨1 + b, by omega⟩ : Fin 8) n) * p (ix2 (⟨1024 + (b * 4096 + s), by omega⟩ : Fin 17408) n) := by
  pointwise [outL]

theorem both_at (yc : FVec Ideal S4x256x2048 .f32) (yl : FVec Ideal S4x4096x2048 .f32) (r : Fin 17408) (n : Fin 2048) :
    both yc yl (ix2 r n) = if h : (r : ℕ) < 1024 then yc (ix3 (⟨r / 256, by omega⟩ : Fin 4) (⟨r % 256, by omega⟩ : Fin 256) n)
      else yl (ix3 (⟨(r - 1024) / 4096, by omega⟩ : Fin 4) (⟨(r - 1024) % 4096, by omega⟩ : Fin 4096) n) := by
  pointwise [both]

/-- The row a row of the result adds to. -/
def row (xc : FVec Ideal S4x256x2048 .f32) (xl : FVec Ideal S4x4096x2048 .f32) (r : Fin 17408) (n : Fin 2048) : EReal :=
  if h : (r : ℕ) < 1024 then xc (ix3 (⟨r / 256, by omega⟩ : Fin 4) (⟨r % 256, by omega⟩ : Fin 256) n)
  else xl (ix3 (⟨(r - 1024) / 4096, by omega⟩ : Fin 4) (⟨(r - 1024) % 4096, by omega⟩ : Fin 4096) n)

/-- The gate it takes. -/
def gate (g : FVec Ideal S8x2048 .f32) (r : Fin 17408) (n : Fin 2048) : EReal :=
  if h : (r : ℕ) < 1024 then g (ix2 (0 : Fin 8) n) else g (ix2 (⟨1 + (r - 1024) / 4096, by omega⟩ : Fin 8) n)

/-- The reference at a row and a column: the row plus its gate times its product with the column. -/
theorem out_at (a : FVec Ideal S17408x2048 .f32) (w : FVec Ideal S2x2048x2048 .f32) (xc : FVec Ideal S4x256x2048 .f32) (xl : FVec Ideal S4x4096x2048 .f32)
    (g : FVec Ideal S8x2048 .f32) (r : Fin 17408) (n : Fin 2048) :
    out a w xc xl g (ix2 r n) = row xc xl r n + gate g r n * ∑ d : Fin 2048, (a (ix2 r d) : EReal) * w (ix3 (0 : Fin 2) d n) := by
  refine (both_at _ _ r n).trans ?_
  unfold row gate
  have hr := r.isLt
  by_cases h : (r : ℕ) < 1024
  · rw [dif_pos h, dif_pos h, dif_pos h, outC_at]
    refine congrArg (fun z : EReal => (xc _ : EReal) + g _ * z) ((congrArg (fun R : Fin 17408 => prod a w (ix2 R n)) (Fin.ext ?_)).trans (prod_at a w r n))
    dsimp only
    omega
  · rw [dif_neg h, dif_neg h, dif_neg h, outL_at]
    refine congrArg (fun z : EReal => (xl _ : EReal) + g _ * z) ((congrArg (fun R : Fin 17408 => prod a w (ix2 R n)) (Fin.ext ?_)).trans (prod_at a w r n))
    dsimp only
    omega

end Cert.Reference9Ideal.Out

namespace Cert.Kernel9Ideal.Output

open Cert.Kernel9Ideal Cert.Kernel9Ideal.Gen Idealize.ShloMosaic Idealize.ShloMosaic.TcCoe Idealize.SL.Sem
open Idealize.ShloMosaic.Pipeline (Dat)
open Cert.Reference9Ideal.Out (row gate)

section Tile

variable {c : Dev nD} {i : grid0.Coords} {arg2 : Memref sig .tc .vmem S1024x2048 .bf16} {harg2 : arg2.IsWhole}
  {arg3 : Memref sig .tc .vmem S1x2048x1024 .f32} {harg3 : arg3.IsWhole} {arg4 : Memref sig .tc .vmem S1024x1024 .f32} {harg4 : arg4.IsWhole}
  {arg5 : Memref sig .tc .vmem S1024x1024 .f32} {harg5 : arg5.IsWhole} {arg6 : Memref sig .tc .vmem S1x1x1024 .f32} {harg6 : arg6.IsWhole}
  {arg7 : Memref sig .tc .vmem S1024x1024 .f32} {harg7 : arg7.IsWhole} {arg8 : Memref sig .tc .vmem S2048x1024 .bf16} {harg8 : arg8.IsWhole}
  {x0 : Vec Ideal S1024x2048 .bf16} {x1 : Vec Ideal S1x2048x1024 .f32} {x2 x3 : Vec Ideal S1024x1024 .f32} {x4 : Vec Ideal S1x1x1024 .f32}
  {xs : Vec Ideal S2048x1024 .bf16}

theorem pay2_congr {a a' : Vec Ideal S1024x2048 .bf16} {w w' : Vec Ideal S2048x1024 .bf16} {u u' v v' : Vec Ideal S1024x1024 .f32}
    {g g' : Vec Ideal S1x1x1024 .f32} (ha : a = a') (hw : w = w') (hu : u = u') (hv : v = v') (hg : g = g') :
    k0_pay2 i a w u v g = k0_pay2 i a' w' u' v' g' := by
  subst ha hw hu hv hg; rfl

/-- At the first row tile the body computes the tile with the weights it has just read. -/
theorem out_first {h : cond0_0 i} :
    out0_A_5 c i arg2 harg2 arg3 harg3 arg4 harg4 arg5 harg5 arg6 harg6 arg7 harg7 arg8 harg8 h x0 x1 x2 x3 x4 = k0_pay2 i x0 (k0_pay1 x1) x2 x3 x4 := by
  unfold out0_A_5 kernelRun0_A
  dsimp only
  unfold kernelRun0_A.sl.v5
  refine (View.read_writes_full ..).trans (pay2_congr ((View.readAt_full ..).trans (harg2.read_unread x0)) ?_ ((View.readAt_full ..).trans (harg4.read_unread x2))
    ((View.readAt_full ..).trans (harg5.read_unread x3)) ((View.readAt_full ..).trans (harg6.read_unread x4)))
  refine (View.readCov_full ..).trans (congrArg k0_pay1 ?_)
  exact (View.readAt_full ..).trans (harg3.read_unread x1)

/-- And keeps those weights, rounded, in the scratch. -/
theorem kept_first {h : cond0_0 i} :
    sout0_A_0 c i arg2 harg2 arg3 harg3 arg4 harg4 arg5 harg5 arg6 harg6 arg7 harg7 arg8 harg8 h x0 x1 x2 x3 x4 = k0_pay1 x1 := by
  unfold sout0_A_0 kernelRun0_A
  dsimp only
  refine (View.read_writes_full ..).trans (congrArg k0_pay1 ?_)
  exact (View.readAt_full ..).trans (harg3.read_unread x1)

/-- At a later row tile it computes the tile with the weights the scratch holds. -/
theorem out_later {h : ¬cond0_0 i} :
    out0_B_5 c i arg2 harg2 arg3 harg3 arg4 harg4 arg5 harg5 arg6 harg6 arg7 harg7 arg8 harg8 h x0 x1 x2 x3 x4 xs = k0_pay2 i x0 xs x2 x3 x4 := by
  unfold out0_B_5 kernelRun0_B
  dsimp only
  exact (View.read_writes_full ..).trans (pay2_congr ((View.readAt_full ..).trans (harg2.read_unread x0)) ((View.readAt_full ..).trans (harg8.read_unread xs))
    ((View.readAt_full ..).trans (harg4.read_unread x2)) ((View.readAt_full ..).trans (harg5.read_unread x3)) ((View.readAt_full ..).trans (harg6.read_unread x4)))

end Tile

/-- A tile over the rows it adds to. -/
def tile (x : Vec Ideal S1024x2048 .bf16) (w : Vec Ideal S2048x1024 .bf16) (y : Vec Ideal S1024x1024 .f32) (g : Vec Ideal S1x1x1024 .f32) :
    FVec Ideal S1024x1024 .f32 :=
  addf y (mulf (broadcastTo S1024x1024 (shapeCast S1x1024 g shapeCasts_S1x1x1024_S1x1024 : FVec Ideal S1x1024 .f32) broadcasts_S1x1024_S1024x1024)
    (matmul (F := Ideal) (φ₁ := .bf16) (φ₂ := .bf16) dot_S1024x2048_S2048x1024_S1024x1024_1_0_0_1_n_n none (shapeCast S1024x2048 x shapeCasts_S1024x2048_S1024x2048 : FVec Ideal S1024x2048 .bf16) (w : FVec Ideal S2048x1024 .bf16)
      (constant S1024x1024 .f32 0x00000000#32)))

theorem tile_at (x : Vec Ideal S1024x2048 .bf16) (w : Vec Ideal S2048x1024 .bf16) (y : Vec Ideal S1024x1024 .f32) (g : Vec Ideal S1x1x1024 .f32)
    (r : Fin 1024) (n : Fin 1024) :
    tile x w y g (ix2 r n) = (y (ix2 r n) : EReal) + g (ix3 (0 : Fin 1) (0 : Fin 1) n) * ∑ d : Fin 2048, (x (ix2 r d) : EReal) * w (ix2 d n) := by
  pointwise [tile]

theorem cast_same (y : Vec Ideal S1024x1024 .f32) (r : Fin 1024) (n : Fin 1024) :
    (shapeCast S1024x1024 y shapeCasts_S1024x1024_S1024x1024 : FVec Ideal S1024x1024 .f32) (ix2 r n) = y (ix2 r n) := by
  pointwise []

/-- Whether a grid point is at the context's row tile. -/
theorem at_context : ∀ t : Fin grid0.N, Scalar.cmpi .slt (BitVec.ofNat 32 ((grid0.coords t) 1).val) 1#32 = if t.val % 17 = 0 then 1#1 else 0#1 := by
  decide +kernel

/-- A tile at a row and a column: the context's row or the latent row, plus the gate times the row's product with the column. -/
theorem pay2_at (t : Fin grid0.N) (x : Vec Ideal S1024x2048 .bf16) (w : Vec Ideal S2048x1024 .bf16) (u v : Vec Ideal S1024x1024 .f32) (g : Vec Ideal S1x1x1024 .f32)
    (r : Fin 1024) (n : Fin 1024) :
    k0_pay2 (grid0.coords t) x w u v g (ix2 r n) = (if t.val % 17 = 0 then (u (ix2 r n) : EReal) else v (ix2 r n))
      + g (ix3 (0 : Fin 1) (0 : Fin 1) n) * ∑ d : Fin 2048, (x (ix2 r d) : EReal) * w (ix2 d n) := by
  refine Eq.trans (show _ = tile x w (Scalar.select (Scalar.cmpi .slt (BitVec.ofNat 32 ((grid0.coords t) 1).val) 1#32)
    (shapeCast S1024x1024 u shapeCasts_S1024x1024_S1024x1024) (shapeCast S1024x1024 v shapeCasts_S1024x1024_S1024x1024)) g (ix2 r n) from rfl) ?_
  rw [tile_at, at_context]
  by_cases h : t.val % 17 = 0
  · rw [if_pos h, if_pos h]
    exact congrArg (fun z : EReal => z + _) (cast_same u r n)
  · rw [if_neg h, if_neg h]
    exact congrArg (fun z : EReal => z + _) (cast_same v r n)

theorem pay1_at (w : Vec Ideal S1x2048x1024 .f32) (d : Fin 2048) (n : Fin 1024) :
    k0_pay1 w (ix2 d n) = (w (ix3 (0 : Fin 1) d n) : EReal) := by
  pointwise [k0_pay1]

/-- The gate a row tile takes: the context's tile the first, a batch's four tiles its own. -/
abbrev gateOf (i : ℕ) : ℕ := if i = 0 then 0 else 1 + (i - 1) / 4

/-- The blocks a grid point takes: its rows', its columns', the context's, the latent rows', the gate's, and the result's. -/
theorem index_at : ∀ t : Fin grid0.N, win0_0.index t = ![t.val % 17, 0] ∧ win0_1.index t = ![0, 0, t.val / 17] ∧ win0_2.index t = ![0, t.val / 17]
    ∧ win0_3.index t = ![t.val % 17 - 1, t.val / 17] ∧ win0_4.index t = ![gateOf (t.val % 17), 0, t.val / 17] ∧ win0_5.index t = ![t.val % 17, t.val / 17] := by
  decide +kernel

variable (m : (ℓ : Loc nD τ sig) → Buf (Elt Ideal) ℓ)

/-- The arguments: the mixed rows, the weights, the context's rows, the latent rows, the gates. -/
abbrev argA (c : Dev nD) : FVec Ideal S17408x2048 .f32 := m ((c : Thread nD τ).loc main_arg0)
abbrev argW (c : Dev nD) : FVec Ideal S2x2048x2048 .f32 := m ((c : Thread nD τ).loc main_arg1)
abbrev argC (c : Dev nD) : FVec Ideal S4x256x2048 .f32 := m ((c : Thread nD τ).loc main_arg2)
abbrev argX (c : Dev nD) : FVec Ideal S4x4096x2048 .f32 := m ((c : Thread nD τ).loc main_arg3)
abbrev argG (c : Dev nD) : FVec Ideal S8x2048 .f32 := m ((c : Thread nD τ).loc main_arg4)

theorem v3_at (c : Dev nD) (i : S17408x2048.Idx) : (V m c main_v3 : FVec Ideal S17408x2048 .bf16) i = argA m c i := by
  unfold V
  after_reads_at

theorem v0_at (c : Dev nD) (r : Fin 1024) (n : Fin 2048) :
    (V m c main_v0 : FVec Ideal S1024x2048 .f32) (ix2 r n) = argC m c (ix3 (⟨r / 256, by omega⟩ : Fin 4) (⟨r % 256, by omega⟩ : Fin 256) n) := by
  unfold V
  after_reads_at

theorem v1_at (c : Dev nD) (r : Fin 16384) (n : Fin 2048) :
    (V m c main_v1 : FVec Ideal S16384x2048 .f32) (ix2 r n) = argX m c (ix3 (⟨r / 4096, by omega⟩ : Fin 4) (⟨r % 4096, by omega⟩ : Fin 4096) n) := by
  unfold V
  after_reads_at

theorem v2_at (c : Dev nD) (b : Fin 8) (n : Fin 2048) :
    (V m c main_v2 : FVec Ideal S8x1x2048 .f32) (ix3 b (0 : Fin 1) n) = argG m c (ix2 b n) := by
  unfold V
  after_reads_at

theorem iblk0_at (c : Dev nD) (t : Fin cfg0.N) (r : Fin 1024) (d : Fin 2048) (R : Fin 17408) (hR : (R : ℕ) = t.val % 17 * 1024 + r) :
    (iblk m c 0 t : Vec Ideal S1024x2048 .bf16) (ix2 r d) = argA m c (ix2 R d) := by
  refine Eq.trans (congrArg (V m c main_v3 : Vec Ideal S17408x2048 .bf16) (funext fun a => ?_)) (v3_at m c (ix2 R d))
  have e' : ∀ a, win0_0.index t a = ![t.val % 17, 0] a := congrFun (index_at t).1
  fin_cases a
  · apply Fin.ext; show win0_0.index t 0 * 1024 + 1 * (r : ℕ) = R; rw [e', hR]; simp
  · apply Fin.ext; show win0_0.index t 1 * 2048 + 1 * (d : ℕ) = d; rw [e']; simp

theorem iblk1_at (c : Dev nD) (t : Fin cfg0.N) (d : Fin 2048) (n : Fin 1024) (N : Fin 2048) (hN : (N : ℕ) = t.val / 17 * 1024 + n) :
    (iblk m c 1 t : Vec Ideal S1x2048x1024 .f32) (ix3 (0 : Fin 1) d n) = argW m c (ix3 (0 : Fin 2) d N) := by
  refine Eq.trans (congrArg (V m c main_arg1 : Vec Ideal S2x2048x2048 .f32) (funext fun a => ?_)) (congrFun (V_main_arg1 m c) (ix3 (0 : Fin 2) d N))
  have e' : ∀ a, win0_1.index t a = ![0, 0, t.val / 17] a := congrFun (index_at t).2.1
  fin_cases a
  · apply Fin.ext; show win0_1.index t 0 * 1 + 1 * 0 = 0; rw [e']; simp
  · apply Fin.ext; show win0_1.index t 1 * 2048 + 1 * (d : ℕ) = d; rw [e']; simp
  · apply Fin.ext; show win0_1.index t 2 * 1024 + 1 * (n : ℕ) = N; rw [e', hN]; simp

theorem iblk2_at (c : Dev nD) (t : Fin cfg0.N) (r : Fin 1024) (n : Fin 1024) (N : Fin 2048) (hN : (N : ℕ) = t.val / 17 * 1024 + n) :
    (iblk m c 2 t : Vec Ideal S1024x1024 .f32) (ix2 r n) = argC m c (ix3 (⟨r / 256, by omega⟩ : Fin 4) (⟨r % 256, by omega⟩ : Fin 256) N) := by
  refine Eq.trans (congrArg (V m c main_v0 : Vec Ideal S1024x2048 .f32) (funext fun a => ?_)) (v0_at m c r N)
  have e' : ∀ a, win0_2.index t a = ![0, t.val / 17] a := congrFun (index_at t).2.2.1
  fin_cases a
  · apply Fin.ext; show win0_2.index t 0 * 1024 + 1 * (r : ℕ) = r; rw [e']; simp
  · apply Fin.ext; show win0_2.index t 1 * 1024 + 1 * (n : ℕ) = N; rw [e', hN]; simp

theorem iblk3_at (c : Dev nD) (t : Fin cfg0.N) (r : Fin 1024) (n : Fin 1024) (R : Fin 16384) (N : Fin 2048) (hR : (R : ℕ) = (t.val % 17 - 1) * 1024 + r)
    (hN : (N : ℕ) = t.val / 17 * 1024 + n) :
    (iblk m c 3 t : Vec Ideal S1024x1024 .f32) (ix2 r n) = argX m c (ix3 (⟨R / 4096, by omega⟩ : Fin 4) (⟨R % 4096, by omega⟩ : Fin 4096) N) := by
  refine Eq.trans (congrArg (V m c main_v1 : Vec Ideal S16384x2048 .f32) (funext fun a => ?_)) (v1_at m c R N)
  have e' : ∀ a, win0_3.index t a = ![t.val % 17 - 1, t.val / 17] a := congrFun (index_at t).2.2.2.1
  fin_cases a
  · apply Fin.ext; show win0_3.index t 0 * 1024 + 1 * (r : ℕ) = R; rw [e', hR]; simp
  · apply Fin.ext; show win0_3.index t 1 * 1024 + 1 * (n : ℕ) = N; rw [e', hN]; simp

theorem iblk4_at (c : Dev nD) (t : Fin cfg0.N) (n : Fin 1024) (b : Fin 8) (N : Fin 2048) (hb : (b : ℕ) = gateOf (t.val % 17)) (hN : (N : ℕ) = t.val / 17 * 1024 + n) :
    (iblk m c 4 t : Vec Ideal S1x1x1024 .f32) (ix3 (0 : Fin 1) (0 : Fin 1) n) = argG m c (ix2 b N) := by
  refine Eq.trans (congrArg (V m c main_v2 : Vec Ideal S8x1x2048 .f32) (funext fun a => ?_)) (v2_at m c b N)
  have e' : ∀ a, win0_4.index t a = ![gateOf (t.val % 17), 0, t.val / 17] a := congrFun (index_at t).2.2.2.2.1
  fin_cases a
  · apply Fin.ext; show win0_4.index t 0 * 1 + 1 * 0 = b; rw [e', hb]; simp
  · apply Fin.ext; show win0_4.index t 1 * 1 + 1 * 0 = 0; rw [e']; simp
  · apply Fin.ext; show win0_4.index t 2 * 1024 + 1 * (n : ℕ) = N; rw [e', hN]; simp

/-- The grid point that reads the weights a point works with: the first row tile of its column tile. -/
abbrev first (n : ℕ) (h : n < cfg0.N) : Fin cfg0.N := ⟨17 * (n / 17), by omega⟩

/-- After every point the scratch holds the weights of the point's column tile. -/
theorem kept (c : Dev nD) : ∀ (n : ℕ) (h : n < cfg0.N), (outsAt0 m c n h).2 = k0_pay1 (iblk m c 1 (first n h)) := by
  intro n
  induction n with
  | zero =>
    intro h
    have e : first 0 h = ⟨0, h⟩ := Fin.ext rfl
    rw [e, outsAt0_A m c ⟨0, h⟩ (Nat.zero_mod 17)]
    dsimp only
    exact kept_first
  | succ k ih =>
    intro h
    by_cases h0 : (k + 1) % 17 = 0
    · have e : first (k + 1) h = ⟨k + 1, h⟩ := Fin.ext (by dsimp only; omega)
      rw [e, outsAt0_A m c ⟨k + 1, h⟩ h0]
      dsimp only
      exact kept_first
    · have e : first (k + 1) h = first k (by omega) := Fin.ext (by dsimp only; omega)
      rw [e, outsAt0_B m c ⟨k + 1, h⟩ h0]
      dsimp only
      unfold sout0_B_0
      exact ih (Nat.lt_of_succ_lt h)

/-- After every point the result's buffer holds the tile of the point's rows with those weights. -/
theorem made (c : Dev nD) (t : Fin cfg0.N) :
    (outsAt0 m c t.val t.isLt).1 = k0_pay2 (grid0.coords t) (iblk m c 0 t) (k0_pay1 (iblk m c 1 (first t.val t.isLt))) (iblk m c 2 t) (iblk m c 3 t) (iblk m c 4 t) := by
  by_cases h0 : t.val % 17 = 0
  · have e : first t.val t.isLt = t := Fin.ext (by dsimp only; omega)
    rw [e, outsAt0_A m c t h0]
    dsimp only
    exact out_first
  · have e : first t.val t.isLt = first (t.val - 1) (by omega) := Fin.ext (by dsimp only; omega)
    rw [e, outsAt0_B m c t h0]
    dsimp only
    refine out_later.trans ?_
    exact pay2_congr rfl (kept m c (t.val - 1) (by omega)) rfl rfl rfl

/-- The reference's result of the arguments. -/
abbrev want (c : Dev nD) : FVec Ideal S17408x2048 .f32 := Cert.Reference9Ideal.Out.out (argA m c) (argW m c) (argC m c) (argX m c) (argG m c)

/-- A tile of the result at a row and a column. -/
theorem made_at (c : Dev nD) (t : Fin cfg0.N) (r : Fin 1024) (n : Fin 1024) (R : Fin 17408) (N : Fin 2048)
    (hR : (R : ℕ) = t.val % 17 * 1024 + r) (hN : (N : ℕ) = t.val / 17 * 1024 + n) :
    (outsAt0 m c t.val t.isLt).1 (ix2 r n) = want m c (ix2 R N) := by
  have hr := r.isLt
  rw [made, want, Cert.Reference9Ideal.Out.out_at]
  refine (pay2_at t _ _ _ _ _ r n).trans (congrArg₂ (fun a b : EReal => a + b) ?_ (congrArg₂ (fun a b : EReal => a * b) ?_ (Finset.sum_congr rfl fun d _ => ?_)))
  · unfold row
    by_cases h : t.val % 17 = 0
    · rw [if_pos h, dif_pos (by omega), iblk2_at m c t r n N hN]
      have e : (r : ℕ) = R := by omega
      simp only [e]
    · have hR' : (R : ℕ) - 1024 < 16384 := by omega
      rw [if_neg h, dif_neg (by omega)]
      exact iblk3_at m c t r n ⟨(R : ℕ) - 1024, hR'⟩ N (by dsimp only; omega) hN
  · unfold gate
    by_cases h : t.val % 17 = 0
    · rw [dif_pos (by omega)]
      refine iblk4_at m c t n 0 N ?_ hN
      rw [gateOf, if_pos h]
      rfl
    · rw [dif_neg (by omega)]
      refine iblk4_at m c t n _ N ?_ hN
      rw [gateOf, if_neg h]
      dsimp only
      omega
  · refine congrArg₂ (fun a b : EReal => a * b) (iblk0_at m c t r d R hR) ((pay1_at _ d n).trans (iblk1_at m c _ d n N ?_))
    rw [hN]
    dsimp only
    omega

/-- The array the tiles make up is the reference's result. -/
theorem final (c : Dev nD) : (dats m 0 c).arrAt 5 cfg0.N = want m c := by
  refine (dats m 0 c).arrAt_eq_of_cover 5 (want m c) (fun t _ => ?_) (fun i => ?_)
  · rw [Value.flushed5]
    funext y
    obtain ⟨r, n, hy⟩ : ∃ (r : Fin 1024) (n : Fin 1024), y = ix2 r n := ⟨y 0, y 1, by funext a; fin_cases a <;> rfl⟩
    subst hy
    have ht : t.val < 34 := lt_of_lt_of_eq t.isLt N_0
    have hr := r.isLt
    have hn := n.isLt
    have e0 : t.val % 17 * 1024 + (r : ℕ) < 17408 := by omega
    have e1 : t.val / 17 * 1024 + (n : ℕ) < 2048 := by omega
    refine Eq.trans (show _ = (outsAt0 m c t.val t.isLt).1 (ix2 r n) from rfl) ((made_at m c t r n ⟨_, e0⟩ ⟨_, e1⟩ rfl rfl).trans ?_)
    refine congrArg (want m c) (?_ : ix2 (⟨_, e0⟩ : Fin 17408) (⟨_, e1⟩ : Fin 2048) = ((cfg0.win 5).blk t).view.emb (ix2 r n))
    have e' : ∀ a, win0_5.index t a = ![t.val % 17, t.val / 17] a := congrFun (index_at t).2.2.2.2.2
    funext a
    fin_cases a
    · apply Fin.ext; show t.val % 17 * 1024 + (r : ℕ) = win0_5.index t 0 * 1024 + 1 * (r : ℕ); rw [e']; simp
    · apply Fin.ext; show t.val / 17 * 1024 + (n : ℕ) = win0_5.index t 1 * 1024 + 1 * (n : ℕ); rw [e']; simp
  · have h0 : ((i 0 : Fin 17408) : ℕ) < 17408 := Fin.isLt _
    have h1 : ((i 1 : Fin 2048) : ℕ) < 2048 := Fin.isLt _
    exact (Value.covered_iff5 i).2 ⟨Nat.zero_le _, h0, Nat.zero_le _, h1⟩

end Cert.Kernel9Ideal.Output

namespace Cert.Proof.OutputClaims

open Cert.Kernel9Ideal Idealize.ShloMosaic Idealize.ShloMosaic.TcCoe Idealize.SL.Sem
open Cert.Kernel9Ideal.Output

/-- The kernel's body and its ideal form's are the same text. -/
theorem body_same : Cert.Kernel9.defs₀ (F := Bits) = defs₀ (F := Bits) := by
  unfold Cert.Kernel9.defs₀ defs₀
  refine congrArg Defs.onTc (funext fun l => ?_)
  match l with
  | ⟨0, _⟩ => exact funext fun args => rfl

/-- So are their body tables with the pipeline. -/
theorem defs_same : Cert.Kernel9.defs (F := Bits) = defs (F := Bits) := congrArg (Pipeline.defs pcfgs) body_same

/-- The kernel returns with its arguments unchanged and its counters at zero. -/
theorem frame_kernel : Cert.quiescent_Kernel9 := fun m ρ _ => by
  rw [defs_same]
  exact Cert.Kernel9Ideal.Gen.frame (F := Bits) m ρ

/-- So does its ideal form. -/
theorem frame_ideal : Cert.quiescent_Kernel9Ideal := fun m ρ _ => Cert.Kernel9Ideal.Gen.frame (F := Ideal) m ρ

/-- So does the reference. -/
theorem frame_ref : Cert.quiescent_Reference9Ideal := fun m ρ _ =>
  (θ_run Cert.Reference9Ideal.defs _ _).mono
    (fun r h => ⟨fun c => (h c).2, Idealize.ShloMosaic.sem_eq_zero_of_no_sems (by decide) r.2⟩) (Cert.Reference9Ideal.Value.run (F := Ideal) m ρ)

/-- From arguments that agree, the kernel and the reference end with the same array. -/
theorem algebraic : Cert.algebraic_Kernel9Ideal_Reference9Ideal := by
  intro m ρ m' ρ' _ ha
  refine ⟨fun c => (Cert.Kernel9Ideal.Gen.dats m 0 c).arrAt 5 cfg0.N, Cert.Kernel9Ideal.Value.run_blocks m ρ, ?_⟩
  refine (θ_run Cert.Reference9Ideal.defs _ _).mono (fun _ h c => ⟨(h c).1.trans ?_, (h c).2⟩) (Cert.Reference9Ideal.Value.run (F := Ideal) m' ρ')
  obtain ⟨h0, h1, h2, h3, h4⟩ := ha c
  obtain rfl : c = 0 := Subsingleton.elim _ _
  refine Eq.trans ?_ (final m 0).symm
  rw [h0, h1, h2, h3, h4]
  rfl

end Cert.Proof.OutputClaims

end
-- ==== Proof.Unit.lean ====
module

public import proofs.«01_k».proof.Proof.Gates
public import proofs.«01_k».proof.Proof.Gen.Kernel10
public import proofs.«01_k».proof.Proof.Gen.Kernel10Ideal.Value
public import proofs.«01_k».proof.Proof.Gen.Reference10Ideal.Run
public import proofs.«01_k».proof.Defs
public import Idealize.ShloMosaic.Lib.VecWindow
public import Idealize.ShloMosaic.Lib.Pointwise
public import Idealize.ShloMosaic.Lib.StableHlo.ReadAt
public import Idealize.ShloMosaic.Lib.Quiescent

/-! The state-space branch's gated linear unit at the ideal instance: two scratches keep the two halves of the weights while
    the row tiles go by, each tile is the first product with its bias times the logistic function of the second with its own,
    and the array the tiles make up is the reference's. -/

@[expose] public section

set_option maxRecDepth 16384

noncomputable section

namespace Cert.Reference10Ideal.Out

open Cert.Reference10Ideal Cert.Reference10Ideal.Gen Idealize.ShloMosaic Idealize.ShloMosaic.TcCoe Idealize.SL.Sem
open Cert.Reference2Ideal.Out (one)
open Cert.Reference4Ideal.Out (logi)

/-- The rows' products with the first layer's weights, and the bias. -/
def affine (a : FVec Ideal S17408x1024 .f32) (w : FVec Ideal S2x1024x2048 .f32) (b : FVec Ideal S2x2048 .f32) : FVec Ideal S17408x2048 .f32 :=
  addf (Host.dotGeneral dot_S17408x1024_S1024x2048_S17408x2048_1_0_0_1_n_n none a
    (shapeCast _ (extractStridedSlice S1x1024x2048 ![0, 0, 0] w slices_S2x1024x2048_S1x1024x2048_0_0_0) shapeCasts_S1x1024x2048_S1024x2048))
    (broadcastInDim S17408x2048 ![0, 1] bcast_S1x2048_S17408x2048_0_1 (broadcastInDim S1x2048 ![1] bcast_S2048_S1x2048_1
      (shapeCast _ (extractStridedSlice S1x2048 ![0, 0] b slices_S2x2048_S1x2048_0_0) shapeCasts_S1x2048_S2048)))

/-- The logistic function of an array. -/
def sig (x : FVec Ideal S17408x1024 .f32) : FVec Ideal S17408x1024 .f32 :=
  Host.divf (broadcastInDim S17408x1024 ![] bcast_S_S17408x1024 (constant S_ .f32 0x3F800000#32))
    (addf (broadcastInDim S17408x1024 ![] bcast_S_S17408x1024 (constant S_ .f32 0x3F800000#32)) (Host.exp (Host.negf x)))

/-- The reference's result, of its three arguments. -/
def out (a : FVec Ideal S17408x1024 .f32) (w : FVec Ideal S2x1024x2048 .f32) (b : FVec Ideal S2x2048 .f32) : FVec Ideal S17408x1024 .bf16 :=
  truncf .bf16 (mulf (extractStridedSlice S17408x1024 ![0, 0] (affine a w b) slices_S17408x2048_S17408x1024_0_0)
    (sig (extractStridedSlice S17408x1024 ![0, 1024] (affine a w b) slices_S17408x2048_S17408x1024_0_1024))) bitsLt_bf16_f32

theorem affine_at (a : FVec Ideal S17408x1024 .f32) (w : FVec Ideal S2x1024x2048 .f32) (b : FVec Ideal S2x2048 .f32) (r : Fin 17408) (n : Fin 2048) :
    affine a w b (ix2 r n) = (∑ d : Fin 1024, (a (ix2 r d) : EReal) * w (ix3 (0 : Fin 2) d n)) + b (ix2 (0 : Fin 2) n) := by
  pointwise [affine]

theorem sig_at (x : FVec Ideal S17408x1024 .f32) (r : Fin 17408) (n : Fin 1024) :
    sig x (ix2 r n) = logi (x (ix2 r n)) := by
  have e1 : broadcastInDim S17408x1024 ![] bcast_S_S17408x1024 (constant (F := Ideal) S_ .f32 0x3F800000#32) (ix2 r n) = (1 : EReal) := one
  show Ideal.div (broadcastInDim S17408x1024 ![] bcast_S_S17408x1024 (constant (F := Ideal) S_ .f32 0x3F800000#32) (ix2 r n))
    (broadcastInDim S17408x1024 ![] bcast_S_S17408x1024 (constant (F := Ideal) S_ .f32 0x3F800000#32) (ix2 r n) + Ideal.exp (-x (ix2 r n))) = _
  rw [e1]
  rfl

theorem low_at (x : FVec Ideal S17408x2048 .f32) (r : Fin 17408) (n : Fin 1024) :
    extractStridedSlice S17408x1024 ![0, 0] x slices_S17408x2048_S17408x1024_0_0 (ix2 r n) = x (ix2 r (⟨n, by omega⟩ : Fin 2048)) := by
  pointwise []

theorem high_at (x : FVec Ideal S17408x2048 .f32) (r : Fin 17408) (n : Fin 1024) :
    extractStridedSlice S17408x1024 ![0, 1024] x slices_S17408x2048_S17408x1024_0_1024 (ix2 r n) = x (ix2 r (⟨1024 + n, by omega⟩ : Fin 2048)) := by
  pointwise []

/-- The reference at a row and a column: the first product with its bias times the logistic function of the second with its own. -/
theorem out_at (a : FVec Ideal S17408x1024 .f32) (w : FVec Ideal S2x1024x2048 .f32) (b : FVec Ideal S2x2048 .f32) (r : Fin 17408) (n : Fin 1024) :
    out a w b (ix2 r n) = ((∑ d : Fin 1024, (a (ix2 r d) : EReal) * w (ix3 (0 : Fin 2) d (⟨n, by omega⟩ : Fin 2048))) + b (ix2 (0 : Fin 2) (⟨n, by omega⟩ : Fin 2048)))
      * logi ((∑ d : Fin 1024, (a (ix2 r d) : EReal) * w (ix3 (0 : Fin 2) d (⟨1024 + n, by omega⟩ : Fin 2048))) + b (ix2 (0 : Fin 2) (⟨1024 + n, by omega⟩ : Fin 2048))) := by
  refine Eq.trans (show _ = (extractStridedSlice S17408x1024 ![0, 0] (affine a w b) slices_S17408x2048_S17408x1024_0_0 (ix2 r n) : EReal)
    * sig (extractStridedSlice S17408x1024 ![0, 1024] (affine a w b) slices_S17408x2048_S17408x1024_0_1024) (ix2 r n) from rfl) ?_
  rw [sig_at, low_at, high_at, affine_at, affine_at]

end Cert.Reference10Ideal.Out

namespace Cert.Kernel10Ideal.Unit

open Cert.Kernel10Ideal Cert.Kernel10Ideal.Gen Idealize.ShloMosaic Idealize.ShloMosaic.TcCoe Idealize.SL.Sem
open Idealize.ShloMosaic.Pipeline (Dat)
open Cert.Reference4Ideal.Out (logi)

section Tile

variable {c : Dev nD} {i : grid0.Coords}
  {arg2 : Memref sig .tc .vmem S1024x1024 .f32} {harg2 : arg2.IsWhole} {arg3 : Memref sig .tc .vmem S1x1024x1024 .f32} {harg3 : arg3.IsWhole}
  {arg4 : Memref sig .tc .vmem S1x1024x1024 .f32} {harg4 : arg4.IsWhole} {arg5 : Memref sig .tc .vmem S1x1x1024 .f32} {harg5 : arg5.IsWhole}
  {arg6 : Memref sig .tc .vmem S1x1x1024 .f32} {harg6 : arg6.IsWhole} {arg7 : Memref sig .tc .vmem S1024x1024 .bf16} {harg7 : arg7.IsWhole}
  {arg8 : Memref sig .tc .vmem S1024x1024 .bf16} {harg8 : arg8.IsWhole} {arg9 : Memref sig .tc .vmem S1024x1024 .bf16} {harg9 : arg9.IsWhole}
  {x0 : Vec Ideal S1024x1024 .f32} {x1 x2 : Vec Ideal S1x1024x1024 .f32} {x3 x4 : Vec Ideal S1x1x1024 .f32} {xs0 xs1 : Vec Ideal S1024x1024 .bf16}

theorem tile_congr {a a' : Vec Ideal S1024x1024 .f32} {f f' g g' : Vec Ideal S1024x1024 .bf16} {p p' q q' : Vec Ideal S1x1x1024 .f32}
    (ha : a = a') (hf : f = f') (hg : g = g') (hp : p = p') (hq : q = q') : k0_pay3 a f g p q = k0_pay3 a' f' g' p' q' := by
  subst ha hf hg hp hq; rfl

/-- At the first row tile the body computes the tile with the weights it has just read. -/
theorem out_first {h : cond0_0 i} :
    out0_A_5 c i arg2 harg2 arg3 harg3 arg4 harg4 arg5 harg5 arg6 harg6 arg7 harg7 arg8 harg8 arg9 harg9 h x0 x1 x2 x3 x4 = k0_pay3 x0 (k0_pay1 x1) (k0_pay2 x2) x3 x4 := by
  have e0 : kernelRun0_A.sl.v5 (F := Ideal) c arg3 harg3 arg8 x1 = k0_pay1 x1 := by
    unfold kernelRun0_A.sl.v5
    exact (View.readCov_full ..).trans (congrArg k0_pay1 ((View.readAt_full ..).trans (harg3.read_unread x1)))
  have e1 : kernelRun0_A.sl.v7 (F := Ideal) c arg4 harg4 arg9 x2 = k0_pay2 x2 := by
    unfold kernelRun0_A.sl.v7
    exact (View.readCov_full ..).trans (congrArg k0_pay2 ((View.readAt_full ..).trans (harg4.read_unread x2)))
  unfold out0_A_5 kernelRun0_A
  dsimp only
  exact (View.read_writes_full ..).trans (tile_congr ((View.readAt_full ..).trans (harg2.read_unread x0)) e0 e1
    ((View.readAt_full ..).trans (harg5.read_unread x3)) ((View.readAt_full ..).trans (harg6.read_unread x4)))

/-- And keeps the first half's weights, rounded, in the first scratch. -/
theorem kept_first {h : cond0_0 i} :
    sout0_A_0 c i arg2 harg2 arg3 harg3 arg4 harg4 arg5 harg5 arg6 harg6 arg7 harg7 arg8 harg8 arg9 harg9 h x0 x1 x2 x3 x4 = k0_pay1 x1 := by
  unfold sout0_A_0 kernelRun0_A
  dsimp only
  exact (View.read_writes_full ..).trans (congrArg k0_pay1 ((View.readAt_full ..).trans (harg3.read_unread x1)))

/-- And the second half's, rounded, in the second. -/
theorem kept_second {h : cond0_0 i} :
    sout0_A_1 c i arg2 harg2 arg3 harg3 arg4 harg4 arg5 harg5 arg6 harg6 arg7 harg7 arg8 harg8 arg9 harg9 h x0 x1 x2 x3 x4 = k0_pay2 x2 := by
  unfold sout0_A_1 kernelRun0_A
  dsimp only
  exact (View.read_writes_full ..).trans (congrArg k0_pay2 ((View.readAt_full ..).trans (harg4.read_unread x2)))

/-- At a later row tile it computes the tile with the weights the scratches hold. -/
theorem out_later {h : ¬cond0_0 i} :
    out0_B_5 c i arg2 harg2 arg3 harg3 arg4 harg4 arg5 harg5 arg6 harg6 arg7 harg7 arg8 harg8 arg9 harg9 h x0 x1 x2 x3 x4 xs0 xs1 = k0_pay3 x0 xs0 xs1 x3 x4 := by
  unfold out0_B_5 kernelRun0_B
  dsimp only
  exact (View.read_writes_full ..).trans (tile_congr ((View.readAt_full ..).trans (harg2.read_unread x0)) ((View.readAt_full ..).trans (harg8.read_unread xs0))
    ((View.readAt_full ..).trans (harg9.read_unread xs1)) ((View.readAt_full ..).trans (harg5.read_unread x3)) ((View.readAt_full ..).trans (harg6.read_unread x4)))

end Tile

/-- A tile at a row and a column. -/
theorem tile_at (a : Vec Ideal S1024x1024 .f32) (f g : Vec Ideal S1024x1024 .bf16) (p q : Vec Ideal S1x1x1024 .f32) (r : Fin 1024) (n : Fin 1024) :
    k0_pay3 a f g p q (ix2 r n) = ((∑ d : Fin 1024, (a (ix2 r d) : EReal) * f (ix2 d n)) + p (ix3 (0 : Fin 1) (0 : Fin 1) n))
      * logi ((∑ d : Fin 1024, (a (ix2 r d) : EReal) * g (ix2 d n)) + q (ix3 (0 : Fin 1) (0 : Fin 1) n)) := by
  pointwise [k0_pay3]
  rw [zero_sub]
  rfl

theorem pay1_at (w : Vec Ideal S1x1024x1024 .f32) (d : Fin 1024) (n : Fin 1024) :
    k0_pay1 w (ix2 d n) = (w (ix3 (0 : Fin 1) d n) : EReal) := by
  pointwise [k0_pay1]

theorem pay2_at (w : Vec Ideal S1x1024x1024 .f32) (d : Fin 1024) (n : Fin 1024) :
    k0_pay2 w (ix2 d n) = (w (ix3 (0 : Fin 1) d n) : EReal) := by
  pointwise [k0_pay2]

/-- The blocks a grid point takes: its rows', the two halves' of the weights and of the bias, and the result's. -/
theorem index_at : ∀ t : Fin grid0.N, win0_0.index t = ![t.val % 17, 0] ∧ win0_1.index t = ![0, 0, 0] ∧ win0_2.index t = ![0, 0, 1]
    ∧ win0_3.index t = ![0, 0, 0] ∧ win0_4.index t = ![0, 0, 1] ∧ win0_5.index t = ![t.val % 17, 0] := by
  decide +kernel

variable (m : (ℓ : Loc nD τ sig) → Buf (Elt Ideal) ℓ)

/-- The arguments: the rows, the weights, the bias. -/
abbrev argA (c : Dev nD) : FVec Ideal S17408x1024 .f32 := m ((c : Thread nD τ).loc main_arg0)
abbrev argW (c : Dev nD) : FVec Ideal S2x1024x2048 .f32 := m ((c : Thread nD τ).loc main_arg1)
abbrev argB (c : Dev nD) : FVec Ideal S2x2048 .f32 := m ((c : Thread nD τ).loc main_arg2)

theorem v0_at (c : Dev nD) (l : Fin 2) (n : Fin 2048) :
    (V m c main_v0 : FVec Ideal S2x1x2048 .f32) (ix3 l (0 : Fin 1) n) = argB m c (ix2 l n) := by
  unfold V
  after_reads_at

theorem iblk0_at (c : Dev nD) (t : Fin cfg0.N) (r : Fin 1024) (d : Fin 1024) (R : Fin 17408) (hR : (R : ℕ) = t.val % 17 * 1024 + r) :
    (iblk m c 0 t : Vec Ideal S1024x1024 .f32) (ix2 r d) = argA m c (ix2 R d) := by
  refine Eq.trans (congrArg (V m c main_arg0 : Vec Ideal S17408x1024 .f32) (funext fun a => ?_)) (congrFun (V_main_arg0 m c) (ix2 R d))
  have e' : ∀ a, win0_0.index t a = ![t.val % 17, 0] a := congrFun (index_at t).1
  fin_cases a
  · apply Fin.ext; show win0_0.index t 0 * 1024 + 1 * (r : ℕ) = R; rw [e', hR]; simp
  · apply Fin.ext; show win0_0.index t 1 * 1024 + 1 * (d : ℕ) = d; rw [e']; simp

theorem iblk1_at (c : Dev nD) (t : Fin cfg0.N) (d : Fin 1024) (n : Fin 1024) (N : Fin 2048) (hN : (N : ℕ) = n) :
    (iblk m c 1 t : Vec Ideal S1x1024x1024 .f32) (ix3 (0 : Fin 1) d n) = argW m c (ix3 (0 : Fin 2) d N) := by
  refine Eq.trans (congrArg (V m c main_arg1 : Vec Ideal S2x1024x2048 .f32) (funext fun a => ?_)) (congrFun (V_main_arg1 m c) (ix3 (0 : Fin 2) d N))
  have e' : ∀ a, win0_1.index t a = ![0, 0, 0] a := congrFun (index_at t).2.1
  fin_cases a
  · apply Fin.ext; show win0_1.index t 0 * 1 + 1 * 0 = 0; rw [e']; simp
  · apply Fin.ext; show win0_1.index t 1 * 1024 + 1 * (d : ℕ) = d; rw [e']; simp
  · apply Fin.ext; show win0_1.index t 2 * 1024 + 1 * (n : ℕ) = N; rw [e', hN]; simp

theorem iblk2_at (c : Dev nD) (t : Fin cfg0.N) (d : Fin 1024) (n : Fin 1024) (N : Fin 2048) (hN : (N : ℕ) = 1024 + n) :
    (iblk m c 2 t : Vec Ideal S1x1024x1024 .f32) (ix3 (0 : Fin 1) d n) = argW m c (ix3 (0 : Fin 2) d N) := by
  refine Eq.trans (congrArg (V m c main_arg1 : Vec Ideal S2x1024x2048 .f32) (funext fun a => ?_)) (congrFun (V_main_arg1 m c) (ix3 (0 : Fin 2) d N))
  have e' : ∀ a, win0_2.index t a = ![0, 0, 1] a := congrFun (index_at t).2.2.1
  fin_cases a
  · apply Fin.ext; show win0_2.index t 0 * 1 + 1 * 0 = 0; rw [e']; simp
  · apply Fin.ext; show win0_2.index t 1 * 1024 + 1 * (d : ℕ) = d; rw [e']; simp
  · apply Fin.ext; show win0_2.index t 2 * 1024 + 1 * (n : ℕ) = N; rw [e', hN]; simp

theorem iblk3_at (c : Dev nD) (t : Fin cfg0.N) (n : Fin 1024) (N : Fin 2048) (hN : (N : ℕ) = n) :
    (iblk m c 3 t : Vec Ideal S1x1x1024 .f32) (ix3 (0 : Fin 1) (0 : Fin 1) n) = argB m c (ix2 (0 : Fin 2) N) := by
  refine Eq.trans (congrArg (V m c main_v0 : Vec Ideal S2x1x2048 .f32) (funext fun a => ?_)) (v0_at m c 0 N)
  have e' : ∀ a, win0_3.index t a = ![0, 0, 0] a := congrFun (index_at t).2.2.2.1
  fin_cases a
  · apply Fin.ext; show win0_3.index t 0 * 1 + 1 * 0 = 0; rw [e']; simp
  · apply Fin.ext; show win0_3.index t 1 * 1 + 1 * 0 = 0; rw [e']; simp
  · apply Fin.ext; show win0_3.index t 2 * 1024 + 1 * (n : ℕ) = N; rw [e', hN]; simp

theorem iblk4_at (c : Dev nD) (t : Fin cfg0.N) (n : Fin 1024) (N : Fin 2048) (hN : (N : ℕ) = 1024 + n) :
    (iblk m c 4 t : Vec Ideal S1x1x1024 .f32) (ix3 (0 : Fin 1) (0 : Fin 1) n) = argB m c (ix2 (0 : Fin 2) N) := by
  refine Eq.trans (congrArg (V m c main_v0 : Vec Ideal S2x1x2048 .f32) (funext fun a => ?_)) (v0_at m c 0 N)
  have e' : ∀ a, win0_4.index t a = ![0, 0, 1] a := congrFun (index_at t).2.2.2.2.1
  fin_cases a
  · apply Fin.ext; show win0_4.index t 0 * 1 + 1 * 0 = 0; rw [e']; simp
  · apply Fin.ext; show win0_4.index t 1 * 1 + 1 * 0 = 0; rw [e']; simp
  · apply Fin.ext; show win0_4.index t 2 * 1024 + 1 * (n : ℕ) = N; rw [e', hN]; simp

/-- The grid point that reads the weights: the first. -/
abbrev first (n : ℕ) (h : n < cfg0.N) : Fin cfg0.N := ⟨17 * (n / 17), by omega⟩

/-- After every point the scratches hold the weights. -/
theorem kept (c : Dev nD) : ∀ (n : ℕ) (h : n < cfg0.N),
    (outsAt0 m c n h).2.1 = k0_pay1 (iblk m c 1 (first n h)) ∧ (outsAt0 m c n h).2.2 = k0_pay2 (iblk m c 2 (first n h)) := by
  intro n
  induction n with
  | zero =>
    intro h
    have e : first 0 h = ⟨0, h⟩ := Fin.ext rfl
    rw [e, outsAt0_A m c ⟨0, h⟩ (Nat.zero_mod 17)]
    dsimp only
    exact ⟨kept_first, kept_second⟩
  | succ k ih =>
    intro h
    by_cases h0 : (k + 1) % 17 = 0
    · have e : first (k + 1) h = ⟨k + 1, h⟩ := Fin.ext (by dsimp only; omega)
      rw [e, outsAt0_A m c ⟨k + 1, h⟩ h0]
      dsimp only
      exact ⟨kept_first, kept_second⟩
    · have e : first (k + 1) h = first k (by omega) := Fin.ext (by dsimp only; omega)
      rw [e, outsAt0_B m c ⟨k + 1, h⟩ h0]
      dsimp only
      unfold sout0_B_0 sout0_B_1
      exact ih (Nat.lt_of_succ_lt h)

/-- After every point the result's buffer holds the tile of the point's rows with those weights. -/
theorem made (c : Dev nD) (t : Fin cfg0.N) :
    (outsAt0 m c t.val t.isLt).1 = k0_pay3 (iblk m c 0 t) (k0_pay1 (iblk m c 1 (first t.val t.isLt))) (k0_pay2 (iblk m c 2 (first t.val t.isLt)))
      (iblk m c 3 t) (iblk m c 4 t) := by
  by_cases h0 : t.val % 17 = 0
  · have e : first t.val t.isLt = t := Fin.ext (by dsimp only; omega)
    rw [e, outsAt0_A m c t h0]
    dsimp only
    exact out_first
  · have e : first t.val t.isLt = first (t.val - 1) (by omega) := Fin.ext (by dsimp only; omega)
    rw [e, outsAt0_B m c t h0]
    dsimp only
    refine out_later.trans ?_
    have hk := kept m c (t.val - 1) (by omega)
    exact tile_congr rfl hk.1 hk.2 rfl rfl

/-- The reference's result of the arguments. -/
abbrev want (c : Dev nD) : FVec Ideal S17408x1024 .bf16 := Cert.Reference10Ideal.Out.out (argA m c) (argW m c) (argB m c)

/-- A tile of the result at a row and a column. -/
theorem made_at (c : Dev nD) (t : Fin cfg0.N) (r : Fin 1024) (n : Fin 1024) (R : Fin 17408) (hR : (R : ℕ) = t.val % 17 * 1024 + r) :
    (outsAt0 m c t.val t.isLt).1 (ix2 r n) = want m c (ix2 R n) := by
  rw [made, want, Cert.Reference10Ideal.Out.out_at]
  refine (tile_at _ _ _ _ _ r n).trans ?_
  refine congrArg₂ (fun a b : EReal => a * b) (congrArg₂ (fun a b : EReal => a + b) (Finset.sum_congr rfl fun d _ => ?_) (iblk3_at m c t n _ rfl))
    (congrArg logi (congrArg₂ (fun a b : EReal => a + b) (Finset.sum_congr rfl fun d _ => ?_) (iblk4_at m c t n _ rfl)))
  · exact congrArg₂ (fun a b : EReal => a * b) (iblk0_at m c t r d R hR) ((pay1_at _ d n).trans (iblk1_at m c _ d n _ rfl))
  · exact congrArg₂ (fun a b : EReal => a * b) (iblk0_at m c t r d R hR) ((pay2_at _ d n).trans (iblk2_at m c _ d n _ rfl))

/-- The array the tiles make up is the reference's result. -/
theorem final (c : Dev nD) : (dats m 0 c).arrAt 5 cfg0.N = want m c := by
  refine (dats m 0 c).arrAt_eq_of_cover 5 (want m c) (fun t _ => ?_) (fun i => ?_)
  · rw [Value.flushed5]
    funext y
    obtain ⟨r, n, hy⟩ : ∃ (r : Fin 1024) (n : Fin 1024), y = ix2 r n := ⟨y 0, y 1, by funext a; fin_cases a <;> rfl⟩
    subst hy
    have hr := r.isLt
    have e0 : t.val % 17 * 1024 + (r : ℕ) < 17408 := by omega
    refine Eq.trans (show _ = (outsAt0 m c t.val t.isLt).1 (ix2 r n) from rfl) ((made_at m c t r n ⟨_, e0⟩ rfl).trans ?_)
    refine congrArg (want m c) (?_ : ix2 (⟨_, e0⟩ : Fin 17408) n = ((cfg0.win 5).blk t).view.emb (ix2 r n))
    have e' : ∀ a, win0_5.index t a = ![t.val % 17, 0] a := congrFun (index_at t).2.2.2.2.2
    funext a
    fin_cases a
    · apply Fin.ext; show t.val % 17 * 1024 + (r : ℕ) = win0_5.index t 0 * 1024 + 1 * (r : ℕ); rw [e']; simp
    · apply Fin.ext; show (n : ℕ) = win0_5.index t 1 * 1024 + 1 * (n : ℕ); rw [e']; simp
  · have h0 : ((i 0 : Fin 17408) : ℕ) < 17408 := Fin.isLt _
    have h1 : ((i 1 : Fin 1024) : ℕ) < 1024 := Fin.isLt _
    exact (Value.covered_iff5 i).2 ⟨Nat.zero_le _, h0, Nat.zero_le _, h1⟩

end Cert.Kernel10Ideal.Unit

namespace Cert.Proof.UnitClaims

open Cert.Kernel10Ideal Idealize.ShloMosaic Idealize.ShloMosaic.TcCoe Idealize.SL.Sem
open Cert.Kernel10Ideal.Unit

/-- The kernel's body and its ideal form's are the same text. -/
theorem body_same : Cert.Kernel10.defs₀ (F := Bits) = defs₀ (F := Bits) := by
  unfold Cert.Kernel10.defs₀ defs₀
  refine congrArg Defs.onTc (funext fun l => ?_)
  match l with
  | ⟨0, _⟩ => exact funext fun args => rfl

/-- So are their body tables with the pipeline. -/
theorem defs_same : Cert.Kernel10.defs (F := Bits) = defs (F := Bits) := congrArg (Pipeline.defs pcfgs) body_same

/-- The kernel returns with its arguments unchanged and its counters at zero. -/
theorem frame_kernel : Cert.quiescent_Kernel10 := fun m ρ _ => by
  rw [defs_same]
  exact Cert.Kernel10Ideal.Gen.frame (F := Bits) m ρ

/-- So does its ideal form. -/
theorem frame_ideal : Cert.quiescent_Kernel10Ideal := fun m ρ _ => Cert.Kernel10Ideal.Gen.frame (F := Ideal) m ρ

/-- So does the reference. -/
theorem frame_ref : Cert.quiescent_Reference10Ideal := fun m ρ _ =>
  (θ_run Cert.Reference10Ideal.defs _ _).mono
    (fun r h => ⟨fun c => (h c).2, Idealize.ShloMosaic.sem_eq_zero_of_no_sems (by decide) r.2⟩) (Cert.Reference10Ideal.Value.run (F := Ideal) m ρ)

/-- From arguments that agree, the kernel and the reference end with the same array. -/
theorem algebraic : Cert.algebraic_Kernel10Ideal_Reference10Ideal := by
  intro m ρ m' ρ' _ ha
  refine ⟨fun c => (Cert.Kernel10Ideal.Gen.dats m 0 c).arrAt 5 cfg0.N, Cert.Kernel10Ideal.Value.run_blocks m ρ, ?_⟩
  refine (θ_run Cert.Reference10Ideal.defs _ _).mono (fun _ h c => ⟨(h c).1.trans ?_, (h c).2⟩) (Cert.Reference10Ideal.Value.run (F := Ideal) m' ρ')
  obtain ⟨h0, h1, h2⟩ := ha c
  obtain rfl : c = 0 := Subsingleton.elim _ _
  refine Eq.trans ?_ (final m 0).symm
  rw [h0, h1, h2]
  rfl

end Cert.Proof.UnitClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Pre_tables
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Pre_tables3
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel8
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Attention
public import proofs.«01_k».proof.Proof.Experts
public import proofs.«01_k».proof.Proof.Down
public import proofs.«01_k».proof.Proof.Gates
public import proofs.«01_k».proof.Proof.Dense
public import proofs.«01_k».proof.Proof.Inputs
public import proofs.«01_k».proof.Proof.Residual
public import proofs.«01_k».proof.Proof.Merge
public import proofs.«01_k».proof.Proof.Output
public import proofs.«01_k».proof.Proof.Unit
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel returns with its arguments unchanged and its counters at zero. -/
theorem frame_kernel : Cert.quiescent_Kernel := fun m ρ _ => Cert.Kernel.Gen.frame m ρ
/-- So does its ideal form, … -/
theorem frame_ideal : Cert.quiescent_KernelIdeal := fun m ρ _ => Cert.KernelIdeal.Gen.frame m ρ
/-- … whatever the precondition. -/
theorem frame_ideal_pre : Cert.quiescent_KernelIdeal_pre_finite := fun m ρ _ => Cert.KernelIdeal.Gen.frame m ρ
/-- The reference returns with its arguments unchanged and its counters at zero, … -/
theorem frame_ref : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)
/-- … whatever the precondition. -/
theorem frame_ref_pre : Cert.quiescent_ReferenceIdeal_pre_finite := fun m ρ _ => frame_ref m ρ trivial

/-- The ideal form differs from the kernel by the named constant alone: the running maximum's start, minus infinity. -/
theorem preserves : Cert.preserves_Kernel_KernelIdeal :=
  IdealRules.named_const.statement Cert.KernelIdeal.κ "neg_big" .f32 0xF149F2CA#32 ⊥ rfl

/-- The experts' reference returns with its arguments unchanged and its counters at zero, … -/
theorem frame_experts_ref : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)
/-- … whatever the precondition. -/
theorem frame_experts_ref_pre : Cert.quiescent_Reference2Ideal_pre_tables := fun m ρ _ => frame_experts_ref m ρ trivial

/-- The second reference of the experts returns with its arguments unchanged and its counters at zero, … -/
theorem frame_down_ref : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)
/-- … whatever the precondition. -/
theorem frame_down_ref_pre : Cert.quiescent_Reference3Ideal_pre_tables3 := fun m ρ _ => frame_down_ref m ρ trivial

/-- Everything claimed. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Pre_finite.Gen.facts, Cert.Pre_tables.Gen.facts, Cert.Pre_tables3.Gen.facts,
  frame_kernel, frame_ideal, frame_ideal_pre, frame_ref, frame_ref_pre,
  Cert.Proof.ExpertsClaims.frame_kernel, Cert.Proof.ExpertsClaims.frame_ideal, frame_experts_ref, frame_experts_ref_pre,
  Cert.Proof.DownClaims.frame_kernel, Cert.Proof.DownClaims.frame_ideal, frame_down_ref, frame_down_ref_pre,
  Cert.Proof.GatesClaims.frame_kernel, Cert.Proof.GatesClaims.frame_ideal, Cert.Proof.GatesClaims.frame_ref,
  Cert.Proof.DenseClaims.frame_kernel, Cert.Proof.DenseClaims.frame_ideal, Cert.Proof.DenseClaims.frame_ref,
  Cert.Proof.InputsClaims.frame_kernel, Cert.Proof.InputsClaims.frame_ideal, Cert.Proof.InputsClaims.frame_ref,
  Cert.Proof.ResidualClaims.frame_kernel, Cert.Proof.ResidualClaims.frame_ideal, Cert.Proof.ResidualClaims.frame_ref,
  Cert.Proof.MergeClaims.frame_kernel, Cert.Proof.MergeClaims.frame_ideal, Cert.Proof.MergeClaims.frame_ref,
  Cert.Proof.OutputClaims.frame_kernel, Cert.Proof.OutputClaims.frame_ideal, Cert.Proof.OutputClaims.frame_ref,
  Cert.Proof.UnitClaims.frame_kernel, Cert.Proof.UnitClaims.frame_ideal, Cert.Proof.UnitClaims.frame_ref,
  preserves, Cert.Proof.AttentionClaims.algebraic, trivial, Cert.Proof.ExpertsClaims.algebraic,
  trivial, Cert.Proof.DownClaims.algebraic, trivial, Cert.Proof.GatesClaims.algebraic,
  trivial, Cert.Proof.DenseClaims.algebraic, trivial, Cert.Proof.InputsClaims.algebraic,
  trivial, Cert.Proof.ResidualClaims.algebraic, trivial, Cert.Proof.MergeClaims.algebraic,
  trivial, Cert.Proof.OutputClaims.algebraic, trivial, Cert.Proof.UnitClaims.algebraic⟩

end Cert.Proof

end
